-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xD01502F9#32 ⊥

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S16x1x32x128 : Shape := ⟨4, ![16, 1, 32, 128]⟩
abbrev S16x1x8x128 : Shape := ⟨4, ![16, 1, 8, 128]⟩
abbrev S16x1 : Shape := ⟨2, ![16, 1]⟩
abbrev S8x4096x16x128 : Shape := ⟨4, ![8, 4096, 16, 128]⟩
abbrev S16x128 : Shape := ⟨2, ![16, 128]⟩
abbrev S16 : Shape := ⟨1, ![16]⟩
abbrev S_ : Shape := ⟨0, ![]⟩

class Facts : Prop where
  bcast_S_S16x128 : S_.BroadcastsInDim S16x128 (![] : Fin 0 → Fin S16x128.rank)
  reducesTo_S16x128_S_d0_1 : S16x128.ReducesTo [0, 1] S_
  h_S_ : 0 < S_.numel
  bcast_S_S16 : S_.BroadcastsInDim S16 (![] : Fin 0 → Fin S16.rank)
  reducesTo_S16_S_d0 : S16.ReducesTo [0] S_
  bcast_S_S16x1x32x128 : S_.BroadcastsInDim S16x1x32x128 (![] : Fin 0 → Fin S16x1x32x128.rank)
  reducesTo_S16x1x32x128_S_d0_1_2_3 : S16x1x32x128.ReducesTo [0, 1, 2, 3] S_
  bcast_S_S16x1x8x128 : S_.BroadcastsInDim S16x1x8x128 (![] : Fin 0 → Fin S16x1x8x128.rank)
  reducesTo_S16x1x8x128_S_d0_1_2_3 : S16x1x8x128.ReducesTo [0, 1, 2, 3] S_
  bcast_S_S8x4096x16x128 : S_.BroadcastsInDim S8x4096x16x128 (![] : Fin 0 → Fin S8x4096x16x128.rank)
  reducesTo_S8x4096x16x128_S_d0_1_2_3 : S8x4096x16x128.ReducesTo [0, 1, 2, 3] S_

variable [Facts]

def fn_part1 {F : FTy → Type} [FloatOps F] (main_arg1 : FVec F S16x1x8x128 .f32) (main_arg4 : FVec F S8x4096x16x128 .f32) (main_v12 : IVec S_ 1) (main_v15 : IVec S16x1x32x128 1) (main_c_5 : IVec S_ 1) : IVec S_ 1 :=
  let main_v16 : IVec S_ 1 := (fun x v => Host.reduce IntOp.andi x v reducesTo_S16x1x32x128_S_d0_1_2_3 h_S_) main_v15 main_c_5
  let main_v17 : IVec S_ 1 := andi main_v12 main_v16
  let main_v18 : FVec F S16x1x8x128 .f32 := Host.absf main_arg1
  let main_cst_6 : FVec F S_ .f32 := constant S_ .f32 0x7F800000#32
  let main_v19 : FVec F S16x1x8x128 .f32 := broadcastInDim S16x1x8x128 ![] bcast_S_S16x1x8x128 main_cst_6
  let main_v20 : IVec S16x1x8x128 1 := cmpf .olt main_v18 main_v19
  let main_c_7 : IVec S_ 1 := constantI S_ 1 1#1
  let main_v21 : IVec S_ 1 := (fun x v => Host.reduce IntOp.andi x v reducesTo_S16x1x8x128_S_d0_1_2_3 h_S_) main_v20 main_c_7
  let main_v22 : IVec S_ 1 := andi main_v17 main_v21
  let main_v23 : FVec F S8x4096x16x128 .f32 := Host.absf main_arg4
  let main_cst_8 : FVec F S_ .f32 := constant S_ .f32 0x7F800000#32
  let main_v24 : FVec F S8x4096x16x128 .f32 := broadcastInDim S8x4096x16x128 ![] bcast_S_S8x4096x16x128 main_cst_8
  let main_v25 : IVec S8x4096x16x128 1 := cmpf .olt main_v23 main_v24
  let main_c_9 : IVec S_ 1 := constantI S_ 1 1#1
  let main_v26 : IVec S_ 1 := (fun x v => Host.reduce IntOp.andi x v reducesTo_S8x4096x16x128_S_d0_1_2_3 h_S_) main_v25 main_c_9
  let main_v27 : IVec S_ 1 := andi main_v22 main_v26
  main_v27

def fn {F : FTy → Type} [FloatOps F] (main_arg0 : FVec F S16x1x32x128 .f32) (main_arg1 : FVec F S16x1x8x128 .f32) (main_arg2 : FVec F S16x1x8x128 .f32) (main_arg3 : IVec S16x1 32) (main_arg4 : FVec F S8x4096x16x128 .f32) (main_arg5 : FVec F S8x4096x16x128 .f32) (main_arg6 : IVec S16x128 32) (main_arg7 : IVec S16 32) : IVec S_ 1 :=
  let main_c : IVec S_ 32 := constantI S_ 32 0#32
  let main_v0 : IVec S16x128 32 := broadcastInDim S16x128 ![] bcast_S_S16x128 main_c
  let main_v1 : IVec S16x128 1 := cmpi .sge main_arg6 main_v0
  let main_c_0 : IVec S_ 32 := constantI S_ 32 4096#32
  let main_v2 : IVec S16x128 32 := broadcastInDim S16x128 ![] bcast_S_S16x128 main_c_0
  let main_v3 : IVec S16x128 1 := cmpi .slt main_arg6 main_v2
  let main_v4 : IVec S16x128 1 := andi main_v1 main_v3
  let main_c_1 : IVec S_ 1 := constantI S_ 1 1#1
  let main_v5 : IVec S_ 1 := (fun x v => Host.reduce IntOp.andi x v reducesTo_S16x128_S_d0_1 h_S_) main_v4 main_c_1
  let main_c_2 : IVec S_ 32 := constantI S_ 32 1#32
  let main_v6 : IVec S16 32 := broadcastInDim S16 ![] bcast_S_S16 main_c_2
  let main_v7 : IVec S16 1 := cmpi .sge main_arg7 main_v6
  let main_c_3 : IVec S_ 32 := constantI S_ 32 2048#32
  let main_v8 : IVec S16 32 := broadcastInDim S16 ![] bcast_S_S16 main_c_3
  let main_v9 : IVec S16 1 := cmpi .slt main_arg7 main_v8
  let main_v10 : IVec S16 1 := andi main_v7 main_v9
  let main_c_4 : IVec S_ 1 := constantI S_ 1 1#1
  let main_v11 : IVec S_ 1 := (fun x v => Host.reduce IntOp.andi x v reducesTo_S16_S_d0 h_S_) main_v10 main_c_4
  let main_v12 : IVec S_ 1 := andi main_v5 main_v11
  let main_v13 : FVec F S16x1x32x128 .f32 := Host.absf main_arg0
  let main_cst : FVec F S_ .f32 := constant S_ .f32 0x7F800000#32
  let main_v14 : FVec F S16x1x32x128 .f32 := broadcastInDim S16x1x32x128 ![] bcast_S_S16x1x32x128 main_cst
  let main_v15 : IVec S16x1x32x128 1 := cmpf .olt main_v13 main_v14
  let main_c_5 : IVec S_ 1 := constantI S_ 1 1#1
  fn_part1 (F := F) main_arg1 main_arg4 main_v12 main_v15 main_c_5
-- ==== Pre_in_range.lean ====
abbrev S16x1x32x128 : Shape := ⟨4, ![16, 1, 32, 128]⟩
abbrev S16x1x8x128 : Shape := ⟨4, ![16, 1, 8, 128]⟩
abbrev S16x1 : Shape := ⟨2, ![16, 1]⟩
abbrev S8x4096x16x128 : Shape := ⟨4, ![8, 4096, 16, 128]⟩
abbrev S16x128 : Shape := ⟨2, ![16, 128]⟩
abbrev S16 : Shape := ⟨1, ![16]⟩
abbrev S_ : Shape := ⟨0, ![]⟩

class Facts : Prop where
  bcast_S_S16x128 : S_.BroadcastsInDim S16x128 (![] : Fin 0 → Fin S16x128.rank)
  reducesTo_S16x128_S_d0_1 : S16x128.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x1x32x128 .f32) (main_arg1 : FVec F S16x1x8x128 .f32) (main_arg2 : FVec F S16x1x8x128 .f32) (main_arg3 : IVec S16x1 32) (main_arg4 : FVec F S8x4096x16x128 .f32) (main_arg5 : FVec F S8x4096x16x128 .f32) (main_arg6 : IVec S16x128 32) (main_arg7 : IVec S16 32) : IVec S_ 1 :=
  let main_c : IVec S_ 32 := constantI S_ 32 0#32
  let main_v0 : IVec S16x128 32 := broadcastInDim S16x128 ![] bcast_S_S16x128 main_c
  let main_v1 : IVec S16x128 1 := cmpi .sge main_arg6 main_v0
  let main_c_0 : IVec S_ 32 := constantI S_ 32 4096#32
  let main_v2 : IVec S16x128 32 := broadcastInDim S16x128 ![] bcast_S_S16x128 main_c_0
  let main_v3 : IVec S16x128 1 := cmpi .slt main_arg6 main_v2
  let main_v4 : IVec S16x128 1 := andi main_v1 main_v3
  let main_c_1 : IVec S_ 1 := constantI S_ 1 1#1
  let main_v5 : IVec S_ 1 := (fun x v => Host.reduce IntOp.andi x v reducesTo_S16x128_S_d0_1 h_S_) main_v4 main_c_1
  let main_c_2 : IVec S_ 32 := constantI S_ 32 0#32
  let main_v6 : IVec S16 32 := broadcastInDim S16 ![] bcast_S_S16 main_c_2
  let main_v7 : IVec S16 1 := cmpi .sge main_arg7 main_v6
  let main_c_3 : IVec S_ 32 := constantI S_ 32 2048#32
  let main_v8 : IVec S16 32 := broadcastInDim S16 ![] bcast_S_S16 main_c_3
  let main_v9 : IVec S16 1 := cmpi .slt main_arg7 main_v8
  let main_v10 : IVec S16 1 := andi main_v7 main_v9
  let main_c_4 : IVec S_ 1 := constantI S_ 1 1#1
  let main_v11 : IVec S_ 1 := (fun x v => Host.reduce IntOp.andi x v reducesTo_S16_S_d0 h_S_) main_v10 main_c_4
  let main_v12 : IVec S_ 1 := andi main_v5 main_v11
  main_v12
-- ==== Kernel.lean ====
abbrev S16x1x32x128 : Shape := ⟨4, ![16, 1, 32, 128]⟩
abbrev S16x1x8x128 : Shape := ⟨4, ![16, 1, 8, 128]⟩
abbrev S16x1 : Shape := ⟨2, ![16, 1]⟩
abbrev S8x4096x16x128 : Shape := ⟨4, ![8, 4096, 16, 128]⟩
abbrev S16x128 : Shape := ⟨2, ![16, 128]⟩
abbrev S16 : Shape := ⟨1, ![16]⟩
abbrev S_ : Shape := ⟨0, ![]⟩
abbrev S16x2 : Shape := ⟨2, ![16, 2]⟩
abbrev S16x8x128 : Shape := ⟨3, ![16, 8, 128]⟩
abbrev S8x16x128 : Shape := ⟨3, ![8, 16, 128]⟩
abbrev S16x4x32 : Shape := ⟨3, ![16, 4, 32]⟩
abbrev S16x4x32x1 : Shape := ⟨4, ![16, 4, 32, 1]⟩
abbrev S1x1x1x16 : Shape := ⟨4, ![1, 1, 1, 16]⟩
abbrev S16x4x32x16 : Shape := ⟨4, ![16, 4, 32, 16]⟩
abbrev S16x4x16 : Shape := ⟨3, ![16, 4, 16]⟩
abbrev S1 : Shape := ⟨1, ![1]⟩
abbrev S17 : Shape := ⟨1, ![17]⟩
abbrev S64 : Shape := ⟨1, ![64]⟩
abbrev S64x1 : Shape := ⟨2, ![64, 1]⟩
abbrev S1x16 : Shape := ⟨2, ![1, 16]⟩
abbrev S64x16 : Shape := ⟨2, ![64, 16]⟩
abbrev S16x32x128 : Shape := ⟨3, ![16, 32, 128]⟩
abbrev S1x32x128 : Shape := ⟨3, ![1, 32, 128]⟩
abbrev S3x8x32x16x128 : Shape := ⟨5, ![3, 8, 32, 16, 128]⟩
abbrev S3x2 : Shape := ⟨2, ![3, 2]⟩
abbrev S1x1 : Shape := ⟨2, ![1, 1]⟩
abbrev S1x8x1x16x128 : Shape := ⟨5, ![1, 8, 1, 16, 128]⟩
abbrev S8x1x16x128 : Shape := ⟨4, ![8, 1, 16, 128]⟩
abbrev S32x128 : Shape := ⟨2, ![32, 128]⟩
abbrev S8x4x128 : Shape := ⟨3, ![8, 4, 128]⟩
abbrev S8x4x1 : Shape := ⟨3, ![8, 4, 1]⟩
abbrev S1x8x32x16x128 : Shape := ⟨5, ![1, 8, 32, 16, 128]⟩
abbrev S8x32x16x128 : Shape := ⟨4, ![8, 32, 16, 128]⟩
abbrev S1x1x1 : Shape := ⟨3, ![1, 1, 1]⟩
abbrev S8x1x128 : Shape := ⟨3, ![8, 1, 128]⟩
abbrev S8x128 : Shape := ⟨2, ![8, 128]⟩
abbrev S1x8x1x1x128 : Shape := ⟨5, ![1, 8, 1, 1, 128]⟩
abbrev S8x512x128 : Shape := ⟨3, ![8, 512, 128]⟩
abbrev S8x4x512 : Shape := ⟨3, ![8, 4, 512]⟩
abbrev S1x1x512 : Shape := ⟨3, ![1, 1, 512]⟩
abbrev S8x4 : Shape := ⟨2, ![8, 4]⟩

abbrev nBuf : Space → Nat
  | .hbm => 144
  | .vmem => 8
  | .smem => 9
  | _ => 0

abbrev hbmTy0_0 (i : Nat) : BufTy := match i % 128 with
  | 0 => ⟨S16x1x32x128, .f32⟩
  | 1 => ⟨S16x1x8x128, .f32⟩
  | 2 => ⟨S16x1x8x128, .f32⟩
  | 3 => ⟨S16x1, .i32⟩
  | 4 => ⟨S8x4096x16x128, .f32⟩
  | 5 => ⟨S8x4096x16x128, .f32⟩
  | 6 => ⟨S_, .i32⟩
  | 7 => ⟨S16, .i32⟩
  | 8 => ⟨S16, .i32⟩
  | 9 => ⟨S_, .i32⟩
  | 10 => ⟨S16, .i32⟩
  | 11 => ⟨S16, .i32⟩
  | 12 => ⟨S16, .i32⟩
  | 13 => ⟨S_, .i32⟩
  | 14 => ⟨S_, .i32⟩
  | 15 => ⟨S16, .i32⟩
  | 16 => ⟨S16, .i32⟩
  | 17 => ⟨S16, .i32⟩
  | 18 => ⟨S_, .i32⟩
  | 19 => ⟨S16, .i32⟩
  | 20 => ⟨S16, .i1⟩
  | 21 => ⟨S16, .i32⟩
  | 22 => ⟨S16, .i32⟩
  | 23 => ⟨S_, .i32⟩
  | 24 => ⟨S16, .i32⟩
  | 25 => ⟨S16, .i1⟩
  | 26 => ⟨S16, .i1⟩
  | 27 => ⟨S_, .i32⟩
  | 28 => ⟨S16, .i32⟩
  | 29 => ⟨S16, .i32⟩
  | 30 => ⟨S16, .i32⟩
  | 31 => ⟨S_, .i32⟩
  | 32 => ⟨S16, .i32⟩
  | 33 => ⟨S16, .i1⟩
  | 34 => ⟨S_, .i32⟩
  | 35 => ⟨S16, .i32⟩
  | 36 => ⟨S16, .i32⟩
  | 37 => ⟨S16, .i32⟩
  | 38 => ⟨S_, .i32⟩
  | 39 => ⟨S16, .i32⟩
  | 40 => ⟨S16, .i1⟩
  | 41 => ⟨S_, .i32⟩
  | 42 => ⟨S16, .i32⟩
  | 43 => ⟨S16, .i32⟩
  | 44 => ⟨S16, .i32⟩
  | 45 => ⟨S16x1, .i32⟩
  | 46 => ⟨S16x1, .i32⟩
  | 47 => ⟨S16x2, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S16, .i32⟩
  | 55 => ⟨S16, .i32⟩
  | 56 => ⟨S_, .i32⟩
  | 57 => ⟨S16, .i32⟩
  | 58 => ⟨S16, .i1⟩
  | 59 => ⟨S_, .i32⟩
  | 60 => ⟨S16, .i32⟩
  | 61 => ⟨S16, .i1⟩
  | 62 => ⟨S_, .i32⟩
  | 63 => ⟨S_, .i1⟩
  | 64 => ⟨S16, .i1⟩
  | 65 => ⟨S16, .i1⟩
  | 66 => ⟨S16, .i1⟩
  | 67 => ⟨S16, .i32⟩
  | 68 => ⟨S16, .i32⟩
  | 69 => ⟨S16x8x128, .f32⟩
  | 70 => ⟨S8x16x128, .f32⟩
  | 71 => ⟨S16x8x128, .f32⟩
  | 72 => ⟨S8x16x128, .f32⟩
  | 73 => ⟨S16x4x32, .i32⟩
  | 74 => ⟨S16x4x32x1, .i32⟩
  | 75 => ⟨S1x1x1x16, .i32⟩
  | 76 => ⟨S16x4x32x16, .i32⟩
  | 77 => ⟨S16x4x32x16, .i32⟩
  | 78 => ⟨S16x4x32x16, .i1⟩
  | 79 => ⟨S_, .i1⟩
  | 80 => ⟨S16x4x16, .i1⟩
  | 81 => ⟨S_, .i32⟩
  | 82 => ⟨S16, .i32⟩
  | 83 => ⟨S16, .i1⟩
  | 84 => ⟨S_, .i32⟩
  | 85 => ⟨S16, .i32⟩
  | 86 => ⟨S16, .i32⟩
  | 87 => ⟨S_, .i32⟩
  | 88 => ⟨S16, .i32⟩
  | 89 => ⟨S16, .i32⟩
  | 90 => ⟨S_, .i32⟩
  | 91 => ⟨S_, .i32⟩
  | 92 => ⟨S16, .i32⟩
  | 93 => ⟨S16, .i32⟩
  | 94 => ⟨S16, .i32⟩
  | 95 => ⟨S_, .i32⟩
  | 96 => ⟨S16, .i32⟩
  | 97 => ⟨S16, .i1⟩
  | 98 => ⟨S16, .i32⟩
  | 99 => ⟨S16, .i32⟩
  | 100 => ⟨S_, .i32⟩
  | 101 => ⟨S16, .i32⟩
  | 102 => ⟨S16, .i1⟩
  | 103 => ⟨S16, .i1⟩
  | 104 => ⟨S_, .i32⟩
  | 105 => ⟨S16, .i32⟩
  | 106 => ⟨S16, .i32⟩
  | 107 => ⟨S16, .i32⟩
  | 108 => ⟨S_, .i32⟩
  | 109 => ⟨S_, .i32⟩
  | 110 => ⟨S16, .i32⟩
  | 111 => ⟨S_, .i32⟩
  | 112 => ⟨S1, .i32⟩
  | 113 => ⟨S_, .i32⟩
  | 114 => ⟨S_, .i32⟩
  | 115 => ⟨S16, .i32⟩
  | 116 => ⟨S64, .i32⟩
  | 117 => ⟨S64x1, .i32⟩
  | 118 => ⟨S16, .i32⟩
  | 119 => ⟨S1x16, .i32⟩
  | 120 => ⟨S64x16, .i32⟩
  | 121 => ⟨S64x16, .i32⟩
  | 122 => ⟨S64x16, .i1⟩
  | 123 => ⟨S64x16, .i32⟩
  | 124 => ⟨S_, .i32⟩
  | 125 => ⟨S64, .i32⟩
  | 126 => ⟨S_, .i32⟩
  | 127 => ⟨S_, .i32⟩
  | _ => ⟨S16x1x32x128, .f32⟩

abbrev hbmTy0_1 (i : Nat) : BufTy := match i % 128 with
  | 0 => ⟨S_, .i32⟩
  | 1 => ⟨S64, .i32⟩
  | 2 => ⟨S64, .i32⟩
  | 3 => ⟨S_, .i32⟩
  | 4 => ⟨S64, .i32⟩
  | 5 => ⟨S_, .i32⟩
  | 6 => ⟨S64, .i32⟩
  | 7 => ⟨S64, .i1⟩
  | 8 => ⟨S_, .i32⟩
  | 9 => ⟨S64, .i32⟩
  | 10 => ⟨S64, .i32⟩
  | 11 => ⟨S64, .i32⟩
  | 12 => ⟨S64x1, .i32⟩
  | 13 => ⟨S64, .i32⟩
  | 14 => ⟨S16x32x128, .f32⟩
  | 15 => ⟨S16x32x128, .f32⟩
  | _ => ⟨S16x1x32x128, .f32⟩

abbrev hbmTy (i : Nat) : BufTy := match i / 128 with
  | 0 => hbmTy0_0 i
  | 1 => hbmTy0_1 i
  | _ => ⟨S16x1x32x128, .f32⟩

abbrev bufTy : (tb : Table) → Fin (tcTables nBuf tb) → BufTy
  | .hbm, ⟨i, _⟩ => hbmTy i
  | .local _ .vmem, ⟨0, _⟩ => ⟨S1x32x128, .f32⟩
  | .local _ .vmem, ⟨1, _⟩ => ⟨S1x32x128, .f32⟩
  | .local _ .vmem, ⟨2, _⟩ => ⟨S8x16x128, .f32⟩
  | .local _ .vmem, ⟨3, _⟩ => ⟨S8x16x128, .f32⟩
  | .local _ .vmem, ⟨4, _⟩ => ⟨S1x32x128, .f32⟩
  | .local _ .vmem, ⟨5, _⟩ => ⟨S1x32x128, .f32⟩
  | .local _ .vmem, ⟨6, _⟩ => ⟨S3x8x32x16x128, .f32⟩
  | .local _ .vmem, ⟨7, _⟩ => ⟨S3x8x32x16x128, .f32⟩
  | .local _ .smem, ⟨0, _⟩ => ⟨S16x128, .i32⟩
  | .local _ .smem, ⟨1, _⟩ => ⟨S16, .i32⟩
  | .local _ .smem, ⟨2, _⟩ => ⟨S16, .i32⟩
  | .local _ .smem, ⟨3, _⟩ => ⟨S16, .i32⟩
  | .local _ .smem, ⟨4, _⟩ => ⟨S16x4x16, .i32⟩
  | .local _ .smem, ⟨5, _⟩ => ⟨S16, .i32⟩
  | .local _ .smem, ⟨6, _⟩ => ⟨S17, .i32⟩
  | .local _ .smem, ⟨7, _⟩ => ⟨S64, .i32⟩
  | .local _ .smem, ⟨8, _⟩ => ⟨S64, .i32⟩
  | _, _ => ⟨S16x1x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_c_0 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_v5 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_c_3 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_c_4 : Ref sig .tc := ⟨.hbm, 38, rfl⟩
abbrev main_call0_v11 : Ref sig .tc := ⟨.hbm, 39, rfl⟩
abbrev main_call0_v12 : Ref sig .tc := ⟨.hbm, 40, rfl⟩
abbrev main_call0_c_5 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_call0_v17 : Ref sig .tc := ⟨.hbm, 46, rfl⟩
abbrev main_call0_v18 : Ref sig .tc := ⟨.hbm, 47, rfl⟩
abbrev main_call0_c_6 : Ref sig .tc := ⟨.hbm, 48, rfl⟩
abbrev main_call0_call1_v0 : Ref sig .tc := ⟨.hbm, 49, rfl⟩
abbrev main_call0_call1_c : Ref sig .tc := ⟨.hbm, 50, rfl⟩
abbrev main_call0_call1_v1 : Ref sig .tc := ⟨.hbm, 51, rfl⟩
abbrev main_call0_call1_c_0 : Ref sig .tc := ⟨.hbm, 52, rfl⟩
abbrev main_call0_call1_v2 : Ref sig .tc := ⟨.hbm, 53, rfl⟩
abbrev main_call0_call1_v3 : Ref sig .tc := ⟨.hbm, 54, rfl⟩
abbrev main_call0_call1_v4 : Ref sig .tc := ⟨.hbm, 55, rfl⟩
abbrev main_call0_call1_c_1 : Ref sig .tc := ⟨.hbm, 56, rfl⟩
abbrev main_call0_call1_v5 : Ref sig .tc := ⟨.hbm, 57, rfl⟩
abbrev main_call0_call1_v6 : Ref sig .tc := ⟨.hbm, 58, rfl⟩
abbrev main_call0_call1_c_2 : Ref sig .tc := ⟨.hbm, 59, rfl⟩
abbrev main_call0_call1_v7 : Ref sig .tc := ⟨.hbm, 60, rfl⟩
abbrev main_call0_call1_v8 : Ref sig .tc := ⟨.hbm, 61, rfl⟩
abbrev main_call0_call1_c_3 : Ref sig .tc := ⟨.hbm, 62, rfl⟩
abbrev main_call0_call1_v9 : Ref sig .tc := ⟨.hbm, 63, rfl⟩
abbrev main_call0_call1_v10 : Ref sig .tc := ⟨.hbm, 64, rfl⟩
abbrev main_call0_call1_v11 : Ref sig .tc := ⟨.hbm, 65, rfl⟩
abbrev main_call0_call1_v12 : Ref sig .tc := ⟨.hbm, 66, rfl⟩
abbrev main_call0_call1_v13 : Ref sig .tc := ⟨.hbm, 67, rfl⟩
abbrev main_call0_call1_v14 : Ref sig .tc := ⟨.hbm, 68, rfl⟩
abbrev main_call0_v21 : Ref sig .tc := ⟨.hbm, 69, rfl⟩
abbrev main_call0_v22 : Ref sig .tc := ⟨.hbm, 70, rfl⟩
abbrev main_call0_v23 : Ref sig .tc := ⟨.hbm, 71, rfl⟩
abbrev main_call0_v24 : Ref sig .tc := ⟨.hbm, 72, rfl⟩
abbrev main_call0_v25 : Ref sig .tc := ⟨.hbm, 73, rfl⟩
abbrev main_call0_v26 : Ref sig .tc := ⟨.hbm, 74, rfl⟩
abbrev main_call0_v27 : Ref sig .tc := ⟨.hbm, 75, rfl⟩
abbrev main_call0_v28 : Ref sig .tc := ⟨.hbm, 76, rfl⟩
abbrev main_call0_v29 : Ref sig .tc := ⟨.hbm, 77, rfl⟩
abbrev main_call0_v30 : Ref sig .tc := ⟨.hbm, 78, rfl⟩
abbrev main_call0_c_7 : Ref sig .tc := ⟨.hbm, 79, rfl⟩
abbrev main_call0_v31 : Ref sig .tc := ⟨.hbm, 80, rfl⟩
abbrev main_call0_c_8 : Ref sig .tc := ⟨.hbm, 81, rfl⟩
abbrev main_call0_v33 : Ref sig .tc := ⟨.hbm, 82, rfl⟩
abbrev main_call0_v34 : Ref sig .tc := ⟨.hbm, 83, rfl⟩
abbrev main_call0_c_9 : Ref sig .tc := ⟨.hbm, 84, rfl⟩
abbrev main_call0_v35 : Ref sig .tc := ⟨.hbm, 85, rfl⟩
abbrev main_call0_v36 : Ref sig .tc := ⟨.hbm, 86, rfl⟩
abbrev main_call0_c_10 : Ref sig .tc := ⟨.hbm, 87, rfl⟩
abbrev main_call0_v37 : Ref sig .tc := ⟨.hbm, 88, rfl⟩
abbrev main_call0_v38 : Ref sig .tc := ⟨.hbm, 89, rfl⟩
abbrev main_call0_c_11 : Ref sig .tc := ⟨.hbm, 90, rfl⟩
abbrev main_call0_call2_v0 : Ref sig .tc := ⟨.hbm, 91, rfl⟩
abbrev main_call0_call2_v1 : Ref sig .tc := ⟨.hbm, 92, rfl⟩
abbrev main_call0_call2_v2 : Ref sig .tc := ⟨.hbm, 93, rfl⟩
abbrev main_call0_call2_v3 : Ref sig .tc := ⟨.hbm, 94, rfl⟩
abbrev main_call0_call2_v4 : Ref sig .tc := ⟨.hbm, 95, rfl⟩
abbrev main_call0_call2_v5 : Ref sig .tc := ⟨.hbm, 96, rfl⟩
abbrev main_call0_call2_v6 : Ref sig .tc := ⟨.hbm, 97, rfl⟩
abbrev main_call0_call2_v7 : Ref sig .tc := ⟨.hbm, 98, rfl⟩
abbrev main_call0_call2_v8 : Ref sig .tc := ⟨.hbm, 99, rfl⟩
abbrev main_call0_call2_c : Ref sig .tc := ⟨.hbm, 100, rfl⟩
abbrev main_call0_call2_v9 : Ref sig .tc := ⟨.hbm, 101, rfl⟩
abbrev main_call0_call2_v10 : Ref sig .tc := ⟨.hbm, 102, rfl⟩
abbrev main_call0_call2_v11 : Ref sig .tc := ⟨.hbm, 103, rfl⟩
abbrev main_call0_call2_c_0 : Ref sig .tc := ⟨.hbm, 104, rfl⟩
abbrev main_call0_call2_v12 : Ref sig .tc := ⟨.hbm, 105, rfl⟩
abbrev main_call0_call2_v13 : Ref sig .tc := ⟨.hbm, 106, rfl⟩
abbrev main_call0_v39 : Ref sig .tc := ⟨.hbm, 107, rfl⟩
abbrev main_call0_c_12 : Ref sig .tc := ⟨.hbm, 108, rfl⟩
abbrev main_call0_call3_v0 : Ref sig .tc := ⟨.hbm, 109, rfl⟩
abbrev main_call0_call3_v1 : Ref sig .tc := ⟨.hbm, 110, rfl⟩
abbrev main_call0_c_13 : Ref sig .tc := ⟨.hbm, 111, rfl⟩
abbrev main_call0_v41 : Ref sig .tc := ⟨.hbm, 112, rfl⟩
abbrev main_call0_call4_call0_c : Ref sig .tc := ⟨.hbm, 113, rfl⟩
abbrev main_call0_call4_call0_v0 : Ref sig .tc := ⟨.hbm, 114, rfl⟩
abbrev main_call0_v42 : Ref sig .tc := ⟨.hbm, 115, rfl⟩
abbrev main_call0_v44 : Ref sig .tc := ⟨.hbm, 116, rfl⟩
abbrev main_call0_v45 : Ref sig .tc := ⟨.hbm, 117, rfl⟩
abbrev main_call0_v46 : Ref sig .tc := ⟨.hbm, 118, rfl⟩
abbrev main_call0_v47 : Ref sig .tc := ⟨.hbm, 119, rfl⟩
abbrev main_call0_v48 : Ref sig .tc := ⟨.hbm, 120, rfl⟩
abbrev main_call0_v49 : Ref sig .tc := ⟨.hbm, 121, rfl⟩
abbrev main_call0_v50 : Ref sig .tc := ⟨.hbm, 122, rfl⟩
abbrev main_call0_v51 : Ref sig .tc := ⟨.hbm, 123, rfl⟩
abbrev main_call0_c_14 : Ref sig .tc := ⟨.hbm, 124, rfl⟩
abbrev main_call0_v52 : Ref sig .tc := ⟨.hbm, 125, rfl⟩
abbrev main_call0_c_15 : Ref sig .tc := ⟨.hbm, 126, rfl⟩
abbrev main_call0_c_16 : Ref sig .tc := ⟨.hbm, 127, rfl⟩
abbrev main_call0_call5_v0 : Ref sig .tc := ⟨.hbm, 128, rfl⟩
abbrev main_call0_call5_v1 : Ref sig .tc := ⟨.hbm, 129, rfl⟩
abbrev main_call0_call5_v2 : Ref sig .tc := ⟨.hbm, 130, rfl⟩
abbrev main_call0_call5_v3 : Ref sig .tc := ⟨.hbm, 131, rfl⟩
abbrev main_call0_call5_v4 : Ref sig .tc := ⟨.hbm, 132, rfl⟩
abbrev main_call0_c_17 : Ref sig .tc := ⟨.hbm, 133, rfl⟩
abbrev main_call0_v54 : Ref sig .tc := ⟨.hbm, 134, rfl⟩
abbrev main_call0_v55 : Ref sig .tc := ⟨.hbm, 135, rfl⟩
abbrev main_call0_c_18 : Ref sig .tc := ⟨.hbm, 136, rfl⟩
abbrev main_call0_v56 : Ref sig .tc := ⟨.hbm, 137, rfl⟩
abbrev main_call0_v57 : Ref sig .tc := ⟨.hbm, 138, rfl⟩
abbrev main_call0_v58 : Ref sig .tc := ⟨.hbm, 139, rfl⟩
abbrev main_call0_v59 : Ref sig .tc := ⟨.hbm, 140, rfl⟩
abbrev main_call0_v60 : Ref sig .tc := ⟨.hbm, 141, rfl⟩
abbrev main_call0_v62 : Ref sig .tc := ⟨.hbm, 142, rfl⟩
abbrev main_v0 : Ref sig .tc := ⟨.hbm, 143, rfl⟩
abbrev main_arg6 : Ref sig .tc := ⟨.smem, 0, rfl⟩
abbrev main_arg7 : Ref sig .tc := ⟨.smem, 1, rfl⟩
abbrev main_call0_v19 : Ref sig .tc := ⟨.smem, 2, rfl⟩
abbrev main_call0_v20 : Ref sig .tc := ⟨.smem, 3, rfl⟩
abbrev main_call0_v32 : Ref sig .tc := ⟨.smem, 4, rfl⟩
abbrev main_call0_v40 : Ref sig .tc := ⟨.smem, 5, rfl⟩
abbrev main_call0_v43 : Ref sig .tc := ⟨.smem, 6, rfl⟩
abbrev main_call0_v53 : Ref sig .tc := ⟨.smem, 7, rfl⟩
abbrev main_call0_v61 : Ref sig .tc := ⟨.smem, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨9, ![main_arg6.idx, main_arg7.idx, main_call0_v19.idx, main_call0_v20.idx, main_call0_v32.idx, main_call0_v40.idx, main_call0_v43.idx, main_call0_v53.idx, main_call0_v61.idx], fun | 0 => main_arg6.names | 1 => main_arg7.names | 2 => main_call0_v19.names | 3 => main_call0_v20.names | 4 => main_call0_v32.names | 5 => main_call0_v40.names | 6 => main_call0_v43.names | 7 => main_call0_v53.names | 8 => main_call0_v61.names | ⟨_ + 9, h⟩ => absurd h (Nat.not_lt.2 (Nat.le_add_left _ _)), fun | 0 => rfl | 1 => rfl | 2 => rfl | 3 => rfl | 4 => rfl | 5 => rfl | 6 => rfl | 7 => rfl | 8 => rfl | ⟨_ + 9, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_0 : BitVec 32 := 0#32
  let v9 : BitVec 1 := Scalar.cmpi .ne v8 c0_i32_0
  v9

@[reducible] def k0_t1_loop : Scf.Loop 32 :=
  let c0_i32_17 : BitVec 32 := 0#32
  let c32_i32 : BitVec 32 := 32#32
  let v40 : BitVec 32 := Scalar.addi c0_i32_17 c32_i32
  let c1_i32_18 : BitVec 32 := 1#32
  ⟨c0_i32_17, v40, c1_i32_18⟩
def k0_off3 (v36 : BitVec 32) (v38 : BitVec 32) (k0_t1 : Fin k0_t1_loop.trips) : Fin 2 → Nat :=
  let v45 : Index := Scalar.indexCast v36
  let c32_i32_22 : BitVec 32 := 32#32
  let v43 : BitVec 32 := Scalar.muli v38 c32_i32_22
  let c0_i32_21 : BitVec 32 := 0#32
  let c0_i32_17 : BitVec 32 := 0#32
  let c1_i32_18 : BitVec 32 := 1#32
  let arg19 : BitVec 32 := Scf.iv c0_i32_17 c1_i32_18 k0_t1
  let c1_i32_20 : BitVec 32 := 1#32
  let v41 : BitVec 32 := Scalar.muli arg19 c1_i32_20
  let v42 : BitVec 32 := Scalar.addi c0_i32_21 v41
  let v44 : BitVec 32 := Scalar.addi v43 v42
  let v46 : Index := Scalar.indexCast v44
  ![v45.toNat, v46.toNat]
def k0_cond2 (v6 : BitVec 32) : BitVec 1 :=
  let c0_i32_11 : BitVec 32 := 0#32
  let v29 : BitVec 1 := Scalar.cmpi .slt c0_i32_11 v6
  let v30 : BitVec 32 := Scalar.extui v29
  let c0_i32_13 : BitVec 32 := 0#32
  let v31 : BitVec 1 := Scalar.cmpi .ne v30 c0_i32_13
  v31

def k0_chk1 (i : grid0.Coords) (v6 : BitVec 32) (v36 : BitVec 32) (v38 : BitVec 32) : Prop :=
  (∀ k0_t1 : Fin k0_t1_loop.trips, ∀ (k0_h1 : k0_cond1 i = 1#1), ∀ (k0_h2 : k0_cond2 v6 = 1#1), ∀ a, (k0_off3 v36 v38 k0_t1) a + S1x1.size a ≤ S16x128.size a)
theorem k0_off3_inb : ∀ (i : grid0.Coords) (v6 : BitVec 32) (v36 : BitVec 32) (v38 : BitVec 32) (k0_hw1 : k0_chk1 i v6 v36 v38) (k0_t1 : Fin k0_t1_loop.trips), ∀ (k0_h1 : k0_cond1 i = 1#1), ∀ (k0_h2 : k0_cond2 v6 = 1#1), ∀ a, (k0_off3 v36 v38 k0_t1) a + S1x1.size a ≤ S16x128.size a := fun i v6 v36 v38 k0_hw1 k0_t1 k0_h1 k0_h2 => k0_hw1 k0_t1 k0_h1 k0_h2

def k0_off4 : Fin 2 → Nat :=
  let c0_i32_12 : BitVec 32 := 0#32
  let c3_i32 : BitVec 32 := 3#32
  let v39 : BitVec 32 := Scalar.remsi c0_i32_12 c3_i32
  let c0_i32_23 : BitVec 32 := 0#32
  ![v39.toNat, 0]
def k0_off5 (k0_t1 : Fin k0_t1_loop.trips) : Fin 5 → Nat :=
  let c0_i32_12 : BitVec 32 := 0#32
  let c3_i32 : BitVec 32 := 3#32
  let v39 : BitVec 32 := Scalar.remsi c0_i32_12 c3_i32
  let c0_i32_24 : BitVec 32 := 0#32
  let c0_i32_21 : BitVec 32 := 0#32
  let c0_i32_17 : BitVec 32 := 0#32
  let c1_i32_18 : BitVec 32 := 1#32
  let arg19 : BitVec 32 := Scf.iv c0_i32_17 c1_i32_18 k0_t1
  let c1_i32_20 : BitVec 32 := 1#32
  let v41 : BitVec 32 := Scalar.muli arg19 c1_i32_20
  let v42 : BitVec 32 := Scalar.addi c0_i32_21 v41
  let c0_i32_25 : BitVec 32 := 0#32
  let c0_i32_26 : BitVec 32 := 0#32
  ![v39.toNat, 0, v42.toNat, 0, 0]
def k0_off6 (v47 : BitVec 32) : Fin 4 → Nat :=
  let c0_i32_27 : BitVec 32 := 0#32
  let c0_i32_28 : BitVec 32 := 0#32
  let c0_i32_29 : BitVec 32 := 0#32
  ![0, v47.toNat, 0, 0]

def k0_chk2 (i : grid0.Coords) (v6 : BitVec 32) (v47 : BitVec 32) : Prop :=
  (∀ (k0_h1 : k0_cond1 i = 1#1), ∀ (k0_h2 : k0_cond2 v6 = 1#1), ∀ a, (k0_off6 v47) a + S8x1x16x128.size a ≤ S8x4096x16x128.size a)
theorem k0_off6_inb : ∀ (i : grid0.Coords) (v6 : BitVec 32) (v47 : BitVec 32) (k0_hw2 : k0_chk2 i v6 v47), ∀ (k0_h1 : k0_cond1 i = 1#1), ∀ (k0_h2 : k0_cond2 v6 = 1#1), ∀ a, (k0_off6 v47) a + S8x1x16x128.size a ≤ S8x4096x16x128.size a := fun i v6 v47 k0_hw2 k0_h1 k0_h2 => k0_hw2 k0_h1 k0_h2

def k0_off7 : Fin 2 → Nat :=
  let c0_i32_12 : BitVec 32 := 0#32
  let c3_i32 : BitVec 32 := 3#32
  let v39 : BitVec 32 := Scalar.remsi c0_i32_12 c3_i32
  let c1_i32_30 : BitVec 32 := 1#32
  ![v39.toNat, 1]
def k0_off8 (k0_t1 : Fin k0_t1_loop.trips) : Fin 5 → Nat :=
  let c0_i32_12 : BitVec 32 := 0#32
  let c3_i32 : BitVec 32 := 3#32
  let v39 : BitVec 32 := Scalar.remsi c0_i32_12 c3_i32
  let c0_i32_31 : BitVec 32 := 0#32
  let c0_i32_21 : BitVec 32 := 0#32
  let c0_i32_17 : BitVec 32 := 0#32
  let c1_i32_18 : BitVec 32 := 1#32
  let arg19 : BitVec 32 := Scf.iv c0_i32_17 c1_i32_18 k0_t1
  let c1_i32_20 : BitVec 32 := 1#32
  let v41 : BitVec 32 := Scalar.muli arg19 c1_i32_20
  let v42 : BitVec 32 := Scalar.addi c0_i32_21 v41
  let c0_i32_32 : BitVec 32 := 0#32
  let c0_i32_33 : BitVec 32 := 0#32
  ![v39.toNat, 0, v42.toNat, 0, 0]
@[reducible] def k0_t2_loop : Scf.Loop 32 :=
  let c0_i32_17 : BitVec 32 := 0#32
  let c32_i32 : BitVec 32 := 32#32
  let v40 : BitVec 32 := Scalar.addi c0_i32_17 c32_i32
  let c1_i32_18 : BitVec 32 := 1#32
  ⟨c0_i32_17, v40, c1_i32_18⟩
def k0_off9 (v36 : BitVec 32) (v38 : BitVec 32) (k0_t2 : Fin k0_t2_loop.trips) : Fin 2 → Nat :=
  let v45 : Index := Scalar.indexCast v36
  let c32_i32_22 : BitVec 32 := 32#32
  let v43 : BitVec 32 := Scalar.muli v38 c32_i32_22
  let c0_i32_21 : BitVec 32 := 0#32
  let c0_i32_17 : BitVec 32 := 0#32
  let c1_i32_18 : BitVec 32 := 1#32
  let arg19 : BitVec 32 := Scf.iv c0_i32_17 c1_i32_18 k0_t2
  let c1_i32_20 : BitVec 32 := 1#32
  let v41 : BitVec 32 := Scalar.muli arg19 c1_i32_20
  let v42 : BitVec 32 := Scalar.addi c0_i32_21 v41
  let v44 : BitVec 32 := Scalar.addi v43 v42
  let v46 : Index := Scalar.indexCast v44
  ![v45.toNat, v46.toNat]
def k0_cond3 (v6 : BitVec 32) : BitVec 1 :=
  let c1_i32_14 : BitVec 32 := 1#32
  let v32 : BitVec 1 := Scalar.cmpi .slt c1_i32_14 v6
  let v33 : BitVec 32 := Scalar.extui v32
  let c0_i32_16 : BitVec 32 := 0#32
  let v34 : BitVec 1 := Scalar.cmpi .ne v33 c0_i32_16
  v34

def k0_chk3 (i : grid0.Coords) (v6 : BitVec 32) (v36 : BitVec 32) (v38 : BitVec 32) : Prop :=
  (∀ k0_t2 : Fin k0_t2_loop.trips, ∀ (k0_h1 : k0_cond1 i = 1#1), ∀ (k0_h3 : k0_cond3 v6 = 1#1), ∀ a, (k0_off9 v36 v38 k0_t2) a + S1x1.size a ≤ S16x128.size a)
theorem k0_off9_inb : ∀ (i : grid0.Coords) (v6 : BitVec 32) (v36 : BitVec 32) (v38 : BitVec 32) (k0_hw3 : k0_chk3 i v6 v36 v38) (k0_t2 : Fin k0_t2_loop.trips), ∀ (k0_h1 : k0_cond1 i = 1#1), ∀ (k0_h3 : k0_cond3 v6 = 1#1), ∀ a, (k0_off9 v36 v38 k0_t2) a + S1x1.size a ≤ S16x128.size a := fun i v6 v36 v38 k0_hw3 k0_t2 k0_h1 k0_h3 => k0_hw3 k0_t2 k0_h1 k0_h3

def k0_off10 : Fin 2 → Nat :=
  let c1_i32_15 : BitVec 32 := 1#32
  let c3_i32 : BitVec 32 := 3#32
  let v39 : BitVec 32 := Scalar.remsi c1_i32_15 c3_i32
  let c0_i32_23 : BitVec 32 := 0#32
  ![v39.toNat, 0]
def k0_off11 (k0_t2 : Fin k0_t2_loop.trips) : Fin 5 → Nat :=
  let c1_i32_15 : BitVec 32 := 1#32
  let c3_i32 : BitVec 32 := 3#32
  let v39 : BitVec 32 := Scalar.remsi c1_i32_15 c3_i32
  let c0_i32_24 : BitVec 32 := 0#32
  let c0_i32_21 : BitVec 32 := 0#32
  let c0_i32_17 : BitVec 32 := 0#32
  let c1_i32_18 : BitVec 32 := 1#32
  let arg19 : BitVec 32 := Scf.iv c0_i32_17 c1_i32_18 k0_t2
  let c1_i32_20 : BitVec 32 := 1#32
  let v41 : BitVec 32 := Scalar.muli arg19 c1_i32_20
  let v42 : BitVec 32 := Scalar.addi c0_i32_21 v41
  let c0_i32_25 : BitVec 32 := 0#32
  let c0_i32_26 : BitVec 32 := 0#32
  ![v39.toNat, 0, v42.toNat, 0, 0]
def k0_off12 (v47 : BitVec 32) : Fin 4 → Nat :=
  let c0_i32_27 : BitVec 32 := 0#32
  let c0_i32_28 : BitVec 32 := 0#32
  let c0_i32_29 : BitVec 32 := 0#32
  ![0, v47.toNat, 0, 0]

def k0_chk4 (i : grid0.Coords) (v6 : BitVec 32) (v47 : BitVec 32) : Prop :=
  (∀ (k0_h1 : k0_cond1 i = 1#1), ∀ (k0_h3 : k0_cond3 v6 = 1#1), ∀ a, (k0_off12 v47) a + S8x1x16x128.size a ≤ S8x4096x16x128.size a)
theorem k0_off12_inb : ∀ (i : grid0.Coords) (v6 : BitVec 32) (v47 : BitVec 32) (k0_hw4 : k0_chk4 i v6 v47), ∀ (k0_h1 : k0_cond1 i = 1#1), ∀ (k0_h3 : k0_cond3 v6 = 1#1), ∀ a, (k0_off12 v47) a + S8x1x16x128.size a ≤ S8x4096x16x128.size a := fun i v6 v47 k0_hw4 k0_h1 k0_h3 => k0_hw4 k0_h1 k0_h3

def k0_off13 : Fin 2 → Nat :=
  let c1_i32_15 : BitVec 32 := 1#32
  let c3_i32 : BitVec 32 := 3#32
  let v39 : BitVec 32 := Scalar.remsi c1_i32_15 c3_i32
  let c1_i32_30 : BitVec 32 := 1#32
  ![v39.toNat, 1]
def k0_off14 (k0_t2 : Fin k0_t2_loop.trips) : Fin 5 → Nat :=
  let c1_i32_15 : BitVec 32 := 1#32
  let c3_i32 : BitVec 32 := 3#32
  let v39 : BitVec 32 := Scalar.remsi c1_i32_15 c3_i32
  let c0_i32_31 : BitVec 32 := 0#32
  let c0_i32_21 : BitVec 32 := 0#32
  let c0_i32_17 : BitVec 32 := 0#32
  let c1_i32_18 : BitVec 32 := 1#32
  let arg19 : BitVec 32 := Scf.iv c0_i32_17 c1_i32_18 k0_t2
  let c1_i32_20 : BitVec 32 := 1#32
  let v41 : BitVec 32 := Scalar.muli arg19 c1_i32_20
  let v42 : BitVec 32 := Scalar.addi c0_i32_21 v41
  let c0_i32_32 : BitVec 32 := 0#32
  let c0_i32_33 : BitVec 32 := 0#32
  ![v39.toNat, 0, v42.toNat, 0, 0]
@[reducible] def k0_t3_loop (v1 : BitVec 32) : Scf.Loop 32 :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_6 : BitVec 32 := 1#32
  ⟨c0_i32_5, v20, c1_i32_6⟩

def k0_off15 (v1 : BitVec 32) (v5 : BitVec 32) (k0_t3 : Fin (k0_t3_loop v1).trips) : Fin 1 → Nat :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let v82 : Index := Scalar.indexCast v32
  ![v82.toNat]
def k0_cond4 (v1 : BitVec 32) (v5 : BitVec 32) (v6 : BitVec 32) (k0_t3 : Fin (k0_t3_loop v1).trips) : BitVec 1 :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let v33 : BitVec 1 := Scalar.cmpi .slt v32 v6
  let v34 : BitVec 32 := Scalar.extui v33
  let c0_i32_13 : BitVec 32 := 0#32
  let v35 : BitVec 1 := Scalar.cmpi .ne v34 c0_i32_13
  v35

@[reducible] def k0_t4_loop : Scf.Loop 32 :=
  let c0_i32_49 : BitVec 32 := 0#32
  let c32_i32 : BitVec 32 := 32#32
  let v87 : BitVec 32 := Scalar.addi c0_i32_49 c32_i32
  let c1_i32_50 : BitVec 32 := 1#32
  ⟨c0_i32_49, v87, c1_i32_50⟩
def k0_off16 (v83 : BitVec 32) (v85 : BitVec 32) (k0_t4 : Fin k0_t4_loop.trips) : Fin 2 → Nat :=
  let v92 : Index := Scalar.indexCast v83
  let c32_i32_54 : BitVec 32 := 32#32
  let v90 : BitVec 32 := Scalar.muli v85 c32_i32_54
  let c0_i32_53 : BitVec 32 := 0#32
  let c0_i32_49 : BitVec 32 := 0#32
  let c1_i32_50 : BitVec 32 := 1#32
  let arg23 : BitVec 32 := Scf.iv c0_i32_49 c1_i32_50 k0_t4
  let c1_i32_52 : BitVec 32 := 1#32
  let v88 : BitVec 32 := Scalar.muli arg23 c1_i32_52
  let v89 : BitVec 32 := Scalar.addi c0_i32_53 v88
  let v91 : BitVec 32 := Scalar.addi v90 v89
  let v93 : Index := Scalar.indexCast v91
  ![v92.toNat, v93.toNat]

def k0_chk7 (v1 : BitVec 32) (v5 : BitVec 32) (v6 : BitVec 32) (k0_t3 : Fin (k0_t3_loop v1).trips) (v83 : BitVec 32) (v85 : BitVec 32) : Prop :=
  (∀ k0_t4 : Fin k0_t4_loop.trips, ∀ (k0_h4 : k0_cond4 v1 v5 v6 k0_t3 = 1#1), ∀ a, (k0_off16 v83 v85 k0_t4) a + S1x1.size a ≤ S16x128.size a)
theorem k0_off16_inb : ∀ (v1 : BitVec 32) (v5 : BitVec 32) (v6 : BitVec 32) (k0_t3 : Fin (k0_t3_loop v1).trips) (v83 : BitVec 32) (v85 : BitVec 32) (k0_hw7 : k0_chk7 v1 v5 v6 k0_t3 v83 v85) (k0_t4 : Fin k0_t4_loop.trips), ∀ (k0_h4 : k0_cond4 v1 v5 v6 k0_t3 = 1#1), ∀ a, (k0_off16 v83 v85 k0_t4) a + S1x1.size a ≤ S16x128.size a := fun v1 v5 v6 k0_t3 v83 v85 k0_hw7 k0_t4 k0_h4 => k0_hw7 k0_t4 k0_h4

def k0_off17 (v1 : BitVec 32) (v5 : BitVec 32) (k0_t3 : Fin (k0_t3_loop v1).trips) : Fin 2 → Nat :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let c3_i32_48 : BitVec 32 := 3#32
  let v86 : BitVec 32 := Scalar.remsi v32 c3_i32_48
  let c0_i32_55 : BitVec 32 := 0#32
  ![v86.toNat, 0]
def k0_off18 (v1 : BitVec 32) (v5 : BitVec 32) (k0_t3 : Fin (k0_t3_loop v1).trips) (k0_t4 : Fin k0_t4_loop.trips) : Fin 5 → Nat :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let c3_i32_48 : BitVec 32 := 3#32
  let v86 : BitVec 32 := Scalar.remsi v32 c3_i32_48
  let c0_i32_56 : BitVec 32 := 0#32
  let c0_i32_53 : BitVec 32 := 0#32
  let c0_i32_49 : BitVec 32 := 0#32
  let c1_i32_50 : BitVec 32 := 1#32
  let arg23 : BitVec 32 := Scf.iv c0_i32_49 c1_i32_50 k0_t4
  let c1_i32_52 : BitVec 32 := 1#32
  let v88 : BitVec 32 := Scalar.muli arg23 c1_i32_52
  let v89 : BitVec 32 := Scalar.addi c0_i32_53 v88
  let c0_i32_57 : BitVec 32 := 0#32
  let c0_i32_58 : BitVec 32 := 0#32
  ![v86.toNat, 0, v89.toNat, 0, 0]
def k0_off19 (v94 : BitVec 32) : Fin 4 → Nat :=
  let c0_i32_59 : BitVec 32 := 0#32
  let c0_i32_60 : BitVec 32 := 0#32
  let c0_i32_61 : BitVec 32 := 0#32
  ![0, v94.toNat, 0, 0]

def k0_chk8 (v1 : BitVec 32) (v5 : BitVec 32) (v6 : BitVec 32) (k0_t3 : Fin (k0_t3_loop v1).trips) (v94 : BitVec 32) : Prop :=
  (∀ (k0_h4 : k0_cond4 v1 v5 v6 k0_t3 = 1#1), ∀ a, (k0_off19 v94) a + S8x1x16x128.size a ≤ S8x4096x16x128.size a)
theorem k0_off19_inb : ∀ (v1 : BitVec 32) (v5 : BitVec 32) (v6 : BitVec 32) (k0_t3 : Fin (k0_t3_loop v1).trips) (v94 : BitVec 32) (k0_hw8 : k0_chk8 v1 v5 v6 k0_t3 v94), ∀ (k0_h4 : k0_cond4 v1 v5 v6 k0_t3 = 1#1), ∀ a, (k0_off19 v94) a + S8x1x16x128.size a ≤ S8x4096x16x128.size a := fun v1 v5 v6 k0_t3 v94 k0_hw8 k0_h4 => k0_hw8 k0_h4

def k0_off20 (v1 : BitVec 32) (v5 : BitVec 32) (k0_t3 : Fin (k0_t3_loop v1).trips) : Fin 2 → Nat :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let c3_i32_48 : BitVec 32 := 3#32
  let v86 : BitVec 32 := Scalar.remsi v32 c3_i32_48
  let c1_i32_62 : BitVec 32 := 1#32
  ![v86.toNat, 1]
def k0_off21 (v1 : BitVec 32) (v5 : BitVec 32) (k0_t3 : Fin (k0_t3_loop v1).trips) (k0_t4 : Fin k0_t4_loop.trips) : Fin 5 → Nat :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let c3_i32_48 : BitVec 32 := 3#32
  let v86 : BitVec 32 := Scalar.remsi v32 c3_i32_48
  let c0_i32_63 : BitVec 32 := 0#32
  let c0_i32_53 : BitVec 32 := 0#32
  let c0_i32_49 : BitVec 32 := 0#32
  let c1_i32_50 : BitVec 32 := 1#32
  let arg23 : BitVec 32 := Scf.iv c0_i32_49 c1_i32_50 k0_t4
  let c1_i32_52 : BitVec 32 := 1#32
  let v88 : BitVec 32 := Scalar.muli arg23 c1_i32_52
  let v89 : BitVec 32 := Scalar.addi c0_i32_53 v88
  let c0_i32_64 : BitVec 32 := 0#32
  let c0_i32_65 : BitVec 32 := 0#32
  ![v86.toNat, 0, v89.toNat, 0, 0]
def k0_off22 (v1 : BitVec 32) (v5 : BitVec 32) (k0_t3 : Fin (k0_t3_loop v1).trips) : Fin 2 → Nat :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32 : BitVec 32 := 3#32
  let v30 : BitVec 32 := Scalar.remsi v29 c3_i32
  let c0_i32_14 : BitVec 32 := 0#32
  ![v30.toNat, 0]

def k0_off23 (v1 : BitVec 32) (v5 : BitVec 32) (k0_t3 : Fin (k0_t3_loop v1).trips) : Fin 5 → Nat :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32 : BitVec 32 := 3#32
  let v30 : BitVec 32 := Scalar.remsi v29 c3_i32
  let c0_i32_15 : BitVec 32 := 0#32
  let c0_i32_16 : BitVec 32 := 0#32
  let c0_i32_17 : BitVec 32 := 0#32
  let c0_i32_18 : BitVec 32 := 0#32
  ![v30.toNat, 0, 0, 0, 0]
def k0_off24 (v1 : BitVec 32) (v5 : BitVec 32) (k0_t3 : Fin (k0_t3_loop v1).trips) : Fin 2 → Nat :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32 : BitVec 32 := 3#32
  let v30 : BitVec 32 := Scalar.remsi v29 c3_i32
  let c1_i32_23 : BitVec 32 := 1#32
  ![v30.toNat, 1]
@[reducible] def k0_t5_loop : Scf.Loop 32 :=
  let c0_i32_32 : BitVec 32 := 0#32
  let c16_i32 : BitVec 32 := 16#32
  let v46 : BitVec 32 := Scalar.addi c0_i32_32 c16_i32
  let c1_i32_33 : BitVec 32 := 1#32
  ⟨c0_i32_32, v46, c1_i32_33⟩
def k0_off25 (i : grid0.Coords) (v1 : BitVec 32) (k0_t3 : Fin (k0_t3_loop v1).trips) (k0_t5 : Fin k0_t5_loop.trips) : Fin 3 → Nat :=
  let arg0 : BitVec 32 := BitVec.ofNat 32 (i 0).val
  let v84 : Index := Scalar.indexCast arg0
  let c0_i32_5 : BitVec 32 := 0#32
  let c1_i32_6 : BitVec 32 := 1#32
  let arg19 : BitVec 32 := Scf.iv c0_i32_5 c1_i32_6 k0_t3
  let v85 : Index := Scalar.indexCast arg19
  let c0_i32_49 : BitVec 32 := 0#32
  let c0_i32_32 : BitVec 32 := 0#32
  let c1_i32_33 : BitVec 32 := 1#32
  let arg23 : BitVec 32 := Scf.iv c0_i32_32 c1_i32_33 k0_t5
  let c1_i32_48 : BitVec 32 := 1#32
  let v82 : BitVec 32 := Scalar.muli arg23 c1_i32_48
  let v83 : BitVec 32 := Scalar.addi c0_i32_49 v82
  let v86 : Index := Scalar.indexCast v83
  ![v84.toNat, v85.toNat, v86.toNat]
def k0_off26 (k0_t5 : Fin k0_t5_loop.trips) : Fin 1 → Nat :=
  let c0_i32_49 : BitVec 32 := 0#32
  let c0_i32_32 : BitVec 32 := 0#32
  let c1_i32_33 : BitVec 32 := 1#32
  let arg23 : BitVec 32 := Scf.iv c0_i32_32 c1_i32_33 k0_t5
  let c1_i32_48 : BitVec 32 := 1#32
  let v82 : BitVec 32 := Scalar.muli arg23 c1_i32_48
  let v83 : BitVec 32 := Scalar.addi c0_i32_49 v82
  let v91 : Index := Scalar.indexCast v83
  ![v91.toNat]
@[reducible] def k0_t6_loop : Scf.Loop 32 :=
  let c0_i32_52 : BitVec 32 := 0#32
  let c32_i32 : BitVec 32 := 32#32
  let v93 : BitVec 32 := Scalar.addi c0_i32_52 c32_i32
  let c1_i32_53 : BitVec 32 := 1#32
  ⟨c0_i32_52, v93, c1_i32_53⟩
def k0_off27 (i : grid0.Coords) (v1 : BitVec 32) (k0_t3 : Fin (k0_t3_loop v1).trips) (k0_t6 : Fin k0_t6_loop.trips) : Fin 2 → Nat :=
  let arg0 : BitVec 32 := BitVec.ofNat 32 (i 0).val
  let v98 : Index := Scalar.indexCast arg0
  let c0_i32_5 : BitVec 32 := 0#32
  let c1_i32_6 : BitVec 32 := 1#32
  let arg19 : BitVec 32 := Scf.iv c0_i32_5 c1_i32_6 k0_t3
  let c32_i32_57 : BitVec 32 := 32#32
  let v96 : BitVec 32 := Scalar.muli arg19 c32_i32_57
  let c0_i32_56 : BitVec 32 := 0#32
  let c0_i32_52 : BitVec 32 := 0#32
  let c1_i32_53 : BitVec 32 := 1#32
  let arg24 : BitVec 32 := Scf.iv c0_i32_52 c1_i32_53 k0_t6
  let c1_i32_55 : BitVec 32 := 1#32
  let v94 : BitVec 32 := Scalar.muli arg24 c1_i32_55
  let v95 : BitVec 32 := Scalar.addi c0_i32_56 v94
  let v97 : BitVec 32 := Scalar.addi v96 v95
  let v99 : Index := Scalar.indexCast v97
  ![v98.toNat, v99.toNat]
def k0_cond5 (v87 : BitVec 32) : BitVec 1 :=
  let c0_i32_50 : BitVec 32 := 0#32
  let v88 : BitVec 1 := Scalar.cmpi .ne v87 c0_i32_50
  let v89 : BitVec 32 := Scalar.extui v88
  let c0_i32_51 : BitVec 32 := 0#32
  let v90 : BitVec 1 := Scalar.cmpi .ne v89 c0_i32_51
  v90

def k0_chk10 (i : grid0.Coords) (v1 : BitVec 32) (k0_t3 : Fin (k0_t3_loop v1).trips) (v87 : BitVec 32) : Prop :=
  (∀ k0_t6 : Fin k0_t6_loop.trips, ∀ (k0_h5 : k0_cond5 v87 = 1#1), ∀ a, (k0_off27 i v1 k0_t3 k0_t6) a + S1x1.size a ≤ S16x128.size a)
theorem k0_off27_inb : ∀ (i : grid0.Coords) (v1 : BitVec 32) (k0_t3 : Fin (k0_t3_loop v1).trips) (v87 : BitVec 32) (k0_hw10 : k0_chk10 i v1 k0_t3 v87) (k0_t6 : Fin k0_t6_loop.trips), ∀ (k0_h5 : k0_cond5 v87 = 1#1), ∀ a, (k0_off27 i v1 k0_t3 k0_t6) a + S1x1.size a ≤ S16x128.size a := fun i v1 k0_t3 v87 k0_hw10 k0_t6 k0_h5 => k0_hw10 k0_t6 k0_h5

def k0_off28 (k0_t5 : Fin k0_t5_loop.trips) : Fin 1 → Nat :=
  let c0_i32_49 : BitVec 32 := 0#32
  let c0_i32_32 : BitVec 32 := 0#32
  let c1_i32_33 : BitVec 32 := 1#32
  let arg23 : BitVec 32 := Scf.iv c0_i32_32 c1_i32_33 k0_t5
  let c1_i32_48 : BitVec 32 := 1#32
  let v82 : BitVec 32 := Scalar.muli arg23 c1_i32_48
  let v83 : BitVec 32 := Scalar.addi c0_i32_49 v82
  let v101 : Index := Scalar.indexCast v83
  ![v101.toNat]
def k0_off29 (k0_t5 : Fin k0_t5_loop.trips) : Fin 3 → Nat :=
  let c0_59 : Index := 0#32
  let c0_i32_49 : BitVec 32 := 0#32
  let c0_i32_32 : BitVec 32 := 0#32
  let c1_i32_33 : BitVec 32 := 1#32
  let arg23 : BitVec 32 := Scf.iv c0_i32_32 c1_i32_33 k0_t5
  let c1_i32_48 : BitVec 32 := 1#32
  let v82 : BitVec 32 := Scalar.muli arg23 c1_i32_48
  let v83 : BitVec 32 := Scalar.addi c0_i32_49 v82
  let v106 : Index := Scalar.indexCast v83
  let c0_60 : Index := 0#32
  ![0, v106.toNat, 0]
def k0_off30 (v1 : BitVec 32) (v5 : BitVec 32) (k0_t3 : Fin (k0_t3_loop v1).trips) (v92 : BitVec 32) (k0_t6 : Fin k0_t6_loop.trips) : Fin 5 → Nat :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32 : BitVec 32 := 3#32
  let v30 : BitVec 32 := Scalar.remsi v29 c3_i32
  let v110 : Index := Scalar.indexCast v30
  let c0_61 : Index := 0#32
  let c0_i32_56 : BitVec 32 := 0#32
  let c0_i32_52 : BitVec 32 := 0#32
  let c1_i32_53 : BitVec 32 := 1#32
  let arg24 : BitVec 32 := Scf.iv c0_i32_52 c1_i32_53 k0_t6
  let c1_i32_55 : BitVec 32 := 1#32
  let v94 : BitVec 32 := Scalar.muli arg24 c1_i32_55
  let v95 : BitVec 32 := Scalar.addi c0_i32_56 v94
  let v111 : Index := Scalar.indexCast v95
  let v112 : Index := Scalar.indexCast v92
  let c0_62 : Index := 0#32
  ![v110.toNat, 0, v111.toNat, v112.toNat, 0]
def k0_cond6 (v100 : BitVec 32) (v102 : BitVec 32) : BitVec 1 :=
  let v103 : BitVec 1 := Scalar.cmpi .eq v100 v102
  let v104 : BitVec 32 := Scalar.extui v103
  let c0_i32_58 : BitVec 32 := 0#32
  let v105 : BitVec 1 := Scalar.cmpi .ne v104 c0_i32_58
  v105

def k0_chk11 (v1 : BitVec 32) (v5 : BitVec 32) (k0_t3 : Fin (k0_t3_loop v1).trips) (v87 : BitVec 32) (v92 : BitVec 32) (k0_t6 : Fin k0_t6_loop.trips) (v100 : BitVec 32) (v102 : BitVec 32) : Prop :=
  (∀ (k0_h5 : k0_cond5 v87 = 1#1), ∀ (k0_h6 : k0_cond6 v100 v102 = 1#1), ∀ a, (k0_off30 v1 v5 k0_t3 v92 k0_t6) a + S1x8x1x1x128.size a ≤ S3x8x32x16x128.size a)
theorem k0_off30_inb : ∀ (v1 : BitVec 32) (v5 : BitVec 32) (k0_t3 : Fin (k0_t3_loop v1).trips) (v87 : BitVec 32) (v92 : BitVec 32) (k0_t6 : Fin k0_t6_loop.trips) (v100 : BitVec 32) (v102 : BitVec 32) (k0_hw11 : k0_chk11 v1 v5 k0_t3 v87 v92 k0_t6 v100 v102), ∀ (k0_h5 : k0_cond5 v87 = 1#1), ∀ (k0_h6 : k0_cond6 v100 v102 = 1#1), ∀ a, (k0_off30 v1 v5 k0_t3 v92 k0_t6) a + S1x8x1x1x128.size a ≤ S3x8x32x16x128.size a := fun v1 v5 k0_t3 v87 v92 k0_t6 v100 v102 k0_hw11 k0_h5 k0_h6 => k0_hw11 k0_h5 k0_h6

def k0_off31 (k0_t5 : Fin k0_t5_loop.trips) : Fin 3 → Nat :=
  let c0_63 : Index := 0#32
  let c0_i32_49 : BitVec 32 := 0#32
  let c0_i32_32 : BitVec 32 := 0#32
  let c1_i32_33 : BitVec 32 := 1#32
  let arg23 : BitVec 32 := Scf.iv c0_i32_32 c1_i32_33 k0_t5
  let c1_i32_48 : BitVec 32 := 1#32
  let v82 : BitVec 32 := Scalar.muli arg23 c1_i32_48
  let v83 : BitVec 32 := Scalar.addi c0_i32_49 v82
  let v116 : Index := Scalar.indexCast v83
  let c0_64 : Index := 0#32
  ![0, v116.toNat, 0]
def k0_off32 (v1 : BitVec 32) (v5 : BitVec 32) (k0_t3 : Fin (k0_t3_loop v1).trips) : Fin 5 → Nat :=
  let c0_i32_5 : BitVec 32 := 0#32
  let c1_i32_6 : BitVec 32 := 1#32
  let arg19 : BitVec 32 := Scf.iv c0_i32_5 c1_i32_6 k0_t3
  let v29 : BitVec 32 := Scalar.addi v5 arg19
  let c3_i32 : BitVec 32 := 3#32
  let v30 : BitVec 32 := Scalar.remsi v29 c3_i32
  let v47 : Index := Scalar.indexCast v30
  let c0_35 : Index := 0#32
  let c0_36 : Index := 0#32
  let c0_37 : Index := 0#32
  let c0_38 : Index := 0#32
  ![v47.toNat, 0, 0, 0, 0]
@[reducible] def k0_t7_loop (v1 : BitVec 32) : Scf.Loop 32 :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let v17 : BitVec 32 := Scalar.addi c0_i32_5 v16
  let c1_i32_7 : BitVec 32 := 1#32
  ⟨v20, v17, c1_i32_7⟩
def k0_off33 (v1 : BitVec 32) (v5 : BitVec 32) (k0_t7 : Fin (k0_t7_loop v1).trips) : Fin 1 → Nat :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let v82 : Index := Scalar.indexCast v32
  ![v82.toNat]
def k0_cond7 (v1 : BitVec 32) (v5 : BitVec 32) (v6 : BitVec 32) (k0_t7 : Fin (k0_t7_loop v1).trips) : BitVec 1 :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let v33 : BitVec 1 := Scalar.cmpi .slt v32 v6
  let v34 : BitVec 32 := Scalar.extui v33
  let c0_i32_13 : BitVec 32 := 0#32
  let v35 : BitVec 1 := Scalar.cmpi .ne v34 c0_i32_13
  v35

@[reducible] def k0_t8_loop : Scf.Loop 32 :=
  let c0_i32_49 : BitVec 32 := 0#32
  let c32_i32 : BitVec 32 := 32#32
  let v87 : BitVec 32 := Scalar.addi c0_i32_49 c32_i32
  let c1_i32_50 : BitVec 32 := 1#32
  ⟨c0_i32_49, v87, c1_i32_50⟩
def k0_off34 (v83 : BitVec 32) (v85 : BitVec 32) (k0_t8 : Fin k0_t8_loop.trips) : Fin 2 → Nat :=
  let v92 : Index := Scalar.indexCast v83
  let c32_i32_54 : BitVec 32 := 32#32
  let v90 : BitVec 32 := Scalar.muli v85 c32_i32_54
  let c0_i32_53 : BitVec 32 := 0#32
  let c0_i32_49 : BitVec 32 := 0#32
  let c1_i32_50 : BitVec 32 := 1#32
  let arg23 : BitVec 32 := Scf.iv c0_i32_49 c1_i32_50 k0_t8
  let c1_i32_52 : BitVec 32 := 1#32
  let v88 : BitVec 32 := Scalar.muli arg23 c1_i32_52
  let v89 : BitVec 32 := Scalar.addi c0_i32_53 v88
  let v91 : BitVec 32 := Scalar.addi v90 v89
  let v93 : Index := Scalar.indexCast v91
  ![v92.toNat, v93.toNat]

def k0_chk12 (v1 : BitVec 32) (v5 : BitVec 32) (v6 : BitVec 32) (k0_t7 : Fin (k0_t7_loop v1).trips) (v83 : BitVec 32) (v85 : BitVec 32) : Prop :=
  (∀ k0_t8 : Fin k0_t8_loop.trips, ∀ (k0_h7 : k0_cond7 v1 v5 v6 k0_t7 = 1#1), ∀ a, (k0_off34 v83 v85 k0_t8) a + S1x1.size a ≤ S16x128.size a)
theorem k0_off34_inb : ∀ (v1 : BitVec 32) (v5 : BitVec 32) (v6 : BitVec 32) (k0_t7 : Fin (k0_t7_loop v1).trips) (v83 : BitVec 32) (v85 : BitVec 32) (k0_hw12 : k0_chk12 v1 v5 v6 k0_t7 v83 v85) (k0_t8 : Fin k0_t8_loop.trips), ∀ (k0_h7 : k0_cond7 v1 v5 v6 k0_t7 = 1#1), ∀ a, (k0_off34 v83 v85 k0_t8) a + S1x1.size a ≤ S16x128.size a := fun v1 v5 v6 k0_t7 v83 v85 k0_hw12 k0_t8 k0_h7 => k0_hw12 k0_t8 k0_h7

def k0_off35 (v1 : BitVec 32) (v5 : BitVec 32) (k0_t7 : Fin (k0_t7_loop v1).trips) : Fin 2 → Nat :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let c3_i32_48 : BitVec 32 := 3#32
  let v86 : BitVec 32 := Scalar.remsi v32 c3_i32_48
  let c0_i32_55 : BitVec 32 := 0#32
  ![v86.toNat, 0]
def k0_off36 (v1 : BitVec 32) (v5 : BitVec 32) (k0_t7 : Fin (k0_t7_loop v1).trips) (k0_t8 : Fin k0_t8_loop.trips) : Fin 5 → Nat :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let c3_i32_48 : BitVec 32 := 3#32
  let v86 : BitVec 32 := Scalar.remsi v32 c3_i32_48
  let c0_i32_56 : BitVec 32 := 0#32
  let c0_i32_53 : BitVec 32 := 0#32
  let c0_i32_49 : BitVec 32 := 0#32
  let c1_i32_50 : BitVec 32 := 1#32
  let arg23 : BitVec 32 := Scf.iv c0_i32_49 c1_i32_50 k0_t8
  let c1_i32_52 : BitVec 32 := 1#32
  let v88 : BitVec 32 := Scalar.muli arg23 c1_i32_52
  let v89 : BitVec 32 := Scalar.addi c0_i32_53 v88
  let c0_i32_57 : BitVec 32 := 0#32
  let c0_i32_58 : BitVec 32 := 0#32
  ![v86.toNat, 0, v89.toNat, 0, 0]
def k0_off37 (v94 : BitVec 32) : Fin 4 → Nat :=
  let c0_i32_59 : BitVec 32 := 0#32
  let c0_i32_60 : BitVec 32 := 0#32
  let c0_i32_61 : BitVec 32 := 0#32
  ![0, v94.toNat, 0, 0]

def k0_chk13 (v1 : BitVec 32) (v5 : BitVec 32) (v6 : BitVec 32) (k0_t7 : Fin (k0_t7_loop v1).trips) (v94 : BitVec 32) : Prop :=
  (∀ (k0_h7 : k0_cond7 v1 v5 v6 k0_t7 = 1#1), ∀ a, (k0_off37 v94) a + S8x1x16x128.size a ≤ S8x4096x16x128.size a)
theorem k0_off37_inb : ∀ (v1 : BitVec 32) (v5 : BitVec 32) (v6 : BitVec 32) (k0_t7 : Fin (k0_t7_loop v1).trips) (v94 : BitVec 32) (k0_hw13 : k0_chk13 v1 v5 v6 k0_t7 v94), ∀ (k0_h7 : k0_cond7 v1 v5 v6 k0_t7 = 1#1), ∀ a, (k0_off37 v94) a + S8x1x16x128.size a ≤ S8x4096x16x128.size a := fun v1 v5 v6 k0_t7 v94 k0_hw13 k0_h7 => k0_hw13 k0_h7

def k0_off38 (v1 : BitVec 32) (v5 : BitVec 32) (k0_t7 : Fin (k0_t7_loop v1).trips) : Fin 2 → Nat :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let c3_i32_48 : BitVec 32 := 3#32
  let v86 : BitVec 32 := Scalar.remsi v32 c3_i32_48
  let c1_i32_62 : BitVec 32 := 1#32
  ![v86.toNat, 1]
def k0_off39 (v1 : BitVec 32) (v5 : BitVec 32) (k0_t7 : Fin (k0_t7_loop v1).trips) (k0_t8 : Fin k0_t8_loop.trips) : Fin 5 → Nat :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32_11 : BitVec 32 := 3#32
  let v31 : BitVec 32 := Scalar.addi v29 c3_i32_11
  let c1_i32_12 : BitVec 32 := 1#32
  let v32 : BitVec 32 := Scalar.subi v31 c1_i32_12
  let c3_i32_48 : BitVec 32 := 3#32
  let v86 : BitVec 32 := Scalar.remsi v32 c3_i32_48
  let c0_i32_63 : BitVec 32 := 0#32
  let c0_i32_53 : BitVec 32 := 0#32
  let c0_i32_49 : BitVec 32 := 0#32
  let c1_i32_50 : BitVec 32 := 1#32
  let arg23 : BitVec 32 := Scf.iv c0_i32_49 c1_i32_50 k0_t8
  let c1_i32_52 : BitVec 32 := 1#32
  let v88 : BitVec 32 := Scalar.muli arg23 c1_i32_52
  let v89 : BitVec 32 := Scalar.addi c0_i32_53 v88
  let c0_i32_64 : BitVec 32 := 0#32
  let c0_i32_65 : BitVec 32 := 0#32
  ![v86.toNat, 0, v89.toNat, 0, 0]

def k0_chk6 (v1 : BitVec 32) (v5 : BitVec 32) (v6 : BitVec 32) : Prop :=
  (∀ k0_t3 : Fin (k0_t3_loop v1).trips, ∀ (k0_h4 : k0_cond4 v1 v5 v6 k0_t3 = 1#1), ∀ a, (k0_off15 v1 v5 k0_t3) a + S1.size a ≤ S64.size a) ∧
  (∀ k0_t3 : Fin (k0_t3_loop v1).trips, ∀ (k0_h4 : k0_cond4 v1 v5 v6 k0_t3 = 1#1), ∀ a, (k0_off17 v1 v5 k0_t3) a + S1x1.size a ≤ S3x2.size a) ∧
  (∀ (k0_t3 : Fin (k0_t3_loop v1).trips) (k0_t4 : Fin k0_t4_loop.trips), ∀ (k0_h4 : k0_cond4 v1 v5 v6 k0_t3 = 1#1), ∀ a, (k0_off18 v1 v5 k0_t3 k0_t4) a + S1x8x1x16x128.size a ≤ S3x8x32x16x128.size a) ∧
  (∀ k0_t3 : Fin (k0_t3_loop v1).trips, ∀ (k0_h4 : k0_cond4 v1 v5 v6 k0_t3 = 1#1), ∀ a, (k0_off20 v1 v5 k0_t3) a + S1x1.size a ≤ S3x2.size a) ∧
  (∀ (k0_t3 : Fin (k0_t3_loop v1).trips) (k0_t4 : Fin k0_t4_loop.trips), ∀ (k0_h4 : k0_cond4 v1 v5 v6 k0_t3 = 1#1), ∀ a, (k0_off21 v1 v5 k0_t3 k0_t4) a + S1x8x1x16x128.size a ≤ S3x8x32x16x128.size a) ∧
  (∀ k0_t7 : Fin (k0_t7_loop v1).trips, ∀ (k0_h7 : k0_cond7 v1 v5 v6 k0_t7 = 1#1), ∀ a, (k0_off33 v1 v5 k0_t7) a + S1.size a ≤ S64.size a) ∧
  (∀ k0_t7 : Fin (k0_t7_loop v1).trips, ∀ (k0_h7 : k0_cond7 v1 v5 v6 k0_t7 = 1#1), ∀ a, (k0_off35 v1 v5 k0_t7) a + S1x1.size a ≤ S3x2.size a) ∧
  (∀ (k0_t7 : Fin (k0_t7_loop v1).trips) (k0_t8 : Fin k0_t8_loop.trips), ∀ (k0_h7 : k0_cond7 v1 v5 v6 k0_t7 = 1#1), ∀ a, (k0_off36 v1 v5 k0_t7 k0_t8) a + S1x8x1x16x128.size a ≤ S3x8x32x16x128.size a) ∧
  (∀ k0_t7 : Fin (k0_t7_loop v1).trips, ∀ (k0_h7 : k0_cond7 v1 v5 v6 k0_t7 = 1#1), ∀ a, (k0_off38 v1 v5 k0_t7) a + S1x1.size a ≤ S3x2.size a) ∧
  (∀ (k0_t7 : Fin (k0_t7_loop v1).trips) (k0_t8 : Fin k0_t8_loop.trips), ∀ (k0_h7 : k0_cond7 v1 v5 v6 k0_t7 = 1#1), ∀ a, (k0_off39 v1 v5 k0_t7 k0_t8) a + S1x8x1x16x128.size a ≤ S3x8x32x16x128.size a)
theorem k0_off15_inb : ∀ (v1 : BitVec 32) (v5 : BitVec 32) (v6 : BitVec 32) (k0_hw6 : k0_chk6 v1 v5 v6) (k0_t3 : Fin (k0_t3_loop v1).trips), ∀ (k0_h4 : k0_cond4 v1 v5 v6 k0_t3 = 1#1), ∀ a, (k0_off15 v1 v5 k0_t3) a + S1.size a ≤ S64.size a := fun v1 v5 v6 k0_hw6 k0_t3 k0_h4 => k0_hw6.1 k0_t3 k0_h4
theorem k0_off17_inb : ∀ (v1 : BitVec 32) (v5 : BitVec 32) (v6 : BitVec 32) (k0_hw6 : k0_chk6 v1 v5 v6) (k0_t3 : Fin (k0_t3_loop v1).trips), ∀ (k0_h4 : k0_cond4 v1 v5 v6 k0_t3 = 1#1), ∀ a, (k0_off17 v1 v5 k0_t3) a + S1x1.size a ≤ S3x2.size a := fun v1 v5 v6 k0_hw6 k0_t3 k0_h4 => k0_hw6.2.1 k0_t3 k0_h4
theorem k0_off18_inb : ∀ (v1 : BitVec 32) (v5 : BitVec 32) (v6 : BitVec 32) (k0_hw6 : k0_chk6 v1 v5 v6) (k0_t3 : Fin (k0_t3_loop v1).trips) (k0_t4 : Fin k0_t4_loop.trips), ∀ (k0_h4 : k0_cond4 v1 v5 v6 k0_t3 = 1#1), ∀ a, (k0_off18 v1 v5 k0_t3 k0_t4) a + S1x8x1x16x128.size a ≤ S3x8x32x16x128.size a := fun v1 v5 v6 k0_hw6 k0_t3 k0_t4 k0_h4 => k0_hw6.2.2.1 k0_t3 k0_t4 k0_h4
theorem k0_off20_inb : ∀ (v1 : BitVec 32) (v5 : BitVec 32) (v6 : BitVec 32) (k0_hw6 : k0_chk6 v1 v5 v6) (k0_t3 : Fin (k0_t3_loop v1).trips), ∀ (k0_h4 : k0_cond4 v1 v5 v6 k0_t3 = 1#1), ∀ a, (k0_off20 v1 v5 k0_t3) a + S1x1.size a ≤ S3x2.size a := fun v1 v5 v6 k0_hw6 k0_t3 k0_h4 => k0_hw6.2.2.2.1 k0_t3 k0_h4
theorem k0_off21_inb : ∀ (v1 : BitVec 32) (v5 : BitVec 32) (v6 : BitVec 32) (k0_hw6 : k0_chk6 v1 v5 v6) (k0_t3 : Fin (k0_t3_loop v1).trips) (k0_t4 : Fin k0_t4_loop.trips), ∀ (k0_h4 : k0_cond4 v1 v5 v6 k0_t3 = 1#1), ∀ a, (k0_off21 v1 v5 k0_t3 k0_t4) a + S1x8x1x16x128.size a ≤ S3x8x32x16x128.size a := fun v1 v5 v6 k0_hw6 k0_t3 k0_t4 k0_h4 => k0_hw6.2.2.2.2.1 k0_t3 k0_t4 k0_h4
theorem k0_off33_inb : ∀ (v1 : BitVec 32) (v5 : BitVec 32) (v6 : BitVec 32) (k0_hw6 : k0_chk6 v1 v5 v6) (k0_t7 : Fin (k0_t7_loop v1).trips), ∀ (k0_h7 : k0_cond7 v1 v5 v6 k0_t7 = 1#1), ∀ a, (k0_off33 v1 v5 k0_t7) a + S1.size a ≤ S64.size a := fun v1 v5 v6 k0_hw6 k0_t7 k0_h7 => k0_hw6.2.2.2.2.2.1 k0_t7 k0_h7
theorem k0_off35_inb : ∀ (v1 : BitVec 32) (v5 : BitVec 32) (v6 : BitVec 32) (k0_hw6 : k0_chk6 v1 v5 v6) (k0_t7 : Fin (k0_t7_loop v1).trips), ∀ (k0_h7 : k0_cond7 v1 v5 v6 k0_t7 = 1#1), ∀ a, (k0_off35 v1 v5 k0_t7) a + S1x1.size a ≤ S3x2.size a := fun v1 v5 v6 k0_hw6 k0_t7 k0_h7 => k0_hw6.2.2.2.2.2.2.1 k0_t7 k0_h7
theorem k0_off36_inb : ∀ (v1 : BitVec 32) (v5 : BitVec 32) (v6 : BitVec 32) (k0_hw6 : k0_chk6 v1 v5 v6) (k0_t7 : Fin (k0_t7_loop v1).trips) (k0_t8 : Fin k0_t8_loop.trips), ∀ (k0_h7 : k0_cond7 v1 v5 v6 k0_t7 = 1#1), ∀ a, (k0_off36 v1 v5 k0_t7 k0_t8) a + S1x8x1x16x128.size a ≤ S3x8x32x16x128.size a := fun v1 v5 v6 k0_hw6 k0_t7 k0_t8 k0_h7 => k0_hw6.2.2.2.2.2.2.2.1 k0_t7 k0_t8 k0_h7
theorem k0_off38_inb : ∀ (v1 : BitVec 32) (v5 : BitVec 32) (v6 : BitVec 32) (k0_hw6 : k0_chk6 v1 v5 v6) (k0_t7 : Fin (k0_t7_loop v1).trips), ∀ (k0_h7 : k0_cond7 v1 v5 v6 k0_t7 = 1#1), ∀ a, (k0_off38 v1 v5 k0_t7) a + S1x1.size a ≤ S3x2.size a := fun v1 v5 v6 k0_hw6 k0_t7 k0_h7 => k0_hw6.2.2.2.2.2.2.2.2.1 k0_t7 k0_h7
theorem k0_off39_inb : ∀ (v1 : BitVec 32) (v5 : BitVec 32) (v6 : BitVec 32) (k0_hw6 : k0_chk6 v1 v5 v6) (k0_t7 : Fin (k0_t7_loop v1).trips) (k0_t8 : Fin k0_t8_loop.trips), ∀ (k0_h7 : k0_cond7 v1 v5 v6 k0_t7 = 1#1), ∀ a, (k0_off39 v1 v5 k0_t7 k0_t8) a + S1x8x1x16x128.size a ≤ S3x8x32x16x128.size a := fun v1 v5 v6 k0_hw6 k0_t7 k0_t8 k0_h7 => k0_hw6.2.2.2.2.2.2.2.2.2 k0_t7 k0_t8 k0_h7

def k0_off40 (v1 : BitVec 32) (v5 : BitVec 32) (k0_t7 : Fin (k0_t7_loop v1).trips) : Fin 2 → Nat :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32 : BitVec 32 := 3#32
  let v30 : BitVec 32 := Scalar.remsi v29 c3_i32
  let c0_i32_14 : BitVec 32 := 0#32
  ![v30.toNat, 0]
def k0_off41 (v1 : BitVec 32) (v5 : BitVec 32) (k0_t7 : Fin (k0_t7_loop v1).trips) : Fin 5 → Nat :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32 : BitVec 32 := 3#32
  let v30 : BitVec 32 := Scalar.remsi v29 c3_i32
  let c0_i32_15 : BitVec 32 := 0#32
  let c0_i32_16 : BitVec 32 := 0#32
  let c0_i32_17 : BitVec 32 := 0#32
  let c0_i32_18 : BitVec 32 := 0#32
  ![v30.toNat, 0, 0, 0, 0]
def k0_off42 (v1 : BitVec 32) (v5 : BitVec 32) (k0_t7 : Fin (k0_t7_loop v1).trips) : Fin 2 → Nat :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32 : BitVec 32 := 3#32
  let v30 : BitVec 32 := Scalar.remsi v29 c3_i32
  let c1_i32_23 : BitVec 32 := 1#32
  ![v30.toNat, 1]
@[reducible] def k0_t9_loop : Scf.Loop 32 :=
  let c0_i32_32 : BitVec 32 := 0#32
  let c16_i32 : BitVec 32 := 16#32
  let v46 : BitVec 32 := Scalar.addi c0_i32_32 c16_i32
  let c1_i32_33 : BitVec 32 := 1#32
  ⟨c0_i32_32, v46, c1_i32_33⟩
def k0_off43 (i : grid0.Coords) (v1 : BitVec 32) (k0_t7 : Fin (k0_t7_loop v1).trips) (k0_t9 : Fin k0_t9_loop.trips) : Fin 3 → Nat :=
  let arg0 : BitVec 32 := BitVec.ofNat 32 (i 0).val
  let v84 : Index := Scalar.indexCast arg0
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v85 : Index := Scalar.indexCast arg19
  let c0_i32_49 : BitVec 32 := 0#32
  let c0_i32_32 : BitVec 32 := 0#32
  let c1_i32_33 : BitVec 32 := 1#32
  let arg23 : BitVec 32 := Scf.iv c0_i32_32 c1_i32_33 k0_t9
  let c1_i32_48 : BitVec 32 := 1#32
  let v82 : BitVec 32 := Scalar.muli arg23 c1_i32_48
  let v83 : BitVec 32 := Scalar.addi c0_i32_49 v82
  let v86 : Index := Scalar.indexCast v83
  ![v84.toNat, v85.toNat, v86.toNat]

def k0_chk5 (i : grid0.Coords) (v1 : BitVec 32) : Prop :=
  ((k0_t3_loop v1).OK) ∧
  (∀ (k0_t3 : Fin (k0_t3_loop v1).trips) (k0_t5 : Fin k0_t5_loop.trips), ∀ a, (k0_off25 i v1 k0_t3 k0_t5) a + S1x1x1.size a ≤ S16x4x16.size a) ∧
  ((k0_t7_loop v1).OK) ∧
  (∀ (k0_t7 : Fin (k0_t7_loop v1).trips) (k0_t9 : Fin k0_t9_loop.trips), ∀ a, (k0_off43 i v1 k0_t7 k0_t9) a + S1x1x1.size a ≤ S16x4x16.size a)
theorem k0_t3_ok : ∀ (i : grid0.Coords) (v1 : BitVec 32) (k0_hw5 : k0_chk5 i v1), (k0_t3_loop v1).OK := fun i v1 k0_hw5 => k0_hw5.1
theorem k0_off25_inb : ∀ (i : grid0.Coords) (v1 : BitVec 32) (k0_hw5 : k0_chk5 i v1) (k0_t3 : Fin (k0_t3_loop v1).trips) (k0_t5 : Fin k0_t5_loop.trips), ∀ a, (k0_off25 i v1 k0_t3 k0_t5) a + S1x1x1.size a ≤ S16x4x16.size a := fun i v1 k0_hw5 k0_t3 k0_t5 => k0_hw5.2.1 k0_t3 k0_t5
theorem k0_t7_ok : ∀ (i : grid0.Coords) (v1 : BitVec 32) (k0_hw5 : k0_chk5 i v1), (k0_t7_loop v1).OK := fun i v1 k0_hw5 => k0_hw5.2.2.1
theorem k0_off43_inb : ∀ (i : grid0.Coords) (v1 : BitVec 32) (k0_hw5 : k0_chk5 i v1) (k0_t7 : Fin (k0_t7_loop v1).trips) (k0_t9 : Fin k0_t9_loop.trips), ∀ a, (k0_off43 i v1 k0_t7 k0_t9) a + S1x1x1.size a ≤ S16x4x16.size a := fun i v1 k0_hw5 k0_t7 k0_t9 => k0_hw5.2.2.2 k0_t7 k0_t9

def k0_off44 (k0_t9 : Fin k0_t9_loop.trips) : Fin 1 → Nat :=
  let c0_i32_49 : BitVec 32 := 0#32
  let c0_i32_32 : BitVec 32 := 0#32
  let c1_i32_33 : BitVec 32 := 1#32
  let arg23 : BitVec 32 := Scf.iv c0_i32_32 c1_i32_33 k0_t9
  let c1_i32_48 : BitVec 32 := 1#32
  let v82 : BitVec 32 := Scalar.muli arg23 c1_i32_48
  let v83 : BitVec 32 := Scalar.addi c0_i32_49 v82
  let v91 : Index := Scalar.indexCast v83
  ![v91.toNat]
@[reducible] def k0_t10_loop : Scf.Loop 32 :=
  let c0_i32_52 : BitVec 32 := 0#32
  let c32_i32 : BitVec 32 := 32#32
  let v93 : BitVec 32 := Scalar.addi c0_i32_52 c32_i32
  let c1_i32_53 : BitVec 32 := 1#32
  ⟨c0_i32_52, v93, c1_i32_53⟩
def k0_off45 (i : grid0.Coords) (v1 : BitVec 32) (k0_t7 : Fin (k0_t7_loop v1).trips) (k0_t10 : Fin k0_t10_loop.trips) : Fin 2 → Nat :=
  let arg0 : BitVec 32 := BitVec.ofNat 32 (i 0).val
  let v98 : Index := Scalar.indexCast arg0
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let c32_i32_57 : BitVec 32 := 32#32
  let v96 : BitVec 32 := Scalar.muli arg19 c32_i32_57
  let c0_i32_56 : BitVec 32 := 0#32
  let c0_i32_52 : BitVec 32 := 0#32
  let c1_i32_53 : BitVec 32 := 1#32
  let arg24 : BitVec 32 := Scf.iv c0_i32_52 c1_i32_53 k0_t10
  let c1_i32_55 : BitVec 32 := 1#32
  let v94 : BitVec 32 := Scalar.muli arg24 c1_i32_55
  let v95 : BitVec 32 := Scalar.addi c0_i32_56 v94
  let v97 : BitVec 32 := Scalar.addi v96 v95
  let v99 : Index := Scalar.indexCast v97
  ![v98.toNat, v99.toNat]
def k0_cond8 (v87 : BitVec 32) : BitVec 1 :=
  let c0_i32_50 : BitVec 32 := 0#32
  let v88 : BitVec 1 := Scalar.cmpi .ne v87 c0_i32_50
  let v89 : BitVec 32 := Scalar.extui v88
  let c0_i32_51 : BitVec 32 := 0#32
  let v90 : BitVec 1 := Scalar.cmpi .ne v89 c0_i32_51
  v90

def k0_chk14 (i : grid0.Coords) (v1 : BitVec 32) (k0_t7 : Fin (k0_t7_loop v1).trips) (v87 : BitVec 32) : Prop :=
  (∀ k0_t10 : Fin k0_t10_loop.trips, ∀ (k0_h8 : k0_cond8 v87 = 1#1), ∀ a, (k0_off45 i v1 k0_t7 k0_t10) a + S1x1.size a ≤ S16x128.size a)
theorem k0_off45_inb : ∀ (i : grid0.Coords) (v1 : BitVec 32) (k0_t7 : Fin (k0_t7_loop v1).trips) (v87 : BitVec 32) (k0_hw14 : k0_chk14 i v1 k0_t7 v87) (k0_t10 : Fin k0_t10_loop.trips), ∀ (k0_h8 : k0_cond8 v87 = 1#1), ∀ a, (k0_off45 i v1 k0_t7 k0_t10) a + S1x1.size a ≤ S16x128.size a := fun i v1 k0_t7 v87 k0_hw14 k0_t10 k0_h8 => k0_hw14 k0_t10 k0_h8

def k0_off46 (k0_t9 : Fin k0_t9_loop.trips) : Fin 1 → Nat :=
  let c0_i32_49 : BitVec 32 := 0#32
  let c0_i32_32 : BitVec 32 := 0#32
  let c1_i32_33 : BitVec 32 := 1#32
  let arg23 : BitVec 32 := Scf.iv c0_i32_32 c1_i32_33 k0_t9
  let c1_i32_48 : BitVec 32 := 1#32
  let v82 : BitVec 32 := Scalar.muli arg23 c1_i32_48
  let v83 : BitVec 32 := Scalar.addi c0_i32_49 v82
  let v101 : Index := Scalar.indexCast v83
  ![v101.toNat]
def k0_off47 (k0_t9 : Fin k0_t9_loop.trips) : Fin 3 → Nat :=
  let c0_59 : Index := 0#32
  let c0_i32_49 : BitVec 32 := 0#32
  let c0_i32_32 : BitVec 32 := 0#32
  let c1_i32_33 : BitVec 32 := 1#32
  let arg23 : BitVec 32 := Scf.iv c0_i32_32 c1_i32_33 k0_t9
  let c1_i32_48 : BitVec 32 := 1#32
  let v82 : BitVec 32 := Scalar.muli arg23 c1_i32_48
  let v83 : BitVec 32 := Scalar.addi c0_i32_49 v82
  let v106 : Index := Scalar.indexCast v83
  let c0_60 : Index := 0#32
  ![0, v106.toNat, 0]
def k0_off48 (v1 : BitVec 32) (v5 : BitVec 32) (k0_t7 : Fin (k0_t7_loop v1).trips) (v92 : BitVec 32) (k0_t10 : Fin k0_t10_loop.trips) : Fin 5 → Nat :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32 : BitVec 32 := 3#32
  let v30 : BitVec 32 := Scalar.remsi v29 c3_i32
  let v110 : Index := Scalar.indexCast v30
  let c0_61 : Index := 0#32
  let c0_i32_56 : BitVec 32 := 0#32
  let c0_i32_52 : BitVec 32 := 0#32
  let c1_i32_53 : BitVec 32 := 1#32
  let arg24 : BitVec 32 := Scf.iv c0_i32_52 c1_i32_53 k0_t10
  let c1_i32_55 : BitVec 32 := 1#32
  let v94 : BitVec 32 := Scalar.muli arg24 c1_i32_55
  let v95 : BitVec 32 := Scalar.addi c0_i32_56 v94
  let v111 : Index := Scalar.indexCast v95
  let v112 : Index := Scalar.indexCast v92
  let c0_62 : Index := 0#32
  ![v110.toNat, 0, v111.toNat, v112.toNat, 0]
def k0_cond9 (v100 : BitVec 32) (v102 : BitVec 32) : BitVec 1 :=
  let v103 : BitVec 1 := Scalar.cmpi .eq v100 v102
  let v104 : BitVec 32 := Scalar.extui v103
  let c0_i32_58 : BitVec 32 := 0#32
  let v105 : BitVec 1 := Scalar.cmpi .ne v104 c0_i32_58
  v105

def k0_chk15 (v1 : BitVec 32) (v5 : BitVec 32) (k0_t7 : Fin (k0_t7_loop v1).trips) (v87 : BitVec 32) (v92 : BitVec 32) (k0_t10 : Fin k0_t10_loop.trips) (v100 : BitVec 32) (v102 : BitVec 32) : Prop :=
  (∀ (k0_h8 : k0_cond8 v87 = 1#1), ∀ (k0_h9 : k0_cond9 v100 v102 = 1#1), ∀ a, (k0_off48 v1 v5 k0_t7 v92 k0_t10) a + S1x8x1x1x128.size a ≤ S3x8x32x16x128.size a)
theorem k0_off48_inb : ∀ (v1 : BitVec 32) (v5 : BitVec 32) (k0_t7 : Fin (k0_t7_loop v1).trips) (v87 : BitVec 32) (v92 : BitVec 32) (k0_t10 : Fin k0_t10_loop.trips) (v100 : BitVec 32) (v102 : BitVec 32) (k0_hw15 : k0_chk15 v1 v5 k0_t7 v87 v92 k0_t10 v100 v102), ∀ (k0_h8 : k0_cond8 v87 = 1#1), ∀ (k0_h9 : k0_cond9 v100 v102 = 1#1), ∀ a, (k0_off48 v1 v5 k0_t7 v92 k0_t10) a + S1x8x1x1x128.size a ≤ S3x8x32x16x128.size a := fun v1 v5 k0_t7 v87 v92 k0_t10 v100 v102 k0_hw15 k0_h8 k0_h9 => k0_hw15 k0_h8 k0_h9

def k0_off49 (k0_t9 : Fin k0_t9_loop.trips) : Fin 3 → Nat :=
  let c0_63 : Index := 0#32
  let c0_i32_49 : BitVec 32 := 0#32
  let c0_i32_32 : BitVec 32 := 0#32
  let c1_i32_33 : BitVec 32 := 1#32
  let arg23 : BitVec 32 := Scf.iv c0_i32_32 c1_i32_33 k0_t9
  let c1_i32_48 : BitVec 32 := 1#32
  let v82 : BitVec 32 := Scalar.muli arg23 c1_i32_48
  let v83 : BitVec 32 := Scalar.addi c0_i32_49 v82
  let v116 : Index := Scalar.indexCast v83
  let c0_64 : Index := 0#32
  ![0, v116.toNat, 0]
def k0_off50 (v1 : BitVec 32) (v5 : BitVec 32) (k0_t7 : Fin (k0_t7_loop v1).trips) : Fin 5 → Nat :=
  let c0_i32_5 : BitVec 32 := 0#32
  let v16 : BitVec 32 := Scalar.subi v1 c0_i32_5
  let c1_i32 : BitVec 32 := 1#32
  let v18 : BitVec 32 := Scalar.divsi v16 c1_i32
  let v19 : BitVec 32 := Scalar.muli v18 c1_i32
  let v20 : BitVec 32 := Scalar.addi c0_i32_5 v19
  let c1_i32_7 : BitVec 32 := 1#32
  let arg19 : BitVec 32 := Scf.iv v20 c1_i32_7 k0_t7
  let v29 : BitVec 32 := Scalar.addi v5 arg19
  let c3_i32 : BitVec 32 := 3#32
  let v30 : BitVec 32 := Scalar.remsi v29 c3_i32
  let v47 : Index := Scalar.indexCast v30
  let c0_35 : Index := 0#32
  let c0_36 : Index := 0#32
  let c0_37 : Index := 0#32
  let c0_38 : Index := 0#32
  ![v47.toNat, 0, 0, 0, 0]

def k0_chk9 (v1 : BitVec 32) (v5 : BitVec 32) : Prop :=
  (∀ k0_t3 : Fin (k0_t3_loop v1).trips, ∀ a, (k0_off22 v1 v5 k0_t3) a + S1x1.size a ≤ S3x2.size a) ∧
  (∀ k0_t3 : Fin (k0_t3_loop v1).trips, ∀ a, (k0_off23 v1 v5 k0_t3) a + S1x8x32x16x128.size a ≤ S3x8x32x16x128.size a) ∧
  (∀ k0_t3 : Fin (k0_t3_loop v1).trips, ∀ a, (k0_off24 v1 v5 k0_t3) a + S1x1.size a ≤ S3x2.size a) ∧
  (∀ k0_t3 : Fin (k0_t3_loop v1).trips, ∀ a, (k0_off32 v1 v5 k0_t3) a + S1x8x32x16x128.size a ≤ S3x8x32x16x128.size a) ∧
  (∀ k0_t7 : Fin (k0_t7_loop v1).trips, ∀ a, (k0_off40 v1 v5 k0_t7) a + S1x1.size a ≤ S3x2.size a) ∧
  (∀ k0_t7 : Fin (k0_t7_loop v1).trips, ∀ a, (k0_off41 v1 v5 k0_t7) a + S1x8x32x16x128.size a ≤ S3x8x32x16x128.size a) ∧
  (∀ k0_t7 : Fin (k0_t7_loop v1).trips, ∀ a, (k0_off42 v1 v5 k0_t7) a + S1x1.size a ≤ S3x2.size a) ∧
  (∀ k0_t7 : Fin (k0_t7_loop v1).trips, ∀ a, (k0_off50 v1 v5 k0_t7) a + S1x8x32x16x128.size a ≤ S3x8x32x16x128.size a)
theorem k0_off22_inb : ∀ (v1 : BitVec 32) (v5 : BitVec 32) (k0_hw9 : k0_chk9 v1 v5) (k0_t3 : Fin (k0_t3_loop v1).trips), ∀ a, (k0_off22 v1 v5 k0_t3) a + S1x1.size a ≤ S3x2.size a := fun v1 v5 k0_hw9 k0_t3 => k0_hw9.1 k0_t3
theorem k0_off23_inb : ∀ (v1 : BitVec 32) (v5 : BitVec 32) (k0_hw9 : k0_chk9 v1 v5) (k0_t3 : Fin (k0_t3_loop v1).trips), ∀ a, (k0_off23 v1 v5 k0_t3) a + S1x8x32x16x128.size a ≤ S3x8x32x16x128.size a := fun v1 v5 k0_hw9 k0_t3 => k0_hw9.2.1 k0_t3
theorem k0_off24_inb : ∀ (v1 : BitVec 32) (v5 : BitVec 32) (k0_hw9 : k0_chk9 v1 v5) (k0_t3 : Fin (k0_t3_loop v1).trips), ∀ a, (k0_off24 v1 v5 k0_t3) a + S1x1.size a ≤ S3x2.size a := fun v1 v5 k0_hw9 k0_t3 => k0_hw9.2.2.1 k0_t3
theorem k0_off32_inb : ∀ (v1 : BitVec 32) (v5 : BitVec 32) (k0_hw9 : k0_chk9 v1 v5) (k0_t3 : Fin (k0_t3_loop v1).trips), ∀ a, (k0_off32 v1 v5 k0_t3) a + S1x8x32x16x128.size a ≤ S3x8x32x16x128.size a := fun v1 v5 k0_hw9 k0_t3 => k0_hw9.2.2.2.1 k0_t3
theorem k0_off40_inb : ∀ (v1 : BitVec 32) (v5 : BitVec 32) (k0_hw9 : k0_chk9 v1 v5) (k0_t7 : Fin (k0_t7_loop v1).trips), ∀ a, (k0_off40 v1 v5 k0_t7) a + S1x1.size a ≤ S3x2.size a := fun v1 v5 k0_hw9 k0_t7 => k0_hw9.2.2.2.2.1 k0_t7
theorem k0_off41_inb : ∀ (v1 : BitVec 32) (v5 : BitVec 32) (k0_hw9 : k0_chk9 v1 v5) (k0_t7 : Fin (k0_t7_loop v1).trips), ∀ a, (k0_off41 v1 v5 k0_t7) a + S1x8x32x16x128.size a ≤ S3x8x32x16x128.size a := fun v1 v5 k0_hw9 k0_t7 => k0_hw9.2.2.2.2.2.1 k0_t7
theorem k0_off42_inb : ∀ (v1 : BitVec 32) (v5 : BitVec 32) (k0_hw9 : k0_chk9 v1 v5) (k0_t7 : Fin (k0_t7_loop v1).trips), ∀ a, (k0_off42 v1 v5 k0_t7) a + S1x1.size a ≤ S3x2.size a := fun v1 v5 k0_hw9 k0_t7 => k0_hw9.2.2.2.2.2.2.1 k0_t7
theorem k0_off50_inb : ∀ (v1 : BitVec 32) (v5 : BitVec 32) (k0_hw9 : k0_chk9 v1 v5) (k0_t7 : Fin (k0_t7_loop v1).trips), ∀ a, (k0_off50 v1 v5 k0_t7) a + S1x8x32x16x128.size a ≤ S3x8x32x16x128.size a := fun v1 v5 k0_hw9 k0_t7 => k0_hw9.2.2.2.2.2.2.2 k0_t7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16x1x32x128 : Shape := ⟨4, ![16, 1, 32, 128]⟩
abbrev S16x1x8x128 : Shape := ⟨4, ![16, 1, 8, 128]⟩
abbrev S16x1 : Shape := ⟨2, ![16, 1]⟩
abbrev S8x4096x16x128 : Shape := ⟨4, ![8, 4096, 16, 128]⟩
abbrev S16x128 : Shape := ⟨2, ![16, 128]⟩
abbrev S16 : Shape := ⟨1, ![16]⟩
abbrev S_ : Shape := ⟨0, ![]⟩
abbrev S16x2 : Shape := ⟨2, ![16, 2]⟩
abbrev S16x8x128 : Shape := ⟨3, ![16, 8, 128]⟩
abbrev S8x16x128 : Shape := ⟨3, ![8, 16, 128]⟩
abbrev S16x128x1 : Shape := ⟨3, ![16, 128, 1]⟩
abbrev S8x16x128x16x128 : Shape := ⟨5, ![8, 16, 128, 16, 128]⟩
abbrev S8x16x2048x128 : Shape := ⟨4, ![8, 16, 2048, 128]⟩
abbrev S16x8x2048x128 : Shape := ⟨4, ![16, 8, 2048, 128]⟩
abbrev S16x32x128 : Shape := ⟨3, ![16, 32, 128]⟩
abbrev S16x8x4x128 : Shape := ⟨4, ![16, 8, 4, 128]⟩
abbrev S16x8x4x2048 : Shape := ⟨4, ![16, 8, 4, 2048]⟩
abbrev S2048 : Shape := ⟨1, ![2048]⟩
abbrev S1x2048 : Shape := ⟨2, ![1, 2048]⟩
abbrev S16x2048 : Shape := ⟨2, ![16, 2048]⟩
abbrev S16x1x1x2048 : Shape := ⟨4, ![16, 1, 1, 2048]⟩
abbrev S16x8x4 : Shape := ⟨3, ![16, 8, 4]⟩
abbrev S16x8x4x1 : Shape := ⟨4, ![16, 8, 4, 1]⟩

abbrev nBuf : Space → Nat
  | .hbm => 162
  | .vmem => 0
  | .smem => 0
  | _ => 0

abbrev hbmTy0_0 (i : Nat) : BufTy := match i % 128 with
  | 0 => ⟨S16x1x32x128, .f32⟩
  | 1 => ⟨S16x1x8x128, .f32⟩
  | 2 => ⟨S16x1x8x128, .f32⟩
  | 3 => ⟨S16x1, .i32⟩
  | 4 => ⟨S8x4096x16x128, .f32⟩
  | 5 => ⟨S8x4096x16x128, .f32⟩
  | 6 => ⟨S16x128, .i32⟩
  | 7 => ⟨S16, .i32⟩
  | 8 => ⟨S_, .i32⟩
  | 9 => ⟨S16, .i32⟩
  | 10 => ⟨S16, .i32⟩
  | 11 => ⟨S_, .i32⟩
  | 12 => ⟨S16, .i32⟩
  | 13 => ⟨S16, .i32⟩
  | 14 => ⟨S16, .i32⟩
  | 15 => ⟨S_, .i32⟩
  | 16 => ⟨S_, .i32⟩
  | 17 => ⟨S16, .i32⟩
  | 18 => ⟨S16, .i32⟩
  | 19 => ⟨S16, .i32⟩
  | 20 => ⟨S_, .i32⟩
  | 21 => ⟨S16, .i32⟩
  | 22 => ⟨S16, .i1⟩
  | 23 => ⟨S16, .i32⟩
  | 24 => ⟨S16, .i32⟩
  | 25 => ⟨S_, .i32⟩
  | 26 => ⟨S16, .i32⟩
  | 27 => ⟨S16, .i1⟩
  | 28 => ⟨S16, .i1⟩
  | 29 => ⟨S_, .i32⟩
  | 30 => ⟨S16, .i32⟩
  | 31 => ⟨S16, .i32⟩
  | 32 => ⟨S16, .i32⟩
  | 33 => ⟨S_, .i32⟩
  | 34 => ⟨S16, .i32⟩
  | 35 => ⟨S16, .i1⟩
  | 36 => ⟨S_, .i32⟩
  | 37 => ⟨S16, .i32⟩
  | 38 => ⟨S16, .i32⟩
  | 39 => ⟨S16, .i32⟩
  | 40 => ⟨S_, .i32⟩
  | 41 => ⟨S16, .i32⟩
  | 42 => ⟨S16, .i1⟩
  | 43 => ⟨S_, .i32⟩
  | 44 => ⟨S16, .i32⟩
  | 45 => ⟨S16, .i32⟩
  | 46 => ⟨S16, .i32⟩
  | 47 => ⟨S16x1, .i32⟩
  | 48 => ⟨S16x1, .i32⟩
  | 49 => ⟨S16x2, .i32⟩
  | 50 => ⟨S16, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S16, .i32⟩
  | 58 => ⟨S16, .i32⟩
  | 59 => ⟨S_, .i32⟩
  | 60 => ⟨S16, .i32⟩
  | 61 => ⟨S16, .i1⟩
  | 62 => ⟨S_, .i32⟩
  | 63 => ⟨S16, .i32⟩
  | 64 => ⟨S16, .i1⟩
  | 65 => ⟨S_, .i32⟩
  | 66 => ⟨S_, .i1⟩
  | 67 => ⟨S16, .i1⟩
  | 68 => ⟨S16, .i1⟩
  | 69 => ⟨S16, .i1⟩
  | 70 => ⟨S16, .i32⟩
  | 71 => ⟨S16, .i32⟩
  | 72 => ⟨S16, .i32⟩
  | 73 => ⟨S16x8x128, .f32⟩
  | 74 => ⟨S8x16x128, .f32⟩
  | 75 => ⟨S16x8x128, .f32⟩
  | 76 => ⟨S8x16x128, .f32⟩
  | 77 => ⟨S_, .i32⟩
  | 78 => ⟨S16, .i32⟩
  | 79 => ⟨S16, .i1⟩
  | 80 => ⟨S_, .i32⟩
  | 81 => ⟨S16, .i32⟩
  | 82 => ⟨S16, .i32⟩
  | 83 => ⟨S16, .i32⟩
  | 84 => ⟨S_, .i32⟩
  | 85 => ⟨S16, .i32⟩
  | 86 => ⟨S16, .i1⟩
  | 87 => ⟨S_, .i32⟩
  | 88 => ⟨S16, .i32⟩
  | 89 => ⟨S16, .i32⟩
  | 90 => ⟨S16, .i32⟩
  | 91 => ⟨S16x1, .i32⟩
  | 92 => ⟨S16x1, .i32⟩
  | 93 => ⟨S16x2, .i32⟩
  | 94 => ⟨S8x4096x16x128, .f32⟩
  | 95 => ⟨S_, .i32⟩
  | 96 => ⟨S16, .i32⟩
  | 97 => ⟨S16, .i1⟩
  | 98 => ⟨S_, .i32⟩
  | 99 => ⟨S16, .i32⟩
  | 100 => ⟨S16, .i32⟩
  | 101 => ⟨S16, .i32⟩
  | 102 => ⟨S_, .i32⟩
  | 103 => ⟨S16, .i32⟩
  | 104 => ⟨S16, .i1⟩
  | 105 => ⟨S_, .i32⟩
  | 106 => ⟨S16, .i32⟩
  | 107 => ⟨S16, .i32⟩
  | 108 => ⟨S16, .i32⟩
  | 109 => ⟨S16x1, .i32⟩
  | 110 => ⟨S16x1, .i32⟩
  | 111 => ⟨S16x2, .i32⟩
  | 112 => ⟨S8x4096x16x128, .f32⟩
  | 113 => ⟨S_, .i32⟩
  | 114 => ⟨S16x128, .i32⟩
  | 115 => ⟨S16x128, .i1⟩
  | 116 => ⟨S_, .i32⟩
  | 117 => ⟨S16x128, .i32⟩
  | 118 => ⟨S16x128, .i32⟩
  | 119 => ⟨S16x128, .i32⟩
  | 120 => ⟨S16x128x1, .i32⟩
  | 121 => ⟨S8x16x128x16x128, .f32⟩
  | 122 => ⟨S_, .i32⟩
  | 123 => ⟨S16x128, .i32⟩
  | 124 => ⟨S16x128, .i1⟩
  | 125 => ⟨S_, .i32⟩
  | 126 => ⟨S16x128, .i32⟩
  | 127 => ⟨S16x128, .i32⟩
  | _ => ⟨S16x1x32x128, .f32⟩

abbrev hbmTy0_1 (i : Nat) : BufTy := match i % 128 with
  | 0 => ⟨S16x128, .i32⟩
  | 1 => ⟨S16x128x1, .i32⟩
  | 2 => ⟨S8x16x128x16x128, .f32⟩
  | 3 => ⟨S8x16x2048x128, .f32⟩
  | 4 => ⟨S16x8x2048x128, .f32⟩
  | 5 => ⟨S8x16x2048x128, .f32⟩
  | 6 => ⟨S16x8x2048x128, .f32⟩
  | 7 => ⟨S16x32x128, .f32⟩
  | 8 => ⟨S16x8x4x128, .f32⟩
  | 9 => ⟨S16x8x4x2048, .f32⟩
  | 10 => ⟨S2048, .i32⟩
  | 11 => ⟨S1x2048, .i32⟩
  | 12 => ⟨S16x1, .i32⟩
  | 13 => ⟨S16x2048, .i32⟩
  | 14 => ⟨S16x2048, .i32⟩
  | 15 => ⟨S16x2048, .i1⟩
  | 16 => ⟨S16x1x1x2048, .i1⟩
  | 17 => ⟨S_, .f32⟩
  | 18 => ⟨S16x8x4x2048, .f32⟩
  | 19 => ⟨S16x8x4x2048, .i1⟩
  | 20 => ⟨S16x8x4x2048, .f32⟩
  | 21 => ⟨S_, .f32⟩
  | 22 => ⟨S16x8x4, .f32⟩
  | 23 => ⟨S16x8x4x1, .f32⟩
  | 24 => ⟨S16x8x4x2048, .f32⟩
  | 25 => ⟨S16x8x4x2048, .f32⟩
  | 26 => ⟨S16x8x4x2048, .f32⟩
  | 27 => ⟨S_, .f32⟩
  | 28 => ⟨S16x8x4, .f32⟩
  | 29 => ⟨S16x8x4x1, .f32⟩
  | 30 => ⟨S16x8x4x2048, .f32⟩
  | 31 => ⟨S16x8x4x2048, .f32⟩
  | 32 => ⟨S16x8x4x128, .f32⟩
  | 33 => ⟨S16x32x128, .f32⟩
  | _ => ⟨S16x1x32x128, .f32⟩

abbrev hbmTy (i : Nat) : BufTy := match i / 128 with
  | 0 => hbmTy0_0 i
  | 1 => hbmTy0_1 i
  | _ => ⟨S16x1x32x128, .f32⟩

abbrev bufTy : (tb : Table) → Fin (tcTables nBuf tb) → BufTy
  | .hbm, ⟨i, _⟩ => hbmTy i
  | _, _ => ⟨S16x1x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v5 : Ref sig .tc := ⟨.hbm, 32, rfl⟩
abbrev main_c_2 : Ref sig .tc := ⟨.hbm, 33, rfl⟩
abbrev main_v6 : Ref sig .tc := ⟨.hbm, 34, rfl⟩
abbrev main_v7 : Ref sig .tc := ⟨.hbm, 35, rfl⟩
abbrev main_c_3 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_4 : Ref sig .tc := ⟨.hbm, 40, rfl⟩
abbrev main_v11 : Ref sig .tc := ⟨.hbm, 41, rfl⟩
abbrev main_v12 : Ref sig .tc := ⟨.hbm, 42, rfl⟩
abbrev main_c_5 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_c_6 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_c_7 : Ref sig .tc := ⟨.hbm, 77, rfl⟩
abbrev main_v25 : Ref sig .tc := ⟨.hbm, 78, rfl⟩
abbrev main_v26 : Ref sig .tc := ⟨.hbm, 79, rfl⟩
abbrev main_c_8 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_9 : Ref sig .tc := ⟨.hbm, 84, rfl⟩
abbrev main_v30 : Ref sig .tc := ⟨.hbm, 85, rfl⟩
abbrev main_v31 : Ref sig .tc := ⟨.hbm, 86, rfl⟩
abbrev main_c_10 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_c_11 : Ref sig .tc := ⟨.hbm, 95, rfl⟩
abbrev main_v39 : Ref sig .tc := ⟨.hbm, 96, rfl⟩
abbrev main_v40 : Ref sig .tc := ⟨.hbm, 97, rfl⟩
abbrev main_c_12 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_c_13 : Ref sig .tc := ⟨.hbm, 102, rfl⟩
abbrev main_v44 : Ref sig .tc := ⟨.hbm, 103, rfl⟩
abbrev main_v45 : Ref sig .tc := ⟨.hbm, 104, rfl⟩
abbrev main_c_14 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_c_15 : Ref sig .tc := ⟨.hbm, 113, rfl⟩
abbrev main_v53 : Ref sig .tc := ⟨.hbm, 114, rfl⟩
abbrev main_v54 : Ref sig .tc := ⟨.hbm, 115, rfl⟩
abbrev main_c_16 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_c_17 : Ref sig .tc := ⟨.hbm, 122, rfl⟩
abbrev main_v60 : Ref sig .tc := ⟨.hbm, 123, rfl⟩
abbrev main_v61 : Ref sig .tc := ⟨.hbm, 124, rfl⟩
abbrev main_c_18 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_cst : Ref sig .tc := ⟨.hbm, 145, rfl⟩
abbrev main_v81 : Ref sig .tc := ⟨.hbm, 146, rfl⟩
abbrev main_call2_v0 : Ref sig .tc := ⟨.hbm, 147, rfl⟩
abbrev main_v82 : Ref sig .tc := ⟨.hbm, 148, rfl⟩
abbrev main_cst_19 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_cst_20 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩

abbrev nD : Nat := 1
abbrev τ : Topo := Topo.v7x

variable {F : FTy → Type} [FloatOps F]
-- ==== Proof.KSide.lean ====
/- The key pages' ring of slots: what a slot holds while its thirty-two page copies are in flight and when none is, and the
   steps of one copy's start and of one slot's wait. -/
module

public import proofs.«01_k».proof.KernelIdeal
public import proofs.«01_k».proof.Proof.Gen.KernelIdeal.Launch
public import Idealize.ShloMosaic.Lib.Batch
public import Idealize.ShloMosaic.Lib.Ring
public import Idealize.ShloMosaic.Lib.Tactic
public import Idealize.ShloMosaic.Lib.PointwiseCore

@[expose] public section

noncomputable section

namespace Cert.KernelIdeal.KSide

open Cert.KernelIdeal Cert.KernelIdeal.Gen
open Idealize.ShloMosaic Idealize.ShloMosaic.TcCoe
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA

variable {F : FTy → Type} [FloatOps F] [Named F] {nD : Nat} {τ : Topo}

local notation "𝕄" => MT nD τ sig Unit (Elt F) ℕ (Pipeline.UD sig nD τ) ℕ

/-- The array of pages, left in HBM. -/
abbrev hb : Ref sig .tc := main_arg4
/-- The three slots, in VMEM. -/
abbrev vb : Ref sig .tc := cc0_scratch0
/-- The column of this array's semaphores. -/
abbrev col : ℕ := 0

/-- The semaphore of slot `s`. -/
def sem (s : Fin 3) : DmaSem sig := ⟨6 + 2 * s.val + col, by have := s.isLt; show _ < 12; unfold col; omega⟩

/-- A page of the array. -/
abbrev PIdx : Type := S8x4096x16x128.Idx
/-- An element of the slots. -/
abbrev SIdx : Type := S3x8x32x16x128.Idx

variable (c : Dev nD)

/-- The elements of page `p`. -/
def pageSet (p : Fin 4096) : Finset (Idx ((c : Thread nD τ).loc hb)) := Finset.univ.filter fun y : PIdx => (y 1).val = p.val
/-- The elements of slot `s`. -/
def slotSet (s : Fin 3) : Finset (Idx ((c : Thread nD τ).loc vb)) := Finset.univ.filter fun y : SIdx => (y 0).val = s.val
/-- The elements of the place of page `j` in slot `s`. -/
def pieceSet (s : Fin 3) (j : Fin 32) : Finset (Idx ((c : Thread nD τ).loc vb)) :=
  Finset.univ.filter fun y : SIdx => (y 0).val = s.val ∧ (y 2).val = j.val

theorem mem_pageSet (p : Fin 4096) (y : PIdx) : y ∈ pageSet (τ := τ) c p ↔ (y 1).val = p.val := by simp [pageSet]
theorem mem_slotSet (s : Fin 3) (y : SIdx) : y ∈ slotSet (τ := τ) c s ↔ (y 0).val = s.val := by simp [slotSet]
theorem mem_pieceSet (s : Fin 3) (j : Fin 32) (y : SIdx) : y ∈ pieceSet (τ := τ) c s j ↔ (y 0).val = s.val ∧ (y 2).val = j.val := by
  simp [pieceSet]

/-- What a slot holds once the pages `p` have landed in it: page `p j` at place `j`. -/
def landed (A : S8x4096x16x128.Idx → Elt F .f32) (p : Fin 32 → Fin 4096) : S3x8x32x16x128.Idx → Elt F .f32 :=
  fun y => A (ix4 (y 1) (p (y 2)) (y 3) (y 4))

/-- The share of the array of pages that slot `s` lends, and the part of it that its copy `j` takes. -/
def tok (s : Fin 3) : PosShare TreeShare := Transfers.dealOf fullShare (Finset.univ : Finset (Fin 3)) s
def tokj (s : Fin 3) (j : Fin 32) : PosShare TreeShare := Transfers.dealOf (tok s) (Finset.univ : Finset (Fin 32)) j

/-- What copy `j` of slot `s` delivers: the page in its place, and the share of the page it read. -/
def D (A : S8x4096x16x128.Idx → Elt F .f32) (s : Fin 3) (p : Fin 32 → Fin 4096) (j : Fin 32) : sProp 𝕄 :=
  iprop((((c : Thread nD τ).loc vb) ↦[pieceSet c s j]{fullShare} landed A p) ∗ (((c : Thread nD τ).loc hb) ↦[pageSet c (p j)]{tokj s j} A))

instance D_storable (A : S8x4096x16x128.Idx → Elt F .f32) (s : Fin 3) (p : Fin 32 → Fin 4096) (j : Fin 32) :
    BI.Storable (upEmb : UEmb _ 𝕄) (D (F := F) (τ := τ) c A s p j) := by unfold D; infer_instance

/-- The units one page's copy credits. -/
abbrev NN : ℕ := RefSig.tileCredit S8x16x128 .f32

/-- The copies of pages `p` into slot `s`, `k` of them started. -/
def batch (A : S8x4096x16x128.Idx → Elt F .f32) (s : Fin 3) (p : Fin 32 → Fin 4096) (k : ℕ) : sProp 𝕄 :=
  Transfers.Batch (countersEmb (U := Pipeline.UD sig nD τ)) (c : Thread nD τ) (.dma (sem s)) () NN (D c A s p) k 0

/-- Slot `s` with no copy in flight and its elements at `f`. -/
def idleAt (A : S8x4096x16x128.Idx → Elt F .f32) (s : Fin 3) (f : S3x8x32x16x128.Idx → Elt F .f32) : sProp 𝕄 :=
  iprop(semVal ((c : Thread nD τ), SemLoc.dma (sem s)) 0 ∗ (((c : Thread nD τ).loc vb) ↦[slotSet c s]{fullShare} f)
    ∗ (((c : Thread nD τ).loc hb) ↦{tok s} A))

/-- Slot `s` with the first `k` copies of pages `p` started. -/
def issuing (A : S8x4096x16x128.Idx → Elt F .f32) (s : Fin 3) (p : Fin 32 → Fin 4096) (f : S3x8x32x16x128.Idx → Elt F .f32) (k : ℕ) : sProp 𝕄 :=
  iprop(batch c A s p k
    ∗ bigSep (Ring.rangeSet 32 k 32) (fun j => iprop((((c : Thread nD τ).loc vb) ↦[pieceSet c s j]{fullShare} f) ∗ (((c : Thread nD τ).loc hb) ↦{tokj s j} A)))
    ∗ bigSep (Ring.rangeSet 32 0 k) (fun j => iprop((((c : Thread nD τ).loc hb) ↦[Finset.univ \ pageSet c (p j)]{tokj s j} A))))

/-- Slot `s` with all the copies of pages `p` in flight. -/
def flying (A : S8x4096x16x128.Idx → Elt F .f32) (s : Fin 3) (p : Fin 32 → Fin 4096) : sProp 𝕄 :=
  iprop(batch c A s p 32
    ∗ bigSep Finset.univ (fun j => iprop((((c : Thread nD τ).loc hb) ↦[Finset.univ \ pageSet c (p j)]{tokj s j} A))))

theorem slot_pieces (s : Fin 3) (f : S3x8x32x16x128.Idx → Elt F .f32) :
    ((((c : Thread nD τ).loc vb) ↦[slotSet c s]{fullShare} f : sProp 𝕄))
      = bigSep Finset.univ fun j : Fin 32 => ((c : Thread nD τ).loc vb) ↦[pieceSet c s j]{fullShare} f := by
  have e : slotSet (τ := τ) c s = Finset.univ.biUnion (fun j : Fin 32 => pieceSet (τ := τ) c s j) := by
    refine Finset.ext fun y => ?_
    rw [Finset.mem_biUnion]
    constructor
    · intro h
      exact ⟨(y : SIdx) 2, Finset.mem_univ _, (mem_pieceSet c s _ y).2 ⟨(mem_slotSet c s y).1 h, rfl⟩⟩
    · rintro ⟨j, -, h⟩
      exact (mem_slotSet c s y).2 ((mem_pieceSet c s j y).1 h).1
  rw [e, pointsTo_biUnion Finset.univ (fun j : Fin 32 => pieceSet (τ := τ) c s j)]
  · intro a _ b _ hab
    refine Finset.disjoint_left.2 fun y h h' => hab (Fin.ext ?_)
    exact ((mem_pieceSet c s a y).1 h).2.symm.trans ((mem_pieceSet c s b y).1 h').2

theorem tok_pieces (A : S8x4096x16x128.Idx → Elt F .f32) (s : Fin 3) :
    ((((c : Thread nD τ).loc hb) ↦{tok s} A : sProp 𝕄)) = bigSep Finset.univ fun j : Fin 32 => ((c : Thread nD τ).loc hb) ↦{tokj s j} A :=
  Transfers.pointsTo_deal _ Finset.univ_nonempty _

theorem hb_toks (A : S8x4096x16x128.Idx → Elt F .f32) :
    ((((c : Thread nD τ).loc hb) ↦{fullShare} A : sProp 𝕄)) = bigSep Finset.univ fun s : Fin 3 => ((c : Thread nD τ).loc hb) ↦{tok s} A :=
  Transfers.pointsTo_deal _ Finset.univ_nonempty _

theorem vb_slots (f : S3x8x32x16x128.Idx → Elt F .f32) :
    ((((c : Thread nD τ).loc vb) ↦{fullShare} f : sProp 𝕄))
      = bigSep Finset.univ fun s : Fin 3 => ((c : Thread nD τ).loc vb) ↦[slotSet c s]{fullShare} f := by
  have e : (Finset.univ : Finset (Idx ((c : Thread nD τ).loc vb))) = Finset.univ.biUnion (fun s : Fin 3 => slotSet (τ := τ) c s) := by
    refine Finset.ext fun y => ?_
    rw [Finset.mem_biUnion]
    exact ⟨fun _ => ⟨(y : SIdx) 0, Finset.mem_univ _, (mem_slotSet c _ y).2 rfl⟩, fun _ => Finset.mem_univ _⟩
  rw [e, pointsTo_biUnion Finset.univ (fun s : Fin 3 => slotSet (τ := τ) c s)]
  · intro a _ b _ hab
    refine Finset.disjoint_left.2 fun y h h' => hab (Fin.ext ?_)
    exact ((mem_slotSet c a y).1 h).symm.trans ((mem_slotSet c b y).1 h')

/-- An idle slot starts its copies. -/
theorem start (A : S8x4096x16x128.Idx → Elt F .f32) (s : Fin 3) (p : Fin 32 → Fin 4096) (f : S3x8x32x16x128.Idx → Elt F .f32) :
    idleAt (τ := τ) c A s f ⊢ (|={Set.univ}=> issuing c A s p f 0 : sProp 𝕄) := by
  unfold idleAt issuing batch
  rw [slot_pieces, tok_pieces, Ring.rangeSet_univ, Ring.bigSep_rangeSet_empty (le_refl 0), BI.bigSep_sep']
  iintro ⟨Hv, Hp, Ht⟩
  imod (Transfers.batch_alloc' (Lvl := ℕ) (countersEmb (U := Pipeline.UD sig nD τ)) (c : Thread nD τ) () NN (D c A s p) (sm := .dma (sem s)) (E := Set.univ)) $$ Hv with HB
  imodintro
  isplitl [HB]; · iexact HB
  isplitl [Hp Ht]
  · isplitl [Hp]; · iexact Hp
    iexact Ht
  iempintro

/-- A slot whose copies have all been started. -/
theorem issued (A : S8x4096x16x128.Idx → Elt F .f32) (s : Fin 3) (p : Fin 32 → Fin 4096) (f : S3x8x32x16x128.Idx → Elt F .f32) :
    issuing (τ := τ) c A s p f 32 ⊢ flying c A s p := by
  unfold issuing flying
  rw [Ring.rangeSet_univ, Ring.bigSep_rangeSet_empty (le_refl 32)]
  iintro ⟨HB, -, H⟩
  isplitl [HB]; · iexact HB
  iexact H

/-- What comes back of a slot waited for. -/
theorem arrived (A : S8x4096x16x128.Idx → Elt F .f32) (s : Fin 3) (p : Fin 32 → Fin 4096) :
    iprop(bigSep Finset.univ (D (τ := τ) c A s p) ∗ semVal ((c : Thread nD τ), SemLoc.dma (sem s)) 0
      ∗ bigSep Finset.univ (fun j => iprop((((c : Thread nD τ).loc hb) ↦[Finset.univ \ pageSet c (p j)]{tokj s j} A))))
      ⊢ (idleAt c A s (landed A p) : sProp 𝕄) := by
  have e : bigSep Finset.univ (D (F := F) (τ := τ) c A s p)
      = iprop(bigSep Finset.univ (fun j : Fin 32 => (((c : Thread nD τ).loc vb) ↦[pieceSet c s j]{fullShare} landed A p : sProp 𝕄))
        ∗ bigSep Finset.univ (fun j : Fin 32 => (((c : Thread nD τ).loc hb) ↦[pageSet c (p j)]{tokj s j} A : sProp 𝕄))) := BI.bigSep_sep' _ _ _
  have e' := BI.bigSep_sep' Finset.univ (fun j : Fin 32 => (((c : Thread nD τ).loc hb) ↦[pageSet c (p j)]{tokj s j} A : sProp 𝕄))
    (fun j : Fin 32 => (((c : Thread nD τ).loc hb) ↦[Finset.univ \ pageSet c (p j)]{tokj s j} A : sProp 𝕄))
  unfold idleAt
  rw [slot_pieces, tok_pieces, e]
  iintro ⟨⟨Hp, Ht⟩, Hv, Hc⟩
  isplitl [Hv]; · iexact Hv
  isplitl [Hp]; · iexact Hp
  ihave H := (Entails.of_eq e'.symm) $$ [Ht Hc]
  · isplitl [Ht]; · iexact Ht
    iexact Hc
  iapply (show bigSep Finset.univ (fun j : Fin 32 => iprop((((c : Thread nD τ).loc hb) ↦[pageSet c (p j)]{tokj s j} A) ∗ (((c : Thread nD τ).loc hb) ↦[Finset.univ \ pageSet c (p j)]{tokj s j} A) : sProp 𝕄))
    ⊢ bigSep Finset.univ (fun j : Fin 32 => (((c : Thread nD τ).loc hb) ↦{tokj s j} A : sProp 𝕄)) from
    BI.bigSep_mono (fun j _ => (pointsTo_split_subset (Finset.subset_univ (pageSet c (p j)))).2)) $$ H

/-! ## One copy's start and one slot's wait -/

section Steps

variable {Λ : Labels} {defs : Defs nD τ sig (Elt F) Λ} (𝒱 : Variants) (bd : Option 𝒱.V) {α : Type}

/-- The source of a copy: page `p` of the array. -/
abbrev srcM (o : Fin 4 → ℕ) (h : ∀ a, o a + S8x1x16x128.size a ≤ S8x4096x16x128.size a) : Memref sig .tc .hbm S8x16x128 .f32 :=
  ((Memref.whole hb).slice (Rect.unit (s := S8x4096x16x128) o S8x1x16x128.size h) (fun _ => rfl)).squeeze S8x16x128 squeezes_S8x1x16x128_S8x16x128
/-- The destination of a copy: a place of a slot. -/
abbrev dstM (o : Fin 5 → ℕ) (h : ∀ a, o a + S1x8x1x16x128.size a ≤ S3x8x32x16x128.size a) : Memref sig .tc .vmem S8x16x128 .f32 :=
  ((Memref.whole vb).slice (Rect.unit (s := S3x8x32x16x128) o S1x8x1x16x128.size h) (fun _ => rfl)).squeeze S8x16x128 squeezes_S1x8x1x16x128_S8x16x128

theorem src_set (p : Fin 4096) {o : Fin 4 → ℕ} (ho : o = ![0, p.val, 0, 0]) (h) :
    (srcM o h).view.set = pageSet (τ := τ) c p := by
  subst ho
  unfold srcM
  refine Finset.ext fun y => ?_
  rw [mem_pageSet]
  simp only [Memref.squeeze, Memref.slice, View.set_reshape]
  rw [View.set_slice_whole, Rect.mem_set_unit]
  constructor
  · intro h; have := h 1; simp at this; omega
  · intro h a; fin_cases a
    · exact ⟨Nat.zero_le _, lt_of_lt_of_eq ((y : PIdx) 0).isLt (Nat.zero_add _).symm⟩
    · exact ⟨le_of_eq h.symm, lt_of_eq_of_lt h (Nat.lt_succ_self _)⟩
    · exact ⟨Nat.zero_le _, lt_of_lt_of_eq ((y : PIdx) 2).isLt (Nat.zero_add _).symm⟩
    · exact ⟨Nat.zero_le _, lt_of_lt_of_eq ((y : PIdx) 3).isLt (Nat.zero_add _).symm⟩

theorem dst_set (s : Fin 3) (j : Fin 32) {o : Fin 5 → ℕ} (ho : o = ![s.val, 0, j.val, 0, 0]) (h) :
    (dstM o h).view.set = pieceSet (τ := τ) c s j := by
  subst ho
  unfold dstM
  refine Finset.ext fun y => ?_
  rw [mem_pieceSet]
  simp only [Memref.squeeze, Memref.slice, View.set_reshape]
  rw [View.set_slice_whole, Rect.mem_set_unit]
  constructor
  · intro h; have h0 := h 0; have h2 := h 2; simp at h0 h2; omega
  · intro h a; fin_cases a
    · exact ⟨le_of_eq h.1.symm, lt_of_eq_of_lt h.1 (Nat.lt_succ_self _)⟩
    · exact ⟨Nat.zero_le _, lt_of_lt_of_eq ((y : SIdx) 1).isLt (Nat.zero_add _).symm⟩
    · exact ⟨le_of_eq h.2.symm, lt_of_eq_of_lt h.2 (Nat.lt_succ_self _)⟩
    · exact ⟨Nat.zero_le _, lt_of_lt_of_eq ((y : SIdx) 3).isLt (Nat.zero_add _).symm⟩
    · exact ⟨Nat.zero_le _, lt_of_lt_of_eq ((y : SIdx) 4).isLt (Nat.zero_add _).symm⟩

theorem src_emb (p : Fin 4096) (h : ∀ a, (![0, p.val, 0, 0] : Fin 4 → ℕ) a + S8x1x16x128.size a ≤ S8x4096x16x128.size a)
    (a : Fin 8) (b : Fin 16) (d : Fin 128) :
    (srcM ![0, p.val, 0, 0] h).view.emb (ix3 a b d) = (ix4 a p b d : PIdx) := by
  show (Rect.unit (s := S8x4096x16x128) _ _ h).emb (Shape.reshapeEquiv _ (ix3 a b d)) = _
  rw [Shape.reshapeEquiv_eq_of_rowMajor _ (y := (ix4 a 0 b d : S8x1x16x128.Idx))
    (by rw [Shape.rowMajor_val_three, Shape.rowMajor_val_four]; simp [ix3, ix4])]
  funext x
  apply Fin.ext
  fin_cases x <;> simp only [Rect.emb_apply, Rect.off_unit, Rect.stride_unit] <;> simp [ix4]

theorem dst_emb (s : Fin 3) (j : Fin 32) (h : ∀ a, (![s.val, 0, j.val, 0, 0] : Fin 5 → ℕ) a + S1x8x1x16x128.size a ≤ S3x8x32x16x128.size a)
    (a : Fin 8) (b : Fin 16) (d : Fin 128) :
    (dstM ![s.val, 0, j.val, 0, 0] h).view.emb (ix3 a b d) = (ix5 s a j b d : SIdx) := by
  show (Rect.unit (s := S3x8x32x16x128) _ _ h).emb (Shape.reshapeEquiv _ (ix3 a b d)) = _
  rw [Shape.reshapeEquiv_eq_of_rowMajor _ (y := (ix5 0 a 0 b d : S1x8x1x16x128.Idx))
    (by rw [Shape.rowMajor_val_three, Shape.rowMajor_val_five]; simp [ix3, ix5])]
  funext x
  apply Fin.ext
  fin_cases x <;> simp only [Rect.emb_apply, Rect.off_unit, Rect.stride_unit] <;> simp [ix5]

/-- What a copy writes is the page, in its place. -/
theorem write_landed (A : S8x4096x16x128.Idx → Elt F .f32) (s : Fin 3) (p : Fin 32 → Fin 4096) (j : Fin 32)
    (f : S3x8x32x16x128.Idx → Elt F .f32) {os : Fin 4 → ℕ} {od : Fin 5 → ℕ} (hos : os = ![0, (p j).val, 0, 0])
    (hod : od = ![s.val, 0, j.val, 0, 0]) (hs) (hd) (y : SIdx) (hy : y ∈ pieceSet (τ := τ) c s j) :
    (dstM od hd).view.write (Elt F) f ((srcM os hs).view.read (Elt F) A) Finset.univ y = landed A p y := by
  subst hos hod
  obtain ⟨y0, a, y2, b, d, rfl⟩ : ∃ (y0 : Fin 3) (a : Fin 8) (y2 : Fin 32) (b : Fin 16) (d : Fin 128), y = (ix5 y0 a y2 b d : SIdx) :=
    ⟨y 0, y 1, y 2, y 3, y 4, eq_ix5 y⟩
  obtain ⟨h0, h2⟩ := (mem_pieceSet c s j (ix5 y0 a y2 b d)).1 hy
  obtain rfl : y0 = s := Fin.ext h0
  obtain rfl : y2 = j := Fin.ext h2
  have ed := dst_emb y0 y2 hd a b d
  have es := src_emb (p y2) hs a b d
  rw [← ed, View.write_emb_of_mem _ _ (Finset.mem_univ _), View.read_apply, es, ed]
  rfl

/-- ONE COPY'S START. -/
theorem wp_issue (A : S8x4096x16x128.Idx → Elt F .f32) (s : Fin 3) (p : Fin 32 → Fin 4096) (f : S3x8x32x16x128.Idx → Elt F .f32)
    (k : ℕ) (hk : k < 32) {os : Fin 4 → ℕ} {od : Fin 5 → ℕ} {sm : DmaSem sig} (hs) (hd)
    (hos : os = ![0, (p ⟨k, hk⟩).val, 0, 0]) (hod : od = ![s.val, 0, k, 0, 0]) (hsm : sm = sem s)
    {hsrc : (srcM os hs).view.WordExact} {hdst : (dstM od hd).view.WordExact}
    {hsem : DmaTarget.Typed (nD := nD) (τ := τ) (p := .tc) .hbm (.dma sm) (.here (dstM od hd))} {kont : PUnit → Prog (TpuEff nD τ sig (Elt F) Λ .tc) α} {Q : α → sProp 𝕄} :
    issuing c A s p f k
      ⊢ iprop((issuing c A s p f (k + 1) -∗ wp frame (wpE defs 𝒱 (c : Thread nD τ) bd) Set.univ (kont ⟨⟩) Q)
        -∗ wp frame (wpE defs 𝒱 (c : Thread nD τ) bd) Set.univ (.op (.enqueueDma (srcM os hs) (.here (dstM od hd)) (.dma sm) hsrc hdst hsem) kont) Q) := by
  subst hsm
  unfold issuing
  rw [Ring.bigSep_rangeSet_head hk hk, Ring.bigSep_rangeSet_last (hi := k + 1) (by omega) (by omega)]
  iintro ⟨HB, ⟨⟨Hp, Ht⟩, Hr⟩, Hd⟩ Hk
  ihave Ht := (pointsTo_split_subset (Finset.subset_univ (pageSet c (p ⟨k, hk⟩)))).1 $$ Ht
  icases Ht with ⟨Hpg, Hrest⟩
  unfold batch
  have hD : iprop(((dstM od hd).view.loc (c : Thread nD τ) ↦[pieceSet c s ⟨k, hk⟩]{fullShare}
        ((dstM od hd).view.write (Elt F) f (ReadAs.same.apply ((srcM os hs).view.read (Elt F) A)) Finset.univ))
      ∗ ((srcM os hs).view.loc (c : Thread nD τ) ↦[(srcM os hs).view.set]{tokj s ⟨k, hk⟩} A)) ⊢ (D c A s p ⟨k, hk⟩ : sProp 𝕄) := by
    unfold D
    refine sep_mono (Entails.of_eq (pointsTo_congr fun y hy => ?_)) (Entails.of_eq ?_)
    · exact write_landed c A s p ⟨k, hk⟩ f hos hod hs hd y hy
    · rw [src_set c (p ⟨k, hk⟩) hos hs]
  iapply (Transfers.wp_dmaBatch (countersEmb (U := Pipeline.UD sig nD τ)) 𝒱 (c : Thread nD τ) bd (src := srcM os hs) (dst := dstM od hd) (via := .same)
    (q := tokj s ⟨k, hk⟩) (fs := A) (Sd := pieceSet c s ⟨k, hk⟩) (fd := f) (D := D c A s p) (j := k) (u := 0)
    () NN rfl (dst_set c s ⟨k, hk⟩ hod hd).subset hk (Nat.zero_le _) hD) $$ [HB Hp Hpg]
  · isplitl [Hpg]
    · rw [src_set c (p ⟨k, hk⟩) hos hs]; iexact Hpg
    isplitl [Hp]; · iexact Hp
    iexact HB
  iintro HB
  iapply Hk
  isplitl [HB]; · iexact HB
  isplitl [Hr]; · iexact Hr
  isplitl [Hrest]; · iexact Hrest
  iexact Hd

/-- The destination a slot's wait names: the whole slot. -/
abbrev waitM (o : Fin 5 → ℕ) (h : ∀ a, o a + S1x8x32x16x128.size a ≤ S3x8x32x16x128.size a) : Memref sig .tc .vmem S8x32x16x128 .f32 :=
  ((Memref.whole vb).slice (Rect.unit (s := S3x8x32x16x128) o S1x8x32x16x128.size h) (fun _ => rfl)).squeeze S8x32x16x128 squeezes_S1x8x32x16x128_S8x32x16x128

/-- ONE SLOT'S WAIT: a wait for as many units as the slot's thirty-two copies credit, so the pages are in their places. -/
theorem wp_arrive (A : S8x4096x16x128.Idx → Elt F .f32) (s : Fin 3) (p : Fin 32 → Fin 4096) {o : Fin 5 → ℕ} {sm : DmaSem sig} (h)
    (hsm : sm = sem s) {sp' : Space} {s' : Shape} {e' : EltTy} {W : Waits sig Unit}
    {srcw : Memref sig .tc sp' s' e'} {hsrc : srcw.view.WordExact} {hdst : (waitM o h).view.WordExact}
    {kont : PUnit → Prog (TpuEff nD τ sig (Elt F) Λ .tc) α} {Q : α → sProp 𝕄} :
    iprop(flying c A s p ∗ owes (c : Thread nD τ) 0 W)
      ⊢ iprop((iprop(idleAt c A s (landed A p) ∗ owes (c : Thread nD τ) 0 (insert (SemLoc.dma sm, ()) W)) -∗ wp frame (wpE defs 𝒱 (c : Thread nD τ) bd) Set.univ (kont ⟨⟩) Q)
        -∗ wp frame (wpE defs 𝒱 (c : Thread nD τ) bd) Set.univ (.op (.waitDma2 sm srcw (waitM o h) hsrc hdst) kont) Q) := by
  subst hsm
  have hN : 0 < NN := by decide
  have hJ : 0 + RefSig.tileCredit S8x32x16x128 .f32 = NN * 32 := by decide
  unfold flying batch
  iintro ⟨⟨HB, Hc⟩, HO⟩ Hk
  iapply (Transfers.wp_waitBatchAll (countersEmb (U := Pipeline.UD sig nD τ)) 𝒱 (c : Thread nD τ) bd (dstw := waitM o h) (N := NN)
    (J := RefSig.tileCredit S8x32x16x128 .f32) () rfl hN (D := D c A s p) (u := 0) hJ) $$ [HB HO]
  · isplitl [HB]; · iexact HB
    iexact HO
  iintro ⟨HD, Hv, HO⟩
  iapply Hk
  isplitr [HO]
  · iapply (arrived c A s p)
    isplitl [HD]; · iexact HD
    isplitl [Hv]; · iexact Hv
    iexact Hc
  iexact HO

/-- What a load of slot `s` reads. -/
def slotOf (f : S3x8x32x16x128.Idx → Elt F .f32) (s : Fin 3) : S1x8x32x16x128.Idx → Elt F .f32 :=
  fun x => f (ix5 s (x 1) (x 2) (x 3) (x 4))

/-- The slots with row `r` of page `j` of slot `s` overwritten by `w`. -/
def putRow (f : S3x8x32x16x128.Idx → Elt F .f32) (s : Fin 3) (j : Fin 32) (r : Fin 16) (w : S1x8x1x1x128.Idx → Elt F .f32) :
    S3x8x32x16x128.Idx → Elt F .f32 :=
  fun y => if (y 0).val = s.val ∧ (y 2).val = j.val ∧ (y 3).val = r.val then w (ix5 0 (y 1) 0 0 (y 4)) else f y

/-- A load of a rectangle of slot `s`. -/
theorem wp_loadIn (A : S8x4096x16x128.Idx → Elt F .f32) (s : Fin 3) (f : S3x8x32x16x128.Idx → Elt F .f32) (r : LoadRect S3x8x32x16x128)
    (hr : ∀ y ∈ r.set, (y 0).val = s.val) {hl : (Memref.whole vb : Memref sig .tc .vmem S3x8x32x16x128 .f32).view.LoadsAt r}
    {kont : (r.shape.Idx → Elt F .f32) → Prog (TpuEff nD τ sig (Elt F) Λ .tc) α} {Q : α → sProp 𝕄} :
    idleAt c A s f
      ⊢ iprop((idleAt c A s f -∗ wp frame (wpE defs 𝒱 (c : Thread nD τ) bd) Set.univ (kont ((Memref.whole vb).view.readAt (Elt F) r f)) Q)
        -∗ wp frame (wpE defs 𝒱 (c : Thread nD τ) bd) Set.univ (.op (.load (Memref.whole vb : Memref sig .tc .vmem S3x8x32x16x128 .f32) r hl) kont) Q) := by
  unfold idleAt
  have hS : (Memref.whole vb : Memref sig .tc .vmem S3x8x32x16x128 .f32).view.setOn r.set ⊆ slotSet (τ := τ) c s := by
    intro y hy
    obtain ⟨x, hx, rfl⟩ := Finset.mem_map.1 hy
    exact (mem_slotSet c s x).2 (hr x hx)
  iintro ⟨Hv, Hf, Ht⟩ Hk
  iapply (wp_load 𝒱 (c : Thread nD τ) bd Set.univ (m := (Memref.whole vb : Memref sig .tc .vmem S3x8x32x16x128 .f32)) (S := slotSet c s) (f := f) (q := fullShare) hS) $$ [Hf]
  · iexact Hf
  iintro Hf
  iapply Hk
  isplitl [Hv]; · iexact Hv
  isplitl [Hf]; · iexact Hf
  iexact Ht

theorem readAt_slot (s : Fin 3) (f : S3x8x32x16x128.Idx → Elt F .f32) {o : Fin 5 → ℕ} (ho : o = ![s.val, 0, 0, 0, 0]) (h) :
    (Memref.whole vb : Memref sig .tc .vmem S3x8x32x16x128 .f32).view.readAt (Elt F) (Rect.unit (s := S3x8x32x16x128) o S1x8x32x16x128.size h).toLoadRect f = slotOf f s := by
  subst ho
  funext x
  rw [View.readAt_apply]
  unfold slotOf
  show f _ = f _
  congr 1
  funext a
  apply Fin.ext
  obtain ⟨x0, x1, x2, x3, x4, rfl⟩ : ∃ (x0 : Fin 1) (x1 : Fin 8) (x2 : Fin 32) (x3 : Fin 16) (x4 : Fin 128), x = (ix5 x0 x1 x2 x3 x4 : S1x8x32x16x128.Idx) :=
    ⟨x 0, x 1, x 2, x 3, x 4, eq_ix5 x⟩
  have h0 : x0.val = 0 := by omega
  fin_cases a
  · show s.val + 1 * x0.val = s.val; omega
  · show 0 + 1 * x1.val = x1.val; omega
  · show 0 + 1 * x2.val = x2.val; omega
  · show 0 + 1 * x3.val = x3.val; omega
  · show 0 + 1 * x4.val = x4.val; omega

/-- A load of slot `s`. -/
theorem wp_loadSlot (A : S8x4096x16x128.Idx → Elt F .f32) (s : Fin 3) (f : S3x8x32x16x128.Idx → Elt F .f32) {o : Fin 5 → ℕ} (h)
    (ho : o = ![s.val, 0, 0, 0, 0])
    {hl : (Memref.whole vb : Memref sig .tc .vmem S3x8x32x16x128 .f32).view.LoadsAt (Rect.unit (s := S3x8x32x16x128) o S1x8x32x16x128.size h).toLoadRect}
    {kont : (S1x8x32x16x128.Idx → Elt F .f32) → Prog (TpuEff nD τ sig (Elt F) Λ .tc) α} {Q : α → sProp 𝕄} :
    idleAt c A s f
      ⊢ iprop((idleAt c A s f -∗ wp frame (wpE defs 𝒱 (c : Thread nD τ) bd) Set.univ (kont (slotOf f s)) Q)
        -∗ wp frame (wpE defs 𝒱 (c : Thread nD τ) bd) Set.univ (.op (.load (Memref.whole vb : Memref sig .tc .vmem S3x8x32x16x128 .f32) (Rect.unit (s := S3x8x32x16x128) o S1x8x32x16x128.size h).toLoadRect hl) kont) Q) := by
  have e := wp_loadIn (defs := defs) c 𝒱 bd A s f (Rect.unit (s := S3x8x32x16x128) o S1x8x32x16x128.size h).toLoadRect
    (fun y hy => by
      subst ho
      have := (Rect.mem_set_unit.1 hy) 0
      have h0 : s.val ≤ (y 0).val ∧ (y 0).val < s.val + 1 := this
      omega) (hl := hl) (kont := kont) (Q := Q)
  rw [readAt_slot s f ho] at e
  exact e

/-- The row a new token overwrites: its loads and its store. -/
theorem row_mem (s : Fin 3) (j : Fin 32) (r : Fin 16) {o : Fin 5 → ℕ} (ho : o = ![s.val, 0, j.val, r.val, 0])
    (h : ∀ a, o a + S1x8x1x1x128.size a ≤ S3x8x32x16x128.size a) (y : SIdx) :
    y ∈ (Rect.unit (s := S3x8x32x16x128) o S1x8x1x1x128.size h).set ↔ ((y 0).val = s.val ∧ (y 2).val = j.val ∧ (y 3).val = r.val) := by
  subst ho
  rw [Rect.mem_set_unit]
  constructor
  · intro h
    have h0 : s.val ≤ (y 0).val ∧ (y 0).val < s.val + 1 := h 0
    have h2 : j.val ≤ (y 2).val ∧ (y 2).val < j.val + 1 := h 2
    have h3 : r.val ≤ (y 3).val ∧ (y 3).val < r.val + 1 := h 3
    omega
  · rintro ⟨h0, h2, h3⟩ a
    fin_cases a
    · exact ⟨le_of_eq h0.symm, lt_of_eq_of_lt h0 (Nat.lt_succ_self _)⟩
    · exact ⟨Nat.zero_le _, lt_of_lt_of_eq ((y : SIdx) 1).isLt (Nat.zero_add _).symm⟩
    · exact ⟨le_of_eq h2.symm, lt_of_eq_of_lt h2 (Nat.lt_succ_self _)⟩
    · exact ⟨le_of_eq h3.symm, lt_of_eq_of_lt h3 (Nat.lt_succ_self _)⟩
    · exact ⟨Nat.zero_le _, lt_of_lt_of_eq ((y : SIdx) 4).isLt (Nat.zero_add _).symm⟩

theorem row_set (o : Fin 5 → ℕ) (h : ∀ a, o a + S1x8x1x1x128.size a ≤ S3x8x32x16x128.size a) :
    ((Memref.whole vb : Memref sig .tc .vmem S3x8x32x16x128 .f32).access (Rect.unit (s := S3x8x32x16x128) o S1x8x1x1x128.size h)).setOn Finset.univ
      = (Rect.unit (s := S3x8x32x16x128) o S1x8x1x1x128.size h).set :=
  View.set_slice_whole vb (Rect.unit (s := S3x8x32x16x128) o S1x8x1x1x128.size h)

/-- The store of a row. -/
theorem write_row (s : Fin 3) (j : Fin 32) (r : Fin 16) (f : S3x8x32x16x128.Idx → Elt F .f32) (w : S1x8x1x1x128.Idx → Elt F .f32)
    {o : Fin 5 → ℕ} (ho : o = ![s.val, 0, j.val, r.val, 0]) (h) :
    ((Memref.whole vb : Memref sig .tc .vmem S3x8x32x16x128 .f32).access (Rect.unit (s := S3x8x32x16x128) o S1x8x1x1x128.size h)).write (Elt F) f w Finset.univ
      = putRow f s j r w := by
  funext y
  unfold putRow
  by_cases hy : y ∈ (Rect.unit (s := S3x8x32x16x128) o S1x8x1x1x128.size h).set
  · rw [if_pos ((row_mem s j r ho h y).1 hy)]
    obtain ⟨x, rfl⟩ := (Rect.unit (s := S3x8x32x16x128) o S1x8x1x1x128.size h).toLoadRect.exists_idx_of_mem hy
    obtain ⟨x0, x1, x2, x3, x4, rfl⟩ : ∃ (x0 : Fin 1) (x1 : Fin 8) (x2 : Fin 1) (x3 : Fin 1) (x4 : Fin 128), x = (ix5 x0 x1 x2 x3 x4 : S1x8x1x1x128.Idx) :=
      ⟨x 0, x 1, x 2, x 3, x 4, eq_ix5 x⟩
    refine (View.write_emb_of_mem (v := (Memref.whole vb : Memref sig .tc .vmem S3x8x32x16x128 .f32).access (Rect.unit (s := S3x8x32x16x128) o S1x8x1x1x128.size h)) f w (Finset.mem_univ (ix5 x0 x1 x2 x3 x4 : S1x8x1x1x128.Idx))).trans ?_
    show w _ = w _
    congr 1
    subst ho
    funext a
    apply Fin.ext
    fin_cases a
    · show x0.val = 0; omega
    · show x1.val = 0 + 1 * x1.val; omega
    · show x2.val = 0; omega
    · show x3.val = 0; omega
    · show x4.val = 0 + 1 * x4.val; omega
  · rw [if_neg fun hn => hy ((row_mem s j r ho h y).2 hn)]
    refine View.write_of_not_mem (v := (Memref.whole vb : Memref sig .tc .vmem S3x8x32x16x128 .f32).access (Rect.unit (s := S3x8x32x16x128) o S1x8x1x1x128.size h)) f w _ ?_
    intro hm
    exact hy (row_set o h ▸ hm)

theorem wp_loadRow (A : S8x4096x16x128.Idx → Elt F .f32) (s : Fin 3) (j : Fin 32) (r : Fin 16) (f : S3x8x32x16x128.Idx → Elt F .f32)
    {o : Fin 5 → ℕ} (h) (ho : o = ![s.val, 0, j.val, r.val, 0])
    {hl : (Memref.whole vb : Memref sig .tc .vmem S3x8x32x16x128 .f32).view.LoadsAt (Rect.unit (s := S3x8x32x16x128) o S1x8x1x1x128.size h).toLoadRect}
    {kont : (S1x8x1x1x128.Idx → Elt F .f32) → Prog (TpuEff nD τ sig (Elt F) Λ .tc) α} {Q : α → sProp 𝕄} :
    idleAt c A s f
      ⊢ iprop((∀ v, idleAt c A s f -∗ wp frame (wpE defs 𝒱 (c : Thread nD τ) bd) Set.univ (kont v) Q)
        -∗ wp frame (wpE defs 𝒱 (c : Thread nD τ) bd) Set.univ (.op (.load (Memref.whole vb : Memref sig .tc .vmem S3x8x32x16x128 .f32) (Rect.unit (s := S3x8x32x16x128) o S1x8x1x1x128.size h).toLoadRect hl) kont) Q) := by
  iintro H Hk
  iapply (wp_loadIn (defs := defs) c 𝒱 bd A s f (Rect.unit (s := S3x8x32x16x128) o S1x8x1x1x128.size h).toLoadRect
    (fun y hy => ((row_mem s j r ho h y).1 hy).1) (hl := hl) (kont := kont) (Q := Q)) $$ H
  iapply Hk

theorem wp_storeRow (A : S8x4096x16x128.Idx → Elt F .f32) (s : Fin 3) (j : Fin 32) (r : Fin 16) (f : S3x8x32x16x128.Idx → Elt F .f32)
    (w : S1x8x1x1x128.Idx → Elt F .f32) {o : Fin 5 → ℕ} (h) (ho : o = ![s.val, 0, j.val, r.val, 0])
    {hx : ((Memref.whole vb : Memref sig .tc .vmem S3x8x32x16x128 .f32).access (Rect.unit (s := S3x8x32x16x128) o S1x8x1x1x128.size h)).Stores Finset.univ} {hm}
    {kont : PUnit → Prog (TpuEff nD τ sig (Elt F) Λ .tc) α} {Q : α → sProp 𝕄} :
    idleAt c A s f
      ⊢ iprop((idleAt c A s (putRow f s j r w) -∗ wp frame (wpE defs 𝒱 (c : Thread nD τ) bd) Set.univ (kont ⟨⟩) Q)
        -∗ wp frame (wpE defs 𝒱 (c : Thread nD τ) bd) Set.univ (.op (.store (Memref.whole vb : Memref sig .tc .vmem S3x8x32x16x128 .f32) (Rect.unit (s := S3x8x32x16x128) o S1x8x1x1x128.size h) w Finset.univ hx hm) kont) Q) := by
  unfold idleAt
  iintro ⟨Hv, Hf, Ht⟩ Hk
  have hS : ((Memref.whole vb : Memref sig .tc .vmem S3x8x32x16x128 .f32).access (Rect.unit (s := S3x8x32x16x128) o S1x8x1x1x128.size h)).setOn Finset.univ ⊆ slotSet (τ := τ) c s := by
    intro y hy
    refine (mem_slotSet c s y).2 ((row_mem s j r ho h y).1 ?_).1
    exact row_set o h ▸ hy
  iapply (wp_store 𝒱 (c : Thread nD τ) bd Set.univ (m := (Memref.whole vb : Memref sig .tc .vmem S3x8x32x16x128 .f32)) (S := slotSet c s) (f := f) hS) $$ [Hf]
  · iexact Hf
  rw [write_row s j r f w ho h]
  iintro Hf
  iapply Hk
  isplitl [Hv]; · iexact Hv
  isplitl [Hf]; · iexact Hf
  iexact Ht

end Steps

end Cert.KernelIdeal.KSide
-- ==== Proof.VSide.lean ====
/- The key pages' ring of slots: what a slot holds while its thirty-two page copies are in flight and when none is, and the
   steps of one copy's start and of one slot's wait. -/
module

public import proofs.«01_k».proof.KernelIdeal
public import proofs.«01_k».proof.Proof.Gen.KernelIdeal.Launch
public import Idealize.ShloMosaic.Lib.Batch
public import Idealize.ShloMosaic.Lib.Ring
public import Idealize.ShloMosaic.Lib.Tactic
public import Idealize.ShloMosaic.Lib.PointwiseCore

@[expose] public section

noncomputable section

namespace Cert.KernelIdeal.VSide

open Cert.KernelIdeal Cert.KernelIdeal.Gen
open Idealize.ShloMosaic Idealize.ShloMosaic.TcCoe
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA

variable {F : FTy → Type} [FloatOps F] [Named F] {nD : Nat} {τ : Topo}

local notation "𝕄" => MT nD τ sig Unit (Elt F) ℕ (Pipeline.UD sig nD τ) ℕ

/-- The array of pages, left in HBM. -/
abbrev hb : Ref sig .tc := main_arg5
/-- The three slots, in VMEM. -/
abbrev vb : Ref sig .tc := cc0_scratch1
/-- The column of this array's semaphores. -/
abbrev col : ℕ := 1

/-- The semaphore of slot `s`. -/
def sem (s : Fin 3) : DmaSem sig := ⟨6 + 2 * s.val + col, by have := s.isLt; show _ < 12; unfold col; omega⟩

/-- A page of the array. -/
abbrev PIdx : Type := S8x4096x16x128.Idx
/-- An element of the slots. -/
abbrev SIdx : Type := S3x8x32x16x128.Idx

variable (c : Dev nD)

/-- The elements of page `p`. -/
def pageSet (p : Fin 4096) : Finset (Idx ((c : Thread nD τ).loc hb)) := Finset.univ.filter fun y : PIdx => (y 1).val = p.val
/-- The elements of slot `s`. -/
def slotSet (s : Fin 3) : Finset (Idx ((c : Thread nD τ).loc vb)) := Finset.univ.filter fun y : SIdx => (y 0).val = s.val
/-- The elements of the place of page `j` in slot `s`. -/
def pieceSet (s : Fin 3) (j : Fin 32) : Finset (Idx ((c : Thread nD τ).loc vb)) :=
  Finset.univ.filter fun y : SIdx => (y 0).val = s.val ∧ (y 2).val = j.val

theorem mem_pageSet (p : Fin 4096) (y : PIdx) : y ∈ pageSet (τ := τ) c p ↔ (y 1).val = p.val := by simp [pageSet]
theorem mem_slotSet (s : Fin 3) (y : SIdx) : y ∈ slotSet (τ := τ) c s ↔ (y 0).val = s.val := by simp [slotSet]
theorem mem_pieceSet (s : Fin 3) (j : Fin 32) (y : SIdx) : y ∈ pieceSet (τ := τ) c s j ↔ (y 0).val = s.val ∧ (y 2).val = j.val := by
  simp [pieceSet]

/-- What a slot holds once the pages `p` have landed in it: page `p j` at place `j`. -/
def landed (A : S8x4096x16x128.Idx → Elt F .f32) (p : Fin 32 → Fin 4096) : S3x8x32x16x128.Idx → Elt F .f32 :=
  fun y => A (ix4 (y 1) (p (y 2)) (y 3) (y 4))

/-- The share of the array of pages that slot `s` lends, and the part of it that its copy `j` takes. -/
def tok (s : Fin 3) : PosShare TreeShare := Transfers.dealOf fullShare (Finset.univ : Finset (Fin 3)) s
def tokj (s : Fin 3) (j : Fin 32) : PosShare TreeShare := Transfers.dealOf (tok s) (Finset.univ : Finset (Fin 32)) j

/-- What copy `j` of slot `s` delivers: the page in its place, and the share of the page it read. -/
def D (A : S8x4096x16x128.Idx → Elt F .f32) (s : Fin 3) (p : Fin 32 → Fin 4096) (j : Fin 32) : sProp 𝕄 :=
  iprop((((c : Thread nD τ).loc vb) ↦[pieceSet c s j]{fullShare} landed A p) ∗ (((c : Thread nD τ).loc hb) ↦[pageSet c (p j)]{tokj s j} A))

instance D_storable (A : S8x4096x16x128.Idx → Elt F .f32) (s : Fin 3) (p : Fin 32 → Fin 4096) (j : Fin 32) :
    BI.Storable (upEmb : UEmb _ 𝕄) (D (F := F) (τ := τ) c A s p j) := by unfold D; infer_instance

/-- The units one page's copy credits. -/
abbrev NN : ℕ := RefSig.tileCredit S8x16x128 .f32

/-- The copies of pages `p` into slot `s`, `k` of them started. -/
def batch (A : S8x4096x16x128.Idx → Elt F .f32) (s : Fin 3) (p : Fin 32 → Fin 4096) (k : ℕ) : sProp 𝕄 :=
  Transfers.Batch (countersEmb (U := Pipeline.UD sig nD τ)) (c : Thread nD τ) (.dma (sem s)) () NN (D c A s p) k 0

/-- Slot `s` with no copy in flight and its elements at `f`. -/
def idleAt (A : S8x4096x16x128.Idx → Elt F .f32) (s : Fin 3) (f : S3x8x32x16x128.Idx → Elt F .f32) : sProp 𝕄 :=
  iprop(semVal ((c : Thread nD τ), SemLoc.dma (sem s)) 0 ∗ (((c : Thread nD τ).loc vb) ↦[slotSet c s]{fullShare} f)
    ∗ (((c : Thread nD τ).loc hb) ↦{tok s} A))

/-- Slot `s` with the first `k` copies of pages `p` started. -/
def issuing (A : S8x4096x16x128.Idx → Elt F .f32) (s : Fin 3) (p : Fin 32 → Fin 4096) (f : S3x8x32x16x128.Idx → Elt F .f32) (k : ℕ) : sProp 𝕄 :=
  iprop(batch c A s p k
    ∗ bigSep (Ring.rangeSet 32 k 32) (fun j => iprop((((c : Thread nD τ).loc vb) ↦[pieceSet c s j]{fullShare} f) ∗ (((c : Thread nD τ).loc hb) ↦{tokj s j} A)))
    ∗ bigSep (Ring.rangeSet 32 0 k) (fun j => iprop((((c : Thread nD τ).loc hb) ↦[Finset.univ \ pageSet c (p j)]{tokj s j} A))))

/-- Slot `s` with all the copies of pages `p` in flight. -/
def flying (A : S8x4096x16x128.Idx → Elt F .f32) (s : Fin 3) (p : Fin 32 → Fin 4096) : sProp 𝕄 :=
  iprop(batch c A s p 32
    ∗ bigSep Finset.univ (fun j => iprop((((c : Thread nD τ).loc hb) ↦[Finset.univ \ pageSet c (p j)]{tokj s j} A))))

theorem slot_pieces (s : Fin 3) (f : S3x8x32x16x128.Idx → Elt F .f32) :
    ((((c : Thread nD τ).loc vb) ↦[slotSet c s]{fullShare} f : sProp 𝕄))
      = bigSep Finset.univ fun j : Fin 32 => ((c : Thread nD τ).loc vb) ↦[pieceSet c s j]{fullShare} f := by
  have e : slotSet (τ := τ) c s = Finset.univ.biUnion (fun j : Fin 32 => pieceSet (τ := τ) c s j) := by
    refine Finset.ext fun y => ?_
    rw [Finset.mem_biUnion]
    constructor
    · intro h
      exact ⟨(y : SIdx) 2, Finset.mem_univ _, (mem_pieceSet c s _ y).2 ⟨(mem_slotSet c s y).1 h, rfl⟩⟩
    · rintro ⟨j, -, h⟩
      exact (mem_slotSet c s y).2 ((mem_pieceSet c s j y).1 h).1
  rw [e, pointsTo_biUnion Finset.univ (fun j : Fin 32 => pieceSet (τ := τ) c s j)]
  · intro a _ b _ hab
    refine Finset.disjoint_left.2 fun y h h' => hab (Fin.ext ?_)
    exact ((mem_pieceSet c s a y).1 h).2.symm.trans ((mem_pieceSet c s b y).1 h').2

theorem tok_pieces (A : S8x4096x16x128.Idx → Elt F .f32) (s : Fin 3) :
    ((((c : Thread nD τ).loc hb) ↦{tok s} A : sProp 𝕄)) = bigSep Finset.univ fun j : Fin 32 => ((c : Thread nD τ).loc hb) ↦{tokj s j} A :=
  Transfers.pointsTo_deal _ Finset.univ_nonempty _

theorem hb_toks (A : S8x4096x16x128.Idx → Elt F .f32) :
    ((((c : Thread nD τ).loc hb) ↦{fullShare} A : sProp 𝕄)) = bigSep Finset.univ fun s : Fin 3 => ((c : Thread nD τ).loc hb) ↦{tok s} A :=
  Transfers.pointsTo_deal _ Finset.univ_nonempty _

theorem vb_slots (f : S3x8x32x16x128.Idx → Elt F .f32) :
    ((((c : Thread nD τ).loc vb) ↦{fullShare} f : sProp 𝕄))
      = bigSep Finset.univ fun s : Fin 3 => ((c : Thread nD τ).loc vb) ↦[slotSet c s]{fullShare} f := by
  have e : (Finset.univ : Finset (Idx ((c : Thread nD τ).loc vb))) = Finset.univ.biUnion (fun s : Fin 3 => slotSet (τ := τ) c s) := by
    refine Finset.ext fun y => ?_
    rw [Finset.mem_biUnion]
    exact ⟨fun _ => ⟨(y : SIdx) 0, Finset.mem_univ _, (mem_slotSet c _ y).2 rfl⟩, fun _ => Finset.mem_univ _⟩
  rw [e, pointsTo_biUnion Finset.univ (fun s : Fin 3 => slotSet (τ := τ) c s)]
  · intro a _ b _ hab
    refine Finset.disjoint_left.2 fun y h h' => hab (Fin.ext ?_)
    exact ((mem_slotSet c a y).1 h).symm.trans ((mem_slotSet c b y).1 h')

/-- An idle slot starts its copies. -/
theorem start (A : S8x4096x16x128.Idx → Elt F .f32) (s : Fin 3) (p : Fin 32 → Fin 4096) (f : S3x8x32x16x128.Idx → Elt F .f32) :
    idleAt (τ := τ) c A s f ⊢ (|={Set.univ}=> issuing c A s p f 0 : sProp 𝕄) := by
  unfold idleAt issuing batch
  rw [slot_pieces, tok_pieces, Ring.rangeSet_univ, Ring.bigSep_rangeSet_empty (le_refl 0), BI.bigSep_sep']
  iintro ⟨Hv, Hp, Ht⟩
  imod (Transfers.batch_alloc' (Lvl := ℕ) (countersEmb (U := Pipeline.UD sig nD τ)) (c : Thread nD τ) () NN (D c A s p) (sm := .dma (sem s)) (E := Set.univ)) $$ Hv with HB
  imodintro
  isplitl [HB]; · iexact HB
  isplitl [Hp Ht]
  · isplitl [Hp]; · iexact Hp
    iexact Ht
  iempintro

/-- A slot whose copies have all been started. -/
theorem issued (A : S8x4096x16x128.Idx → Elt F .f32) (s : Fin 3) (p : Fin 32 → Fin 4096) (f : S3x8x32x16x128.Idx → Elt F .f32) :
    issuing (τ := τ) c A s p f 32 ⊢ flying c A s p := by
  unfold issuing flying
  rw [Ring.rangeSet_univ, Ring.bigSep_rangeSet_empty (le_refl 32)]
  iintro ⟨HB, -, H⟩
  isplitl [HB]; · iexact HB
  iexact H

/-- What comes back of a slot waited for. -/
theorem arrived (A : S8x4096x16x128.Idx → Elt F .f32) (s : Fin 3) (p : Fin 32 → Fin 4096) :
    iprop(bigSep Finset.univ (D (τ := τ) c A s p) ∗ semVal ((c : Thread nD τ), SemLoc.dma (sem s)) 0
      ∗ bigSep Finset.univ (fun j => iprop((((c : Thread nD τ).loc hb) ↦[Finset.univ \ pageSet c (p j)]{tokj s j} A))))
      ⊢ (idleAt c A s (landed A p) : sProp 𝕄) := by
  have e : bigSep Finset.univ (D (F := F) (τ := τ) c A s p)
      = iprop(bigSep Finset.univ (fun j : Fin 32 => (((c : Thread nD τ).loc vb) ↦[pieceSet c s j]{fullShare} landed A p : sProp 𝕄))
        ∗ bigSep Finset.univ (fun j : Fin 32 => (((c : Thread nD τ).loc hb) ↦[pageSet c (p j)]{tokj s j} A : sProp 𝕄))) := BI.bigSep_sep' _ _ _
  have e' := BI.bigSep_sep' Finset.univ (fun j : Fin 32 => (((c : Thread nD τ).loc hb) ↦[pageSet c (p j)]{tokj s j} A : sProp 𝕄))
    (fun j : Fin 32 => (((c : Thread nD τ).loc hb) ↦[Finset.univ \ pageSet c (p j)]{tokj s j} A : sProp 𝕄))
  unfold idleAt
  rw [slot_pieces, tok_pieces, e]
  iintro ⟨⟨Hp, Ht⟩, Hv, Hc⟩
  isplitl [Hv]; · iexact Hv
  isplitl [Hp]; · iexact Hp
  ihave H := (Entails.of_eq e'.symm) $$ [Ht Hc]
  · isplitl [Ht]; · iexact Ht
    iexact Hc
  iapply (show bigSep Finset.univ (fun j : Fin 32 => iprop((((c : Thread nD τ).loc hb) ↦[pageSet c (p j)]{tokj s j} A) ∗ (((c : Thread nD τ).loc hb) ↦[Finset.univ \ pageSet c (p j)]{tokj s j} A) : sProp 𝕄))
    ⊢ bigSep Finset.univ (fun j : Fin 32 => (((c : Thread nD τ).loc hb) ↦{tokj s j} A : sProp 𝕄)) from
    BI.bigSep_mono (fun j _ => (pointsTo_split_subset (Finset.subset_univ (pageSet c (p j)))).2)) $$ H

/-! ## One copy's start and one slot's wait -/

section Steps

variable {Λ : Labels} {defs : Defs nD τ sig (Elt F) Λ} (𝒱 : Variants) (bd : Option 𝒱.V) {α : Type}

/-- The source of a copy: page `p` of the array. -/
abbrev srcM (o : Fin 4 → ℕ) (h : ∀ a, o a + S8x1x16x128.size a ≤ S8x4096x16x128.size a) : Memref sig .tc .hbm S8x16x128 .f32 :=
  ((Memref.whole hb).slice (Rect.unit (s := S8x4096x16x128) o S8x1x16x128.size h) (fun _ => rfl)).squeeze S8x16x128 squeezes_S8x1x16x128_S8x16x128
/-- The destination of a copy: a place of a slot. -/
abbrev dstM (o : Fin 5 → ℕ) (h : ∀ a, o a + S1x8x1x16x128.size a ≤ S3x8x32x16x128.size a) : Memref sig .tc .vmem S8x16x128 .f32 :=
  ((Memref.whole vb).slice (Rect.unit (s := S3x8x32x16x128) o S1x8x1x16x128.size h) (fun _ => rfl)).squeeze S8x16x128 squeezes_S1x8x1x16x128_S8x16x128

theorem src_set (p : Fin 4096) {o : Fin 4 → ℕ} (ho : o = ![0, p.val, 0, 0]) (h) :
    (srcM o h).view.set = pageSet (τ := τ) c p := by
  subst ho
  unfold srcM
  refine Finset.ext fun y => ?_
  rw [mem_pageSet]
  simp only [Memref.squeeze, Memref.slice, View.set_reshape]
  rw [View.set_slice_whole, Rect.mem_set_unit]
  constructor
  · intro h; have := h 1; simp at this; omega
  · intro h a; fin_cases a
    · exact ⟨Nat.zero_le _, lt_of_lt_of_eq ((y : PIdx) 0).isLt (Nat.zero_add _).symm⟩
    · exact ⟨le_of_eq h.symm, lt_of_eq_of_lt h (Nat.lt_succ_self _)⟩
    · exact ⟨Nat.zero_le _, lt_of_lt_of_eq ((y : PIdx) 2).isLt (Nat.zero_add _).symm⟩
    · exact ⟨Nat.zero_le _, lt_of_lt_of_eq ((y : PIdx) 3).isLt (Nat.zero_add _).symm⟩

theorem dst_set (s : Fin 3) (j : Fin 32) {o : Fin 5 → ℕ} (ho : o = ![s.val, 0, j.val, 0, 0]) (h) :
    (dstM o h).view.set = pieceSet (τ := τ) c s j := by
  subst ho
  unfold dstM
  refine Finset.ext fun y => ?_
  rw [mem_pieceSet]
  simp only [Memref.squeeze, Memref.slice, View.set_reshape]
  rw [View.set_slice_whole, Rect.mem_set_unit]
  constructor
  · intro h; have h0 := h 0; have h2 := h 2; simp at h0 h2; omega
  · intro h a; fin_cases a
    · exact ⟨le_of_eq h.1.symm, lt_of_eq_of_lt h.1 (Nat.lt_succ_self _)⟩
    · exact ⟨Nat.zero_le _, lt_of_lt_of_eq ((y : SIdx) 1).isLt (Nat.zero_add _).symm⟩
    · exact ⟨le_of_eq h.2.symm, lt_of_eq_of_lt h.2 (Nat.lt_succ_self _)⟩
    · exact ⟨Nat.zero_le _, lt_of_lt_of_eq ((y : SIdx) 3).isLt (Nat.zero_add _).symm⟩
    · exact ⟨Nat.zero_le _, lt_of_lt_of_eq ((y : SIdx) 4).isLt (Nat.zero_add _).symm⟩

theorem src_emb (p : Fin 4096) (h : ∀ a, (![0, p.val, 0, 0] : Fin 4 → ℕ) a + S8x1x16x128.size a ≤ S8x4096x16x128.size a)
    (a : Fin 8) (b : Fin 16) (d : Fin 128) :
    (srcM ![0, p.val, 0, 0] h).view.emb (ix3 a b d) = (ix4 a p b d : PIdx) := by
  show (Rect.unit (s := S8x4096x16x128) _ _ h).emb (Shape.reshapeEquiv _ (ix3 a b d)) = _
  rw [Shape.reshapeEquiv_eq_of_rowMajor _ (y := (ix4 a 0 b d : S8x1x16x128.Idx))
    (by rw [Shape.rowMajor_val_three, Shape.rowMajor_val_four]; simp [ix3, ix4])]
  funext x
  apply Fin.ext
  fin_cases x <;> simp only [Rect.emb_apply, Rect.off_unit, Rect.stride_unit] <;> simp [ix4]

theorem dst_emb (s : Fin 3) (j : Fin 32) (h : ∀ a, (![s.val, 0, j.val, 0, 0] : Fin 5 → ℕ) a + S1x8x1x16x128.size a ≤ S3x8x32x16x128.size a)
    (a : Fin 8) (b : Fin 16) (d : Fin 128) :
    (dstM ![s.val, 0, j.val, 0, 0] h).view.emb (ix3 a b d) = (ix5 s a j b d : SIdx) := by
  show (Rect.unit (s := S3x8x32x16x128) _ _ h).emb (Shape.reshapeEquiv _ (ix3 a b d)) = _
  rw [Shape.reshapeEquiv_eq_of_rowMajor _ (y := (ix5 0 a 0 b d : S1x8x1x16x128.Idx))
    (by rw [Shape.rowMajor_val_three, Shape.rowMajor_val_five]; simp [ix3, ix5])]
  funext x
  apply Fin.ext
  fin_cases x <;> simp only [Rect.emb_apply, Rect.off_unit, Rect.stride_unit] <;> simp [ix5]

/-- What a copy writes is the page, in its place. -/
theorem write_landed (A : S8x4096x16x128.Idx → Elt F .f32) (s : Fin 3) (p : Fin 32 → Fin 4096) (j : Fin 32)
    (f : S3x8x32x16x128.Idx → Elt F .f32) {os : Fin 4 → ℕ} {od : Fin 5 → ℕ} (hos : os = ![0, (p j).val, 0, 0])
    (hod : od = ![s.val, 0, j.val, 0, 0]) (hs) (hd) (y : SIdx) (hy : y ∈ pieceSet (τ := τ) c s j) :
    (dstM od hd).view.write (Elt F) f ((srcM os hs).view.read (Elt F) A) Finset.univ y = landed A p y := by
  subst hos hod
  obtain ⟨y0, a, y2, b, d, rfl⟩ : ∃ (y0 : Fin 3) (a : Fin 8) (y2 : Fin 32) (b : Fin 16) (d : Fin 128), y = (ix5 y0 a y2 b d : SIdx) :=
    ⟨y 0, y 1, y 2, y 3, y 4, eq_ix5 y⟩
  obtain ⟨h0, h2⟩ := (mem_pieceSet c s j (ix5 y0 a y2 b d)).1 hy
  obtain rfl : y0 = s := Fin.ext h0
  obtain rfl : y2 = j := Fin.ext h2
  have ed := dst_emb y0 y2 hd a b d
  have es := src_emb (p y2) hs a b d
  rw [← ed, View.write_emb_of_mem _ _ (Finset.mem_univ _), View.read_apply, es, ed]
  rfl

/-- ONE COPY'S START. -/
theorem wp_issue (A : S8x4096x16x128.Idx → Elt F .f32) (s : Fin 3) (p : Fin 32 → Fin 4096) (f : S3x8x32x16x128.Idx → Elt F .f32)
    (k : ℕ) (hk : k < 32) {os : Fin 4 → ℕ} {od : Fin 5 → ℕ} {sm : DmaSem sig} (hs) (hd)
    (hos : os = ![0, (p ⟨k, hk⟩).val, 0, 0]) (hod : od = ![s.val, 0, k, 0, 0]) (hsm : sm = sem s)
    {hsrc : (srcM os hs).view.WordExact} {hdst : (dstM od hd).view.WordExact}
    {hsem : DmaTarget.Typed (nD := nD) (τ := τ) (p := .tc) .hbm (.dma sm) (.here (dstM od hd))} {kont : PUnit → Prog (TpuEff nD τ sig (Elt F) Λ .tc) α} {Q : α → sProp 𝕄} :
    issuing c A s p f k
      ⊢ iprop((issuing c A s p f (k + 1) -∗ wp frame (wpE defs 𝒱 (c : Thread nD τ) bd) Set.univ (kont ⟨⟩) Q)
        -∗ wp frame (wpE defs 𝒱 (c : Thread nD τ) bd) Set.univ (.op (.enqueueDma (srcM os hs) (.here (dstM od hd)) (.dma sm) hsrc hdst hsem) kont) Q) := by
  subst hsm
  unfold issuing
  rw [Ring.bigSep_rangeSet_head hk hk, Ring.bigSep_rangeSet_last (hi := k + 1) (by omega) (by omega)]
  iintro ⟨HB, ⟨⟨Hp, Ht⟩, Hr⟩, Hd⟩ Hk
  ihave Ht := (pointsTo_split_subset (Finset.subset_univ (pageSet c (p ⟨k, hk⟩)))).1 $$ Ht
  icases Ht with ⟨Hpg, Hrest⟩
  unfold batch
  have hD : iprop(((dstM od hd).view.loc (c : Thread nD τ) ↦[pieceSet c s ⟨k, hk⟩]{fullShare}
        ((dstM od hd).view.write (Elt F) f (ReadAs.same.apply ((srcM os hs).view.read (Elt F) A)) Finset.univ))
      ∗ ((srcM os hs).view.loc (c : Thread nD τ) ↦[(srcM os hs).view.set]{tokj s ⟨k, hk⟩} A)) ⊢ (D c A s p ⟨k, hk⟩ : sProp 𝕄) := by
    unfold D
    refine sep_mono (Entails.of_eq (pointsTo_congr fun y hy => ?_)) (Entails.of_eq ?_)
    · exact write_landed c A s p ⟨k, hk⟩ f hos hod hs hd y hy
    · rw [src_set c (p ⟨k, hk⟩) hos hs]
  iapply (Transfers.wp_dmaBatch (countersEmb (U := Pipeline.UD sig nD τ)) 𝒱 (c : Thread nD τ) bd (src := srcM os hs) (dst := dstM od hd) (via := .same)
    (q := tokj s ⟨k, hk⟩) (fs := A) (Sd := pieceSet c s ⟨k, hk⟩) (fd := f) (D := D c A s p) (j := k) (u := 0)
    () NN rfl (dst_set c s ⟨k, hk⟩ hod hd).subset hk (Nat.zero_le _) hD) $$ [HB Hp Hpg]
  · isplitl [Hpg]
    · rw [src_set c (p ⟨k, hk⟩) hos hs]; iexact Hpg
    isplitl [Hp]; · iexact Hp
    iexact HB
  iintro HB
  iapply Hk
  isplitl [HB]; · iexact HB
  isplitl [Hr]; · iexact Hr
  isplitl [Hrest]; · iexact Hrest
  iexact Hd

/-- The destination a slot's wait names: the whole slot. -/
abbrev waitM (o : Fin 5 → ℕ) (h : ∀ a, o a + S1x8x32x16x128.size a ≤ S3x8x32x16x128.size a) : Memref sig .tc .vmem S8x32x16x128 .f32 :=
  ((Memref.whole vb).slice (Rect.unit (s := S3x8x32x16x128) o S1x8x32x16x128.size h) (fun _ => rfl)).squeeze S8x32x16x128 squeezes_S1x8x32x16x128_S8x32x16x128

/-- ONE SLOT'S WAIT: a wait for as many units as the slot's thirty-two copies credit, so the pages are in their places. -/
theorem wp_arrive (A : S8x4096x16x128.Idx → Elt F .f32) (s : Fin 3) (p : Fin 32 → Fin 4096) {o : Fin 5 → ℕ} {sm : DmaSem sig} (h)
    (hsm : sm = sem s) {sp' : Space} {s' : Shape} {e' : EltTy} {W : Waits sig Unit}
    {srcw : Memref sig .tc sp' s' e'} {hsrc : srcw.view.WordExact} {hdst : (waitM o h).view.WordExact}
    {kont : PUnit → Prog (TpuEff nD τ sig (Elt F) Λ .tc) α} {Q : α → sProp 𝕄} :
    iprop(flying c A s p ∗ owes (c : Thread nD τ) 0 W)
      ⊢ iprop((iprop(idleAt c A s (landed A p) ∗ owes (c : Thread nD τ) 0 (insert (SemLoc.dma sm, ()) W)) -∗ wp frame (wpE defs 𝒱 (c : Thread nD τ) bd) Set.univ (kont ⟨⟩) Q)
        -∗ wp frame (wpE defs 𝒱 (c : Thread nD τ) bd) Set.univ (.op (.waitDma2 sm srcw (waitM o h) hsrc hdst) kont) Q) := by
  subst hsm
  have hN : 0 < NN := by decide
  have hJ : 0 + RefSig.tileCredit S8x32x16x128 .f32 = NN * 32 := by decide
  unfold flying batch
  iintro ⟨⟨HB, Hc⟩, HO⟩ Hk
  iapply (Transfers.wp_waitBatchAll (countersEmb (U := Pipeline.UD sig nD τ)) 𝒱 (c : Thread nD τ) bd (dstw := waitM o h) (N := NN)
    (J := RefSig.tileCredit S8x32x16x128 .f32) () rfl hN (D := D c A s p) (u := 0) hJ) $$ [HB HO]
  · isplitl [HB]; · iexact HB
    iexact HO
  iintro ⟨HD, Hv, HO⟩
  iapply Hk
  isplitr [HO]
  · iapply (arrived c A s p)
    isplitl [HD]; · iexact HD
    isplitl [Hv]; · iexact Hv
    iexact Hc
  iexact HO

/-- What a load of slot `s` reads. -/
def slotOf (f : S3x8x32x16x128.Idx → Elt F .f32) (s : Fin 3) : S1x8x32x16x128.Idx → Elt F .f32 :=
  fun x => f (ix5 s (x 1) (x 2) (x 3) (x 4))

/-- The slots with row `r` of page `j` of slot `s` overwritten by `w`. -/
def putRow (f : S3x8x32x16x128.Idx → Elt F .f32) (s : Fin 3) (j : Fin 32) (r : Fin 16) (w : S1x8x1x1x128.Idx → Elt F .f32) :
    S3x8x32x16x128.Idx → Elt F .f32 :=
  fun y => if (y 0).val = s.val ∧ (y 2).val = j.val ∧ (y 3).val = r.val then w (ix5 0 (y 1) 0 0 (y 4)) else f y

/-- A load of a rectangle of slot `s`. -/
theorem wp_loadIn (A : S8x4096x16x128.Idx → Elt F .f32) (s : Fin 3) (f : S3x8x32x16x128.Idx → Elt F .f32) (r : LoadRect S3x8x32x16x128)
    (hr : ∀ y ∈ r.set, (y 0).val = s.val) {hl : (Memref.whole vb : Memref sig .tc .vmem S3x8x32x16x128 .f32).view.LoadsAt r}
    {kont : (r.shape.Idx → Elt F .f32) → Prog (TpuEff nD τ sig (Elt F) Λ .tc) α} {Q : α → sProp 𝕄} :
    idleAt c A s f
      ⊢ iprop((idleAt c A s f -∗ wp frame (wpE defs 𝒱 (c : Thread nD τ) bd) Set.univ (kont ((Memref.whole vb).view.readAt (Elt F) r f)) Q)
        -∗ wp frame (wpE defs 𝒱 (c : Thread nD τ) bd) Set.univ (.op (.load (Memref.whole vb : Memref sig .tc .vmem S3x8x32x16x128 .f32) r hl) kont) Q) := by
  unfold idleAt
  have hS : (Memref.whole vb : Memref sig .tc .vmem S3x8x32x16x128 .f32).view.setOn r.set ⊆ slotSet (τ := τ) c s := by
    intro y hy
    obtain ⟨x, hx, rfl⟩ := Finset.mem_map.1 hy
    exact (mem_slotSet c s x).2 (hr x hx)
  iintro ⟨Hv, Hf, Ht⟩ Hk
  iapply (wp_load 𝒱 (c : Thread nD τ) bd Set.univ (m := (Memref.whole vb : Memref sig .tc .vmem S3x8x32x16x128 .f32)) (S := slotSet c s) (f := f) (q := fullShare) hS) $$ [Hf]
  · iexact Hf
  iintro Hf
  iapply Hk
  isplitl [Hv]; · iexact Hv
  isplitl [Hf]; · iexact Hf
  iexact Ht

theorem readAt_slot (s : Fin 3) (f : S3x8x32x16x128.Idx → Elt F .f32) {o : Fin 5 → ℕ} (ho : o = ![s.val, 0, 0, 0, 0]) (h) :
    (Memref.whole vb : Memref sig .tc .vmem S3x8x32x16x128 .f32).view.readAt (Elt F) (Rect.unit (s := S3x8x32x16x128) o S1x8x32x16x128.size h).toLoadRect f = slotOf f s := by
  subst ho
  funext x
  rw [View.readAt_apply]
  unfold slotOf
  show f _ = f _
  congr 1
  funext a
  apply Fin.ext
  obtain ⟨x0, x1, x2, x3, x4, rfl⟩ : ∃ (x0 : Fin 1) (x1 : Fin 8) (x2 : Fin 32) (x3 : Fin 16) (x4 : Fin 128), x = (ix5 x0 x1 x2 x3 x4 : S1x8x32x16x128.Idx) :=
    ⟨x 0, x 1, x 2, x 3, x 4, eq_ix5 x⟩
  have h0 : x0.val = 0 := by omega
  fin_cases a
  · show s.val + 1 * x0.val = s.val; omega
  · show 0 + 1 * x1.val = x1.val; omega
  · show 0 + 1 * x2.val = x2.val; omega
  · show 0 + 1 * x3.val = x3.val; omega
  · show 0 + 1 * x4.val = x4.val; omega

/-- A load of slot `s`. -/
theorem wp_loadSlot (A : S8x4096x16x128.Idx → Elt F .f32) (s : Fin 3) (f : S3x8x32x16x128.Idx → Elt F .f32) {o : Fin 5 → ℕ} (h)
    (ho : o = ![s.val, 0, 0, 0, 0])
    {hl : (Memref.whole vb : Memref sig .tc .vmem S3x8x32x16x128 .f32).view.LoadsAt (Rect.unit (s := S3x8x32x16x128) o S1x8x32x16x128.size h).toLoadRect}
    {kont : (S1x8x32x16x128.Idx → Elt F .f32) → Prog (TpuEff nD τ sig (Elt F) Λ .tc) α} {Q : α → sProp 𝕄} :
    idleAt c A s f
      ⊢ iprop((idleAt c A s f -∗ wp frame (wpE defs 𝒱 (c : Thread nD τ) bd) Set.univ (kont (slotOf f s)) Q)
        -∗ wp frame (wpE defs 𝒱 (c : Thread nD τ) bd) Set.univ (.op (.load (Memref.whole vb : Memref sig .tc .vmem S3x8x32x16x128 .f32) (Rect.unit (s := S3x8x32x16x128) o S1x8x32x16x128.size h).toLoadRect hl) kont) Q) := by
  have e := wp_loadIn (defs := defs) c 𝒱 bd A s f (Rect.unit (s := S3x8x32x16x128) o S1x8x32x16x128.size h).toLoadRect
    (fun y hy => by
      subst ho
      have := (Rect.mem_set_unit.1 hy) 0
      have h0 : s.val ≤ (y 0).val ∧ (y 0).val < s.val + 1 := this
      omega) (hl := hl) (kont := kont) (Q := Q)
  rw [readAt_slot s f ho] at e
  exact e

/-- The row a new token overwrites: its loads and its store. -/
theorem row_mem (s : Fin 3) (j : Fin 32) (r : Fin 16) {o : Fin 5 → ℕ} (ho : o = ![s.val, 0, j.val, r.val, 0])
    (h : ∀ a, o a + S1x8x1x1x128.size a ≤ S3x8x32x16x128.size a) (y : SIdx) :
    y ∈ (Rect.unit (s := S3x8x32x16x128) o S1x8x1x1x128.size h).set ↔ ((y 0).val = s.val ∧ (y 2).val = j.val ∧ (y 3).val = r.val) := by
  subst ho
  rw [Rect.mem_set_unit]
  constructor
  · intro h
    have h0 : s.val ≤ (y 0).val ∧ (y 0).val < s.val + 1 := h 0
    have h2 : j.val ≤ (y 2).val ∧ (y 2).val < j.val + 1 := h 2
    have h3 : r.val ≤ (y 3).val ∧ (y 3).val < r.val + 1 := h 3
    omega
  · rintro ⟨h0, h2, h3⟩ a
    fin_cases a
    · exact ⟨le_of_eq h0.symm, lt_of_eq_of_lt h0 (Nat.lt_succ_self _)⟩
    · exact ⟨Nat.zero_le _, lt_of_lt_of_eq ((y : SIdx) 1).isLt (Nat.zero_add _).symm⟩
    · exact ⟨le_of_eq h2.symm, lt_of_eq_of_lt h2 (Nat.lt_succ_self _)⟩
    · exact ⟨le_of_eq h3.symm, lt_of_eq_of_lt h3 (Nat.lt_succ_self _)⟩
    · exact ⟨Nat.zero_le _, lt_of_lt_of_eq ((y : SIdx) 4).isLt (Nat.zero_add _).symm⟩

theorem row_set (o : Fin 5 → ℕ) (h : ∀ a, o a + S1x8x1x1x128.size a ≤ S3x8x32x16x128.size a) :
    ((Memref.whole vb : Memref sig .tc .vmem S3x8x32x16x128 .f32).access (Rect.unit (s := S3x8x32x16x128) o S1x8x1x1x128.size h)).setOn Finset.univ
      = (Rect.unit (s := S3x8x32x16x128) o S1x8x1x1x128.size h).set :=
  View.set_slice_whole vb (Rect.unit (s := S3x8x32x16x128) o S1x8x1x1x128.size h)

/-- The store of a row. -/
theorem write_row (s : Fin 3) (j : Fin 32) (r : Fin 16) (f : S3x8x32x16x128.Idx → Elt F .f32) (w : S1x8x1x1x128.Idx → Elt F .f32)
    {o : Fin 5 → ℕ} (ho : o = ![s.val, 0, j.val, r.val, 0]) (h) :
    ((Memref.whole vb : Memref sig .tc .vmem S3x8x32x16x128 .f32).access (Rect.unit (s := S3x8x32x16x128) o S1x8x1x1x128.size h)).write (Elt F) f w Finset.univ
      = putRow f s j r w := by
  funext y
  unfold putRow
  by_cases hy : y ∈ (Rect.unit (s := S3x8x32x16x128) o S1x8x1x1x128.size h).set
  · rw [if_pos ((row_mem s j r ho h y).1 hy)]
    obtain ⟨x, rfl⟩ := (Rect.unit (s := S3x8x32x16x128) o S1x8x1x1x128.size h).toLoadRect.exists_idx_of_mem hy
    obtain ⟨x0, x1, x2, x3, x4, rfl⟩ : ∃ (x0 : Fin 1) (x1 : Fin 8) (x2 : Fin 1) (x3 : Fin 1) (x4 : Fin 128), x = (ix5 x0 x1 x2 x3 x4 : S1x8x1x1x128.Idx) :=
      ⟨x 0, x 1, x 2, x 3, x 4, eq_ix5 x⟩
    refine (View.write_emb_of_mem (v := (Memref.whole vb : Memref sig .tc .vmem S3x8x32x16x128 .f32).access (Rect.unit (s := S3x8x32x16x128) o S1x8x1x1x128.size h)) f w (Finset.mem_univ (ix5 x0 x1 x2 x3 x4 : S1x8x1x1x128.Idx))).trans ?_
    show w _ = w _
    congr 1
    subst ho
    funext a
    apply Fin.ext
    fin_cases a
    · show x0.val = 0; omega
    · show x1.val = 0 + 1 * x1.val; omega
    · show x2.val = 0; omega
    · show x3.val = 0; omega
    · show x4.val = 0 + 1 * x4.val; omega
  · rw [if_neg fun hn => hy ((row_mem s j r ho h y).2 hn)]
    refine View.write_of_not_mem (v := (Memref.whole vb : Memref sig .tc .vmem S3x8x32x16x128 .f32).access (Rect.unit (s := S3x8x32x16x128) o S1x8x1x1x128.size h)) f w _ ?_
    intro hm
    exact hy (row_set o h ▸ hm)

theorem wp_loadRow (A : S8x4096x16x128.Idx → Elt F .f32) (s : Fin 3) (j : Fin 32) (r : Fin 16) (f : S3x8x32x16x128.Idx → Elt F .f32)
    {o : Fin 5 → ℕ} (h) (ho : o = ![s.val, 0, j.val, r.val, 0])
    {hl : (Memref.whole vb : Memref sig .tc .vmem S3x8x32x16x128 .f32).view.LoadsAt (Rect.unit (s := S3x8x32x16x128) o S1x8x1x1x128.size h).toLoadRect}
    {kont : (S1x8x1x1x128.Idx → Elt F .f32) → Prog (TpuEff nD τ sig (Elt F) Λ .tc) α} {Q : α → sProp 𝕄} :
    idleAt c A s f
      ⊢ iprop((∀ v, idleAt c A s f -∗ wp frame (wpE defs 𝒱 (c : Thread nD τ) bd) Set.univ (kont v) Q)
        -∗ wp frame (wpE defs 𝒱 (c : Thread nD τ) bd) Set.univ (.op (.load (Memref.whole vb : Memref sig .tc .vmem S3x8x32x16x128 .f32) (Rect.unit (s := S3x8x32x16x128) o S1x8x1x1x128.size h).toLoadRect hl) kont) Q) := by
  iintro H Hk
  iapply (wp_loadIn (defs := defs) c 𝒱 bd A s f (Rect.unit (s := S3x8x32x16x128) o S1x8x1x1x128.size h).toLoadRect
    (fun y hy => ((row_mem s j r ho h y).1 hy).1) (hl := hl) (kont := kont) (Q := Q)) $$ H
  iapply Hk

theorem wp_storeRow (A : S8x4096x16x128.Idx → Elt F .f32) (s : Fin 3) (j : Fin 32) (r : Fin 16) (f : S3x8x32x16x128.Idx → Elt F .f32)
    (w : S1x8x1x1x128.Idx → Elt F .f32) {o : Fin 5 → ℕ} (h) (ho : o = ![s.val, 0, j.val, r.val, 0])
    {hx : ((Memref.whole vb : Memref sig .tc .vmem S3x8x32x16x128 .f32).access (Rect.unit (s := S3x8x32x16x128) o S1x8x1x1x128.size h)).Stores Finset.univ} {hm}
    {kont : PUnit → Prog (TpuEff nD τ sig (Elt F) Λ .tc) α} {Q : α → sProp 𝕄} :
    idleAt c A s f
      ⊢ iprop((idleAt c A s (putRow f s j r w) -∗ wp frame (wpE defs 𝒱 (c : Thread nD τ) bd) Set.univ (kont ⟨⟩) Q)
        -∗ wp frame (wpE defs 𝒱 (c : Thread nD τ) bd) Set.univ (.op (.store (Memref.whole vb : Memref sig .tc .vmem S3x8x32x16x128 .f32) (Rect.unit (s := S3x8x32x16x128) o S1x8x1x1x128.size h) w Finset.univ hx hm) kont) Q) := by
  unfold idleAt
  iintro ⟨Hv, Hf, Ht⟩ Hk
  have hS : ((Memref.whole vb : Memref sig .tc .vmem S3x8x32x16x128 .f32).access (Rect.unit (s := S3x8x32x16x128) o S1x8x1x1x128.size h)).setOn Finset.univ ⊆ slotSet (τ := τ) c s := by
    intro y hy
    refine (mem_slotSet c s y).2 ((row_mem s j r ho h y).1 ?_).1
    exact row_set o h ▸ hy
  iapply (wp_store 𝒱 (c : Thread nD τ) bd Set.univ (m := (Memref.whole vb : Memref sig .tc .vmem S3x8x32x16x128 .f32)) (S := slotSet c s) (f := f) hS) $$ [Hf]
  · iexact Hf
  rw [write_row s j r f w ho h]
  iintro Hf
  iapply Hk
  isplitl [Hv]; · iexact Hv
  isplitl [Hf]; · iexact Hf
  iexact Ht

end Steps

end Cert.KernelIdeal.VSide
-- ==== Proof.Offs.lean ====
/-
  The body's offsets and guards as the naturals they are: each is a chain of word operations on a trip's number and on words read out of the tables.
-/
module

public import proofs.«01_k».proof.KernelIdeal
public import Idealize.ShloMosaic.Lib.Routing.Words
public import Idealize.ShloMosaic.Lib.WordArith

@[expose] public section

namespace Cert.KernelIdeal.Offs

open Cert.KernelIdeal
open Idealize.ShloMosaic

theorem iv_w (k : ℕ) : Scf.iv 0#32 1#32 k = BitVec.ofNat 32 k := by
  simp [Scf.iv]
theorem add_w (a b : ℕ) : Scalar.addi (BitVec.ofNat 32 a) (BitVec.ofNat 32 b) = BitVec.ofNat 32 (a + b) :=
  (BitVec.ofNat_add a b).symm
theorem mul_w (a b : ℕ) : Scalar.muli (BitVec.ofNat 32 a) (BitVec.ofNat 32 b) = BitVec.ofNat 32 (a * b) :=
  (BitVec.ofNat_mul a b).symm
theorem sub_w {a b : ℕ} (h : b ≤ a) : Scalar.subi (BitVec.ofNat 32 a) (BitVec.ofNat 32 b) = BitVec.ofNat 32 (a - b) :=
  Routing.ofNat32_sub h
theorem rem_w {a : ℕ} (h : a < 2 ^ 31) : Scalar.remsi (BitVec.ofNat 32 a) 3#32 = BitVec.ofNat 32 (a % 3) :=
  Routing.remsi_word _ h (by decide) (by decide)
theorem idx_w (x : BitVec 32) : Scalar.indexCast x = x := rfl
theorem nat_w {a : ℕ} (h : a < 2 ^ 32) : (BitVec.ofNat 32 a).toNat = a := by
  rw [BitVec.toNat_ofNat]; exact Nat.mod_eq_of_lt h

theorem t1_trips : k0_t1_loop.trips = 32 := by decide
theorem t2_trips : k0_t2_loop.trips = 32 := by decide
theorem t4_trips : k0_t4_loop.trips = 32 := by decide
theorem t5_trips : k0_t5_loop.trips = 16 := by decide
theorem t6_trips : k0_t6_loop.trips = 32 := by decide
theorem t3_trips {n : ℕ} (h : n ≤ 4) : (k0_t3_loop (BitVec.ofNat 32 n)).trips = n := by
  interval_cases n <;> decide
theorem t7_trips {n : ℕ} (h : n ≤ 4) : (k0_t7_loop (BitVec.ofNat 32 n)).trips = 0 := by
  interval_cases n <;> decide
theorem t3_ok {n : ℕ} (h : n ≤ 4) : (k0_t3_loop (BitVec.ofNat 32 n)).OK := by
  interval_cases n <;> decide
theorem t7_ok {n : ℕ} (h : n ≤ 4) : (k0_t7_loop (BitVec.ofNat 32 n)).OK := by
  interval_cases n <;> decide

theorem off1 (i : grid0.Coords) : k0_off1 i = ![(i 0).val] := by
  have := (i 0).isLt
  have h : (i 0).val < 16 := this
  simp (disch := omega) only [k0_off1, idx_w, nat_w]
theorem off2 (i : grid0.Coords) : k0_off2 i = ![(i 0).val] := off1 i

section
variable {n g G : ℕ}

theorem off3 (b c : ℕ) (hb : b < 16) (hc : c < 4) (k : Fin k0_t1_loop.trips) : k0_off3 (BitVec.ofNat 32 b) (BitVec.ofNat 32 c) k = ![b, c * 32 + k.val] := by
  have hk : k.val < 32 := lt_of_lt_of_eq k.isLt t1_trips
  simp (disch := omega) only [k0_off3, iv_w, idx_w, add_w, mul_w, nat_w, Nat.zero_add, Nat.mul_one]
theorem off9 (b c : ℕ) (hb : b < 16) (hc : c < 4) (k : Fin k0_t2_loop.trips) : k0_off9 (BitVec.ofNat 32 b) (BitVec.ofNat 32 c) k = ![b, c * 32 + k.val] := by
  have hk : k.val < 32 := lt_of_lt_of_eq k.isLt t2_trips
  simp (disch := omega) only [k0_off9, iv_w, idx_w, add_w, mul_w, nat_w, Nat.zero_add, Nat.mul_one]
theorem off16 (b c : ℕ) (hb : b < 16) (hc : c < 4) (k : Fin k0_t4_loop.trips) : k0_off16 (BitVec.ofNat 32 b) (BitVec.ofNat 32 c) k = ![b, c * 32 + k.val] := by
  have hk : k.val < 32 := lt_of_lt_of_eq k.isLt t4_trips
  simp (disch := omega) only [k0_off16, iv_w, idx_w, add_w, mul_w, nat_w, Nat.zero_add, Nat.mul_one]
theorem off5 (k : Fin k0_t1_loop.trips) : k0_off5 k = ![0, 0, k.val, 0, 0] := by
  have hk : k.val < 32 := lt_of_lt_of_eq k.isLt t1_trips
  simp (disch := omega) only [k0_off5, iv_w, add_w, mul_w, rem_w, nat_w, Nat.zero_add, Nat.mul_one]
theorem off8 (k : Fin k0_t1_loop.trips) : k0_off8 k = ![0, 0, k.val, 0, 0] := by
  have hk : k.val < 32 := lt_of_lt_of_eq k.isLt t1_trips
  simp (disch := omega) only [k0_off8, iv_w, add_w, mul_w, rem_w, nat_w, Nat.zero_add, Nat.mul_one]
theorem off11 (k : Fin k0_t2_loop.trips) : k0_off11 k = ![1, 0, k.val, 0, 0] := by
  have hk : k.val < 32 := lt_of_lt_of_eq k.isLt t2_trips
  simp (disch := omega) only [k0_off11, iv_w, add_w, mul_w, rem_w, nat_w, Nat.zero_add, Nat.mul_one]
theorem off14 (k : Fin k0_t2_loop.trips) : k0_off14 k = ![1, 0, k.val, 0, 0] := by
  have hk : k.val < 32 := lt_of_lt_of_eq k.isLt t2_trips
  simp (disch := omega) only [k0_off14, iv_w, add_w, mul_w, rem_w, nat_w, Nat.zero_add, Nat.mul_one]
theorem off4 : k0_off4 = ![0, 0] := by decide
theorem off7 : k0_off7 = ![0, 1] := by decide
theorem off10 : k0_off10 = ![1, 0] := by decide
theorem off13 : k0_off13 = ![1, 1] := by decide

variable (hn : n ≤ 4) (hg : g ≤ 64) (k : Fin (k0_t3_loop (BitVec.ofNat 32 n)).trips)
include hn hg

theorem off15 : k0_off15 (BitVec.ofNat 32 n) (BitVec.ofNat 32 g) k = ![g + k.val + 2] := by
  have hk : k.val < n := lt_of_lt_of_eq k.isLt (t3_trips hn)
  simp (disch := omega) only [k0_off15, iv_w, idx_w, add_w, sub_w, nat_w]
  congr 1
theorem off17 : k0_off17 (BitVec.ofNat 32 n) (BitVec.ofNat 32 g) k = ![(g + k.val + 2) % 3, 0] := by
  have hk : k.val < n := lt_of_lt_of_eq k.isLt (t3_trips hn)
  simp (disch := omega) only [k0_off17, iv_w, add_w, sub_w, rem_w, nat_w]
  congr 1
theorem off20 : k0_off20 (BitVec.ofNat 32 n) (BitVec.ofNat 32 g) k = ![(g + k.val + 2) % 3, 1] := by
  have hk : k.val < n := lt_of_lt_of_eq k.isLt (t3_trips hn)
  simp (disch := omega) only [k0_off20, iv_w, add_w, sub_w, rem_w, nat_w]
  congr 1
theorem off18 (j : Fin k0_t4_loop.trips) : k0_off18 (BitVec.ofNat 32 n) (BitVec.ofNat 32 g) k j = ![(g + k.val + 2) % 3, 0, j.val, 0, 0] := by
  have hk : k.val < n := lt_of_lt_of_eq k.isLt (t3_trips hn)
  have hj : j.val < 32 := lt_of_lt_of_eq j.isLt t4_trips
  simp (disch := omega) only [k0_off18, iv_w, add_w, sub_w, mul_w, rem_w, nat_w, Nat.zero_add, Nat.mul_one]
  congr 1
theorem off21 (j : Fin k0_t4_loop.trips) : k0_off21 (BitVec.ofNat 32 n) (BitVec.ofNat 32 g) k j = ![(g + k.val + 2) % 3, 0, j.val, 0, 0] := by
  have hk : k.val < n := lt_of_lt_of_eq k.isLt (t3_trips hn)
  have hj : j.val < 32 := lt_of_lt_of_eq j.isLt t4_trips
  simp (disch := omega) only [k0_off21, iv_w, add_w, sub_w, mul_w, rem_w, nat_w, Nat.zero_add, Nat.mul_one]
  congr 1
theorem off22 : k0_off22 (BitVec.ofNat 32 n) (BitVec.ofNat 32 g) k = ![(g + k.val) % 3, 0] := by
  have hk : k.val < n := lt_of_lt_of_eq k.isLt (t3_trips hn)
  simp (disch := omega) only [k0_off22, iv_w, add_w, rem_w, nat_w]
theorem off24 : k0_off24 (BitVec.ofNat 32 n) (BitVec.ofNat 32 g) k = ![(g + k.val) % 3, 1] := by
  have hk : k.val < n := lt_of_lt_of_eq k.isLt (t3_trips hn)
  simp (disch := omega) only [k0_off24, iv_w, add_w, rem_w, nat_w]
theorem off23 : k0_off23 (BitVec.ofNat 32 n) (BitVec.ofNat 32 g) k = ![(g + k.val) % 3, 0, 0, 0, 0] := by
  have hk : k.val < n := lt_of_lt_of_eq k.isLt (t3_trips hn)
  simp (disch := omega) only [k0_off23, iv_w, add_w, rem_w, nat_w]
theorem off32 : k0_off32 (BitVec.ofNat 32 n) (BitVec.ofNat 32 g) k = ![(g + k.val) % 3, 0, 0, 0, 0] := by
  have hk : k.val < n := lt_of_lt_of_eq k.isLt (t3_trips hn)
  simp (disch := omega) only [k0_off32, iv_w, idx_w, add_w, rem_w, nat_w]
theorem off30 (r : BitVec 32) (j : Fin k0_t6_loop.trips) : k0_off30 (BitVec.ofNat 32 n) (BitVec.ofNat 32 g) k r j = ![(g + k.val) % 3, 0, j.val, r.toNat, 0] := by
  have hk : k.val < n := lt_of_lt_of_eq k.isLt (t3_trips hn)
  have hj : j.val < 32 := lt_of_lt_of_eq j.isLt t6_trips
  simp (disch := omega) only [k0_off30, iv_w, idx_w, add_w, mul_w, rem_w, nat_w, Nat.zero_add, Nat.mul_one]

theorem cond4 (hG : G ≤ 64) : k0_cond4 (BitVec.ofNat 32 n) (BitVec.ofNat 32 g) (BitVec.ofNat 32 G) k = 1#1 ↔ g + k.val + 2 < G := by
  have hk : k.val < n := lt_of_lt_of_eq k.isLt (t3_trips hn)
  have hlt : ((BitVec.ofNat 32 (g + k.val + 3 - 1)).slt (BitVec.ofNat 32 G)) = decide (g + k.val + 2 < G) := by
    rw [Routing.slt_ofNat32 (by omega) (by omega)]; congr 1
  simp (disch := omega) only [k0_cond4, iv_w, add_w, sub_w]
  show Scalar.cmpi .ne (Scalar.extui (BitVec.ofBool ((BitVec.ofNat 32 (g + k.val + 3 - 1)).slt (BitVec.ofNat 32 G)))) 0#32 = 1#1 ↔ _
  rw [hlt]
  by_cases h : g + k.val + 2 < G
  · simp only [h, decide_true, iff_true]; decide
  · simp only [h, decide_false, iff_false]; decide

omit hg
theorem off25 (i : grid0.Coords) (j : Fin k0_t5_loop.trips) : k0_off25 i (BitVec.ofNat 32 n) k j = ![(i 0).val, k.val, j.val] := by
  have hk : k.val < n := lt_of_lt_of_eq k.isLt (t3_trips hn)
  have hj : j.val < 16 := lt_of_lt_of_eq j.isLt t5_trips
  have hi : (i 0).val < 16 := (i 0).isLt
  simp (disch := omega) only [k0_off25, iv_w, idx_w, add_w, mul_w, nat_w, Nat.zero_add, Nat.mul_one]
theorem off27 (i : grid0.Coords) (j : Fin k0_t6_loop.trips) : k0_off27 i (BitVec.ofNat 32 n) k j = ![(i 0).val, k.val * 32 + j.val] := by
  have hk : k.val < n := lt_of_lt_of_eq k.isLt (t3_trips hn)
  have hj : j.val < 32 := lt_of_lt_of_eq j.isLt t6_trips
  have hi : (i 0).val < 16 := (i 0).isLt
  simp (disch := omega) only [k0_off27, iv_w, idx_w, add_w, mul_w, nat_w, Nat.zero_add, Nat.mul_one]
end

theorem off26 (j : Fin k0_t5_loop.trips) : k0_off26 j = ![j.val] := by
  have hj : j.val < 16 := lt_of_lt_of_eq j.isLt t5_trips
  simp (disch := omega) only [k0_off26, iv_w, idx_w, add_w, mul_w, nat_w, Nat.zero_add, Nat.mul_one]
theorem off28 (j : Fin k0_t5_loop.trips) : k0_off28 j = ![j.val] := off26 j
theorem off29 (j : Fin k0_t5_loop.trips) : k0_off29 j = ![0, j.val, 0] := by
  have hj : j.val < 16 := lt_of_lt_of_eq j.isLt t5_trips
  simp (disch := omega) only [k0_off29, iv_w, idx_w, add_w, mul_w, nat_w, Nat.zero_add, Nat.mul_one]
theorem off31 (j : Fin k0_t5_loop.trips) : k0_off31 j = ![0, j.val, 0] := off29 j

theorem cond1 (i : grid0.Coords) : k0_cond1 i = 1#1 ↔ (i 0).val = 0 := by
  have hi : (i 0).val < 16 := (i 0).isLt
  unfold k0_cond1
  generalize (i 0).val = b at hi
  interval_cases b <;> decide
theorem cond2 {G : ℕ} (hG : G ≤ 64) : k0_cond2 (BitVec.ofNat 32 G) = 1#1 ↔ 0 < G := by
  interval_cases G <;> decide
theorem cond3 {G : ℕ} (hG : G ≤ 64) : k0_cond3 (BitVec.ofNat 32 G) = 1#1 ↔ 1 < G := by
  interval_cases G <;> decide
theorem cond5 (w : BitVec 32) : k0_cond5 w = 1#1 ↔ w ≠ 0#32 := by
  unfold k0_cond5
  show Scalar.cmpi .ne (Scalar.extui (BitVec.ofBool (w != 0#32))) 0#32 = 1#1 ↔ _
  by_cases h : w = 0#32
  · subst h; decide
  · rw [bne_iff_ne.2 h]; exact ⟨fun _ => h, fun _ => by decide⟩
theorem cond6 (w v : BitVec 32) : k0_cond6 w v = 1#1 ↔ w = v := by
  unfold k0_cond6
  show Scalar.cmpi .ne (Scalar.extui (BitVec.ofBool (w == v))) 0#32 = 1#1 ↔ _
  by_cases h : w = v
  · rw [beq_iff_eq.2 h]; exact ⟨fun _ => h, fun _ => by decide⟩
  · rw [beq_eq_false_iff_ne.2 h]; exact ⟨fun hh => absurd hh (by decide), fun hh => absurd hh h⟩

end Cert.KernelIdeal.Offs
-- ==== Proof.Tables.lean ====
/-
  The prefetched tables, what the region needs to know of them, and the rules of the loads that read them.
-/
module

public import proofs.«01_k».proof.Proof.KSide
public import proofs.«01_k».proof.Proof.VSide
public import proofs.«01_k».proof.Proof.Offs
public import proofs.«01_k».proof.Proof.Gen.KernelIdeal.Skeleton

@[expose] public section

noncomputable section

namespace Cert.KernelIdeal.Ring

open Cert.KernelIdeal Cert.KernelIdeal.Gen
open Idealize.ShloMosaic TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic

variable {F : FTy → Type} [FloatOps F] [Named F]

/-- The contents of the nine prefetched tables: the page map, the lengths, each token's page and its row there, which chunks a token's page may be in,
    how many chunks a sequence has, where its chunks start in the run of all chunks, and each chunk's sequence and place in it. -/
structure Tab where
  pm : S16x128.Idx → BitVec 32
  len : S16.Idx → BitVec 32
  pidx : S16.Idx → BitVec 32
  off : S16.Idx → BitVec 32
  hits : S16x4x16.Idx → BitVec 32
  nv : S16.Idx → BitVec 32
  gs : S17.Idx → BitVec 32
  gb : S64.Idx → BitVec 32
  gc : S64.Idx → BitVec 32

/-- The tables are a plan of the run: sequence `b` has `n b` chunks, the first of them chunk `st b` of the run. -/
structure Plan (T : Tab) where
  n : Fin 16 → ℕ
  st : ℕ → ℕ
  pos : ∀ b, 1 ≤ n b
  le4 : ∀ b, n b ≤ 4
  nv_eq : ∀ b, T.nv (ix1 b) = BitVec.ofNat 32 (n b)
  st_zero : st 0 = 0
  st_succ : ∀ b : Fin 16, st (b.val + 1) = st b.val + n b
  gs_eq : ∀ b : Fin 17, T.gs (ix1 b) = BitVec.ofNat 32 (st b.val)
  gb_eq : ∀ (b : Fin 16) (k : ℕ) (h : st b.val + k < 64), k < n b → T.gb (ix1 ⟨st b.val + k, h⟩) = BitVec.ofNat 32 b.val
  gc_eq : ∀ (b : Fin 16) (k : ℕ) (h : st b.val + k < 64), k < n b → T.gc (ix1 ⟨st b.val + k, h⟩) = BitVec.ofNat 32 k
  pm_lt : ∀ y, (T.pm y).toNat < 4096
  off_lt : ∀ y, (T.off y).toNat < 16

namespace Plan
variable {T : Tab} (P : Plan T)

theorem st_le (b : ℕ) (hb : b ≤ 16) : P.st b ≤ 4 * b := by
  induction b with
  | zero => rw [P.st_zero]
  | succ b ih =>
    have := P.st_succ ⟨b, by omega⟩
    have h4 := P.le4 ⟨b, by omega⟩
    have h := ih (by omega)
    simp only at this
    omega

/-- How many chunks there are. -/
abbrev G : ℕ := P.st 16

theorem G_le : P.G ≤ 64 := P.st_le 16 le_rfl

theorem st_add_le (d b : ℕ) (hb : b + d ≤ 16) : P.st b ≤ P.st (b + d) := by
  induction d with
  | zero => exact le_rfl
  | succ d ih =>
    have := P.st_succ ⟨b + d, by omega⟩
    have h := ih (by omega)
    simp only at this
    rw [← Nat.add_assoc]
    omega

theorem st_mono {a b : ℕ} (h : a ≤ b) (hb : b ≤ 16) : P.st a ≤ P.st b := by
  obtain ⟨d, rfl⟩ := Nat.exists_eq_add_of_le h
  exact P.st_add_le d a hb

/-- Every chunk is a chunk of a sequence. -/
theorem exists_seq (b : ℕ) (hb : b ≤ 16) (h : ℕ) (hh : h < P.st b) : ∃ (a : Fin 16) (k : ℕ), k < P.n a ∧ h = P.st a.val + k := by
  induction b with
  | zero => rw [P.st_zero] at hh; omega
  | succ b ih =>
    by_cases hlt : h < P.st b
    · exact ih (by omega) hlt
    · have := P.st_succ ⟨b, by omega⟩
      exact ⟨⟨b, by omega⟩, h - P.st b, by simp only at this; omega, by simp only; omega⟩

theorem lt_G (b : Fin 16) {k : ℕ} (hk : k < P.n b) : P.st b.val + k < P.G := by
  have := P.st_succ b
  have h := P.st_mono (show b.val + 1 ≤ 16 by omega) le_rfl
  show _ < P.st 16
  omega

end Plan

/-- The pages of the chunk at position `x` of the run. -/
def pageAt (T : Tab) (x : Fin 64) (j : Fin 32) : Fin 4096 :=
  ⟨(T.pm (ix2 ⟨(T.gb (ix1 x)).toNat % 16, Nat.mod_lt _ (by decide)⟩
    ⟨((T.gc (ix1 x)).toNat * 32 + j.val) % 128, Nat.mod_lt _ (by decide)⟩)).toNat % 4096, Nat.mod_lt _ (by decide)⟩

/-- The pages of chunk `h` of the run. -/
def pages (T : Tab) (h : ℕ) : Fin 32 → Fin 4096 := pageAt T ⟨h % 64, Nat.mod_lt _ (by decide)⟩

theorem pages_eq {T : Tab} (P : Plan T) (b : Fin 16) {k : ℕ} (hk : k < P.n b) (j : Fin 32) (h1 : k * 32 + j.val < 128) :
    (pages T (P.st b.val + k) j).val = (T.pm (ix2 b ⟨k * 32 + j.val, h1⟩)).toNat := by
  have hG : P.st b.val + k < 64 := lt_of_lt_of_le (P.lt_G b hk) P.G_le
  have h4 := P.le4 b
  have hm : (⟨(P.st b.val + k) % 64, Nat.mod_lt _ (by decide)⟩ : Fin 64) = ⟨P.st b.val + k, hG⟩ := Fin.ext (Nat.mod_eq_of_lt hG)
  have hb := P.gb_eq b k hG hk
  have hc := P.gc_eq b k hG hk
  unfold pages
  rw [hm]
  show (T.pm _).toNat % 4096 = _
  rw [Nat.mod_eq_of_lt (P.pm_lt _)]
  refine congrArg (fun y => (T.pm y).toNat) ?_
  refine congrArg₂ ix2 (Fin.ext ?_) (Fin.ext ?_)
  · show (T.gb (ix1 ⟨P.st b.val + k, hG⟩)).toNat % 16 = _
    rw [hb, Offs.nat_w (by omega), Nat.mod_eq_of_lt b.isLt]
  · show ((T.gc (ix1 ⟨P.st b.val + k, hG⟩)).toNat * 32 + j.val) % 128 = _
    rw [hc, Offs.nat_w (by omega), Nat.mod_eq_of_lt h1]

/-! ## Loads of words and of windows -/

local notation "𝕄" => MT nD τ sig Unit (Elt F) ℕ (Pipeline.UD sig nD τ) ℕ

section Loads
variable (c : Dev nD) {Λ : Labels} {defs : Defs nD τ sig (Elt F) Λ} (𝒱 : Variants) (bd : Option 𝒱.V) {α : Type}

/-- A load of the one word at `y`. -/
theorem wp_word {i : Fin (sig.nNear .tc .smem)} {hi : sig.names .tc .smem i = true} (q : PosShare TreeShare)
    (f : (sig.tyNear .tc .smem i).Contents (Elt F)) {o n : Fin (sig.tyNear .tc .smem i).shape.rank → ℕ} (h)
    {h1 : (Rect.unit (s := (sig.tyNear .tc .smem i).shape) o n h).shape.numel = 1} {h2 : (sig.tyNear .tc .smem i).elt.packing = 1}
    (y : (sig.tyNear .tc .smem i).shape.Idx) (hy : ∀ a, (y a).val = o a)
    {kont : Elt F (sig.tyNear .tc .smem i).elt → Prog (TpuEff nD τ sig (Elt F) Λ .tc) α} {Q : α → sProp 𝕄} :
    ((c : Thread nD τ).loc ⟨.smem, i, hi⟩ ↦{q} f)
      ⊢ iprop((((c : Thread nD τ).loc ⟨.smem, i, hi⟩ ↦{q} f) -∗ wp frame (wpE defs 𝒱 (c : Thread nD τ) bd) Set.univ (kont (f y)) Q)
        -∗ wp frame (wpE defs 𝒱 (c : Thread nD τ) bd) Set.univ (smemLoad (Memref.whole ⟨.smem, i, hi⟩) (Rect.unit (s := (sig.tyNear .tc .smem i).shape) o n h) h1 h2 >>= kont) Q) := by
  have e : ((Memref.whole ⟨.smem, i, hi⟩ : Memref sig .tc .smem (sig.tyNear .tc .smem i).shape (sig.tyNear .tc .smem i).elt).access
      (Rect.unit (s := (sig.tyNear .tc .smem i).shape) o n h)).read (Elt F) f (Shape.Idx.first (h1.symm ▸ Nat.one_pos)) = f y := by
    rw [View.read_apply]
    refine congrArg f (funext fun a => Fin.ext ?_)
    have hx : ∀ z : Fin ((Rect.unit (s := (sig.tyNear .tc .smem i).shape) o n h).shape.size a), z.val = 0 := by
      intro z
      have hd : (Rect.unit (s := (sig.tyNear .tc .smem i).shape) o n h).shape.size a ∣ 1 := h1 ▸ Finset.dvd_prod_of_mem _ (Finset.mem_univ a)
      have := Nat.le_of_dvd Nat.one_pos hd
      omega
    show o a + 1 * _ = _
    rw [hx, hy]
    omega
  have hl : ((Memref.whole ⟨.smem, i, hi⟩ : Memref sig .tc .smem (sig.tyNear .tc .smem i).shape (sig.tyNear .tc .smem i).elt).access
      (Rect.unit (s := (sig.tyNear .tc .smem i).shape) o n h)).Loads := View.loads_smem_one h2 h1
  show _ ⊢ iprop(_ -∗ wp frame (wpE defs 𝒱 (c : Thread nD τ) bd) Set.univ (smemLoadElt (Memref.whole ⟨.smem, i, hi⟩) (Rect.unit (s := (sig.tyNear .tc .smem i).shape) o n h) hl (Shape.Idx.first (h1.symm ▸ Nat.one_pos)) kont) Q)
  rw [← e]
  iintro H Hk
  iapply (wp_smemLoadElt 𝒱 (c : Thread nD τ) bd Set.univ (m := (Memref.whole ⟨.smem, i, hi⟩)) (S := Finset.univ) (f := f) (q := q) (hw := hl) (k := kont) (Finset.subset_univ _)) $$ [H]
  · iexact H
  iexact Hk

/-- A load of a word of the table `main_arg6`. -/
theorem word_pm (q : PosShare TreeShare) (f : S16x128.Idx → Elt F .i32) {o : Fin 2 → ℕ} (h : ∀ a, o a + S1x1.size a ≤ S16x128.size a) (u : Fin 16) (v : Fin 128) (ho : o = ![u.val, v.val])
    {h1 : (Rect.unit (s := S16x128) o S1x1.size h).shape.numel = 1} {h2 : EltTy.i32.packing = 1}
    {kont : Elt F .i32 → Prog (TpuEff nD τ sig (Elt F) Λ .tc) α} {Q : α → sProp 𝕄} :
    ((c : Thread nD τ).loc main_arg6 ↦{q} f)
      ⊢ iprop((((c : Thread nD τ).loc main_arg6 ↦{q} f) -∗ wp frame (wpE defs 𝒱 (c : Thread nD τ) bd) Set.univ (kont (f (ix2 u v))) Q)
        -∗ wp frame (wpE defs 𝒱 (c : Thread nD τ) bd) Set.univ (smemLoad (Memref.whole main_arg6) (Rect.unit (s := S16x128) o S1x1.size h) h1 h2 >>= kont) Q) :=
  wp_word c 𝒱 bd (i := main_arg6.idx) (hi := main_arg6.names) q f h (ix2 u v) (by subst ho; intro a; fin_cases a <;> rfl)

/-- A load of a word of the table `main_arg6` whose value is known. -/
theorem wordEq_pm (q : PosShare TreeShare) (f : S16x128.Idx → Elt F .i32) {o : Fin 2 → ℕ} (h : ∀ a, o a + S1x1.size a ≤ S16x128.size a) (u : Fin 16) (v : Fin 128) (ho : o = ![u.val, v.val])
    (z : BitVec 32) (hz : f (ix2 u v) = z)
    {h1 : (Rect.unit (s := S16x128) o S1x1.size h).shape.numel = 1} {h2 : EltTy.i32.packing = 1}
    {kont : Elt F .i32 → Prog (TpuEff nD τ sig (Elt F) Λ .tc) α} {Q : α → sProp 𝕄} :
    ((c : Thread nD τ).loc main_arg6 ↦{q} f)
      ⊢ iprop((((c : Thread nD τ).loc main_arg6 ↦{q} f) -∗ wp frame (wpE defs 𝒱 (c : Thread nD τ) bd) Set.univ (kont z) Q)
        -∗ wp frame (wpE defs 𝒱 (c : Thread nD τ) bd) Set.univ (smemLoad (Memref.whole main_arg6) (Rect.unit (s := S16x128) o S1x1.size h) h1 h2 >>= kont) Q) := by
  subst hz
  exact word_pm c 𝒱 bd q f h u v ho

/-- A load of a word of the table `main_arg7`. -/
theorem word_len (q : PosShare TreeShare) (f : S16.Idx → Elt F .i32) {o : Fin 1 → ℕ} (h : ∀ a, o a + S1.size a ≤ S16.size a) (u : Fin 16) (ho : o = ![u.val])
    {h1 : (Rect.unit (s := S16) o S1.size h).shape.numel = 1} {h2 : EltTy.i32.packing = 1}
    {kont : Elt F .i32 → Prog (TpuEff nD τ sig (Elt F) Λ .tc) α} {Q : α → sProp 𝕄} :
    ((c : Thread nD τ).loc main_arg7 ↦{q} f)
      ⊢ iprop((((c : Thread nD τ).loc main_arg7 ↦{q} f) -∗ wp frame (wpE defs 𝒱 (c : Thread nD τ) bd) Set.univ (kont (f (ix1 u))) Q)
        -∗ wp frame (wpE defs 𝒱 (c : Thread nD τ) bd) Set.univ (smemLoad (Memref.whole main_arg7) (Rect.unit (s := S16) o S1.size h) h1 h2 >>= kont) Q) :=
  wp_word c 𝒱 bd (i := main_arg7.idx) (hi := main_arg7.names) q f h (ix1 u) (by subst ho; intro a; fin_cases a <;> rfl)

/-- A load of a word of the table `main_arg7` whose value is known. -/
theorem wordEq_len (q : PosShare TreeShare) (f : S16.Idx → Elt F .i32) {o : Fin 1 → ℕ} (h : ∀ a, o a + S1.size a ≤ S16.size a) (u : Fin 16) (ho : o = ![u.val])
    (z : BitVec 32) (hz : f (ix1 u) = z)
    {h1 : (Rect.unit (s := S16) o S1.size h).shape.numel = 1} {h2 : EltTy.i32.packing = 1}
    {kont : Elt F .i32 → Prog (TpuEff nD τ sig (Elt F) Λ .tc) α} {Q : α → sProp 𝕄} :
    ((c : Thread nD τ).loc main_arg7 ↦{q} f)
      ⊢ iprop((((c : Thread nD τ).loc main_arg7 ↦{q} f) -∗ wp frame (wpE defs 𝒱 (c : Thread nD τ) bd) Set.univ (kont z) Q)
        -∗ wp frame (wpE defs 𝒱 (c : Thread nD τ) bd) Set.univ (smemLoad (Memref.whole main_arg7) (Rect.unit (s := S16) o S1.size h) h1 h2 >>= kont) Q) := by
  subst hz
  exact word_len c 𝒱 bd q f h u ho

/-- A load of a word of the table `main_call0_v19`. -/
theorem word_pidx (q : PosShare TreeShare) (f : S16.Idx → Elt F .i32) {o : Fin 1 → ℕ} (h : ∀ a, o a + S1.size a ≤ S16.size a) (u : Fin 16) (ho : o = ![u.val])
    {h1 : (Rect.unit (s := S16) o S1.size h).shape.numel = 1} {h2 : EltTy.i32.packing = 1}
    {kont : Elt F .i32 → Prog (TpuEff nD τ sig (Elt F) Λ .tc) α} {Q : α → sProp 𝕄} :
    ((c : Thread nD τ).loc main_call0_v19 ↦{q} f)
      ⊢ iprop((((c : Thread nD τ).loc main_call0_v19 ↦{q} f) -∗ wp frame (wpE defs 𝒱 (c : Thread nD τ) bd) Set.univ (kont (f (ix1 u))) Q)
        -∗ wp frame (wpE defs 𝒱 (c : Thread nD τ) bd) Set.univ (smemLoad (Memref.whole main_call0_v19) (Rect.unit (s := S16) o S1.size h) h1 h2 >>= kont) Q) :=
  wp_word c 𝒱 bd (i := main_call0_v19.idx) (hi := main_call0_v19.names) q f h (ix1 u) (by subst ho; intro a; fin_cases a <;> rfl)

/-- A load of a word of the table `main_call0_v19` whose value is known. -/
theorem wordEq_pidx (q : PosShare TreeShare) (f : S16.Idx → Elt F .i32) {o : Fin 1 → ℕ} (h : ∀ a, o a + S1.size a ≤ S16.size a) (u : Fin 16) (ho : o = ![u.val])
    (z : BitVec 32) (hz : f (ix1 u) = z)
    {h1 : (Rect.unit (s := S16) o S1.size h).shape.numel = 1} {h2 : EltTy.i32.packing = 1}
    {kont : Elt F .i32 → Prog (TpuEff nD τ sig (Elt F) Λ .tc) α} {Q : α → sProp 𝕄} :
    ((c : Thread nD τ).loc main_call0_v19 ↦{q} f)
      ⊢ iprop((((c : Thread nD τ).loc main_call0_v19 ↦{q} f) -∗ wp frame (wpE defs 𝒱 (c : Thread nD τ) bd) Set.univ (kont z) Q)
        -∗ wp frame (wpE defs 𝒱 (c : Thread nD τ) bd) Set.univ (smemLoad (Memref.whole main_call0_v19) (Rect.unit (s := S16) o S1.size h) h1 h2 >>= kont) Q) := by
  subst hz
  exact word_pidx c 𝒱 bd q f h u ho

/-- A load of a word of the table `main_call0_v20`. -/
theorem word_off (q : PosShare TreeShare) (f : S16.Idx → Elt F .i32) {o : Fin 1 → ℕ} (h : ∀ a, o a + S1.size a ≤ S16.size a) (u : Fin 16) (ho : o = ![u.val])
    {h1 : (Rect.unit (s := S16) o S1.size h).shape.numel = 1} {h2 : EltTy.i32.packing = 1}
    {kont : Elt F .i32 → Prog (TpuEff nD τ sig (Elt F) Λ .tc) α} {Q : α → sProp 𝕄} :
    ((c : Thread nD τ).loc main_call0_v20 ↦{q} f)
      ⊢ iprop((((c : Thread nD τ).loc main_call0_v20 ↦{q} f) -∗ wp frame (wpE defs 𝒱 (c : Thread nD τ) bd) Set.univ (kont (f (ix1 u))) Q)
        -∗ wp frame (wpE defs 𝒱 (c : Thread nD τ) bd) Set.univ (smemLoad (Memref.whole main_call0_v20) (Rect.unit (s := S16) o S1.size h) h1 h2 >>= kont) Q) :=
  wp_word c 𝒱 bd (i := main_call0_v20.idx) (hi := main_call0_v20.names) q f h (ix1 u) (by subst ho; intro a; fin_cases a <;> rfl)

/-- A load of a word of the table `main_call0_v20` whose value is known. -/
theorem wordEq_off (q : PosShare TreeShare) (f : S16.Idx → Elt F .i32) {o : Fin 1 → ℕ} (h : ∀ a, o a + S1.size a ≤ S16.size a) (u : Fin 16) (ho : o = ![u.val])
    (z : BitVec 32) (hz : f (ix1 u) = z)
    {h1 : (Rect.unit (s := S16) o S1.size h).shape.numel = 1} {h2 : EltTy.i32.packing = 1}
    {kont : Elt F .i32 → Prog (TpuEff nD τ sig (Elt F) Λ .tc) α} {Q : α → sProp 𝕄} :
    ((c : Thread nD τ).loc main_call0_v20 ↦{q} f)
      ⊢ iprop((((c : Thread nD τ).loc main_call0_v20 ↦{q} f) -∗ wp frame (wpE defs 𝒱 (c : Thread nD τ) bd) Set.univ (kont z) Q)
        -∗ wp frame (wpE defs 𝒱 (c : Thread nD τ) bd) Set.univ (smemLoad (Memref.whole main_call0_v20) (Rect.unit (s := S16) o S1.size h) h1 h2 >>= kont) Q) := by
  subst hz
  exact word_off c 𝒱 bd q f h u ho

/-- A load of a word of the table `main_call0_v32`. -/
theorem word_hits (q : PosShare TreeShare) (f : S16x4x16.Idx → Elt F .i32) {o : Fin 3 → ℕ} (h : ∀ a, o a + S1x1x1.size a ≤ S16x4x16.size a) (u : Fin 16) (v : Fin 4) (w : Fin 16) (ho : o = ![u.val, v.val, w.val])
    {h1 : (Rect.unit (s := S16x4x16) o S1x1x1.size h).shape.numel = 1} {h2 : EltTy.i32.packing = 1}
    {kont : Elt F .i32 → Prog (TpuEff nD τ sig (Elt F) Λ .tc) α} {Q : α → sProp 𝕄} :
    ((c : Thread nD τ).loc main_call0_v32 ↦{q} f)
      ⊢ iprop((((c : Thread nD τ).loc main_call0_v32 ↦{q} f) -∗ wp frame (wpE defs 𝒱 (c : Thread nD τ) bd) Set.univ (kont (f (ix3 u v w))) Q)
        -∗ wp frame (wpE defs 𝒱 (c : Thread nD τ) bd) Set.univ (smemLoad (Memref.whole main_call0_v32) (Rect.unit (s := S16x4x16) o S1x1x1.size h) h1 h2 >>= kont) Q) :=
  wp_word c 𝒱 bd (i := main_call0_v32.idx) (hi := main_call0_v32.names) q f h (ix3 u v w) (by subst ho; intro a; fin_cases a <;> rfl)

/-- A load of a word of the table `main_call0_v32` whose value is known. -/
theorem wordEq_hits (q : PosShare TreeShare) (f : S16x4x16.Idx → Elt F .i32) {o : Fin 3 → ℕ} (h : ∀ a, o a + S1x1x1.size a ≤ S16x4x16.size a) (u : Fin 16) (v : Fin 4) (w : Fin 16) (ho : o = ![u.val, v.val, w.val])
    (z : BitVec 32) (hz : f (ix3 u v w) = z)
    {h1 : (Rect.unit (s := S16x4x16) o S1x1x1.size h).shape.numel = 1} {h2 : EltTy.i32.packing = 1}
    {kont : Elt F .i32 → Prog (TpuEff nD τ sig (Elt F) Λ .tc) α} {Q : α → sProp 𝕄} :
    ((c : Thread nD τ).loc main_call0_v32 ↦{q} f)
      ⊢ iprop((((c : Thread nD τ).loc main_call0_v32 ↦{q} f) -∗ wp frame (wpE defs 𝒱 (c : Thread nD τ) bd) Set.univ (kont z) Q)
        -∗ wp frame (wpE defs 𝒱 (c : Thread nD τ) bd) Set.univ (smemLoad (Memref.whole main_call0_v32) (Rect.unit (s := S16x4x16) o S1x1x1.size h) h1 h2 >>= kont) Q) := by
  subst hz
  exact word_hits c 𝒱 bd q f h u v w ho

/-- A load of a word of the table `main_call0_v40`. -/
theorem word_nv (q : PosShare TreeShare) (f : S16.Idx → Elt F .i32) {o : Fin 1 → ℕ} (h : ∀ a, o a + S1.size a ≤ S16.size a) (u : Fin 16) (ho : o = ![u.val])
    {h1 : (Rect.unit (s := S16) o S1.size h).shape.numel = 1} {h2 : EltTy.i32.packing = 1}
    {kont : Elt F .i32 → Prog (TpuEff nD τ sig (Elt F) Λ .tc) α} {Q : α → sProp 𝕄} :
    ((c : Thread nD τ).loc main_call0_v40 ↦{q} f)
      ⊢ iprop((((c : Thread nD τ).loc main_call0_v40 ↦{q} f) -∗ wp frame (wpE defs 𝒱 (c : Thread nD τ) bd) Set.univ (kont (f (ix1 u))) Q)
        -∗ wp frame (wpE defs 𝒱 (c : Thread nD τ) bd) Set.univ (smemLoad (Memref.whole main_call0_v40) (Rect.unit (s := S16) o S1.size h) h1 h2 >>= kont) Q) :=
  wp_word c 𝒱 bd (i := main_call0_v40.idx) (hi := main_call0_v40.names) q f h (ix1 u) (by subst ho; intro a; fin_cases a <;> rfl)

/-- A load of a word of the table `main_call0_v40` whose value is known. -/
theorem wordEq_nv (q : PosShare TreeShare) (f : S16.Idx → Elt F .i32) {o : Fin 1 → ℕ} (h : ∀ a, o a + S1.size a ≤ S16.size a) (u : Fin 16) (ho : o = ![u.val])
    (z : BitVec 32) (hz : f (ix1 u) = z)
    {h1 : (Rect.unit (s := S16) o S1.size h).shape.numel = 1} {h2 : EltTy.i32.packing = 1}
    {kont : Elt F .i32 → Prog (TpuEff nD τ sig (Elt F) Λ .tc) α} {Q : α → sProp 𝕄} :
    ((c : Thread nD τ).loc main_call0_v40 ↦{q} f)
      ⊢ iprop((((c : Thread nD τ).loc main_call0_v40 ↦{q} f) -∗ wp frame (wpE defs 𝒱 (c : Thread nD τ) bd) Set.univ (kont z) Q)
        -∗ wp frame (wpE defs 𝒱 (c : Thread nD τ) bd) Set.univ (smemLoad (Memref.whole main_call0_v40) (Rect.unit (s := S16) o S1.size h) h1 h2 >>= kont) Q) := by
  subst hz
  exact word_nv c 𝒱 bd q f h u ho

/-- A load of a word of the table `main_call0_v43`. -/
theorem word_gs (q : PosShare TreeShare) (f : S17.Idx → Elt F .i32) {o : Fin 1 → ℕ} (h : ∀ a, o a + S1.size a ≤ S17.size a) (u : Fin 17) (ho : o = ![u.val])
    {h1 : (Rect.unit (s := S17) o S1.size h).shape.numel = 1} {h2 : EltTy.i32.packing = 1}
    {kont : Elt F .i32 → Prog (TpuEff nD τ sig (Elt F) Λ .tc) α} {Q : α → sProp 𝕄} :
    ((c : Thread nD τ).loc main_call0_v43 ↦{q} f)
      ⊢ iprop((((c : Thread nD τ).loc main_call0_v43 ↦{q} f) -∗ wp frame (wpE defs 𝒱 (c : Thread nD τ) bd) Set.univ (kont (f (ix1 u))) Q)
        -∗ wp frame (wpE defs 𝒱 (c : Thread nD τ) bd) Set.univ (smemLoad (Memref.whole main_call0_v43) (Rect.unit (s := S17) o S1.size h) h1 h2 >>= kont) Q) :=
  wp_word c 𝒱 bd (i := main_call0_v43.idx) (hi := main_call0_v43.names) q f h (ix1 u) (by subst ho; intro a; fin_cases a <;> rfl)

/-- A load of a word of the table `main_call0_v43` whose value is known. -/
theorem wordEq_gs (q : PosShare TreeShare) (f : S17.Idx → Elt F .i32) {o : Fin 1 → ℕ} (h : ∀ a, o a + S1.size a ≤ S17.size a) (u : Fin 17) (ho : o = ![u.val])
    (z : BitVec 32) (hz : f (ix1 u) = z)
    {h1 : (Rect.unit (s := S17) o S1.size h).shape.numel = 1} {h2 : EltTy.i32.packing = 1}
    {kont : Elt F .i32 → Prog (TpuEff nD τ sig (Elt F) Λ .tc) α} {Q : α → sProp 𝕄} :
    ((c : Thread nD τ).loc main_call0_v43 ↦{q} f)
      ⊢ iprop((((c : Thread nD τ).loc main_call0_v43 ↦{q} f) -∗ wp frame (wpE defs 𝒱 (c : Thread nD τ) bd) Set.univ (kont z) Q)
        -∗ wp frame (wpE defs 𝒱 (c : Thread nD τ) bd) Set.univ (smemLoad (Memref.whole main_call0_v43) (Rect.unit (s := S17) o S1.size h) h1 h2 >>= kont) Q) := by
  subst hz
  exact word_gs c 𝒱 bd q f h u ho

/-- A load of a word of the table `main_call0_v53`. -/
theorem word_gb (q : PosShare TreeShare) (f : S64.Idx → Elt F .i32) {o : Fin 1 → ℕ} (h : ∀ a, o a + S1.size a ≤ S64.size a) (u : Fin 64) (ho : o = ![u.val])
    {h1 : (Rect.unit (s := S64) o S1.size h).shape.numel = 1} {h2 : EltTy.i32.packing = 1}
    {kont : Elt F .i32 → Prog (TpuEff nD τ sig (Elt F) Λ .tc) α} {Q : α → sProp 𝕄} :
    ((c : Thread nD τ).loc main_call0_v53 ↦{q} f)
      ⊢ iprop((((c : Thread nD τ).loc main_call0_v53 ↦{q} f) -∗ wp frame (wpE defs 𝒱 (c : Thread nD τ) bd) Set.univ (kont (f (ix1 u))) Q)
        -∗ wp frame (wpE defs 𝒱 (c : Thread nD τ) bd) Set.univ (smemLoad (Memref.whole main_call0_v53) (Rect.unit (s := S64) o S1.size h) h1 h2 >>= kont) Q) :=
  wp_word c 𝒱 bd (i := main_call0_v53.idx) (hi := main_call0_v53.names) q f h (ix1 u) (by subst ho; intro a; fin_cases a <;> rfl)

/-- A load of a word of the table `main_call0_v53` whose value is known. -/
theorem wordEq_gb (q : PosShare TreeShare) (f : S64.Idx → Elt F .i32) {o : Fin 1 → ℕ} (h : ∀ a, o a + S1.size a ≤ S64.size a) (u : Fin 64) (ho : o = ![u.val])
    (z : BitVec 32) (hz : f (ix1 u) = z)
    {h1 : (Rect.unit (s := S64) o S1.size h).shape.numel = 1} {h2 : EltTy.i32.packing = 1}
    {kont : Elt F .i32 → Prog (TpuEff nD τ sig (Elt F) Λ .tc) α} {Q : α → sProp 𝕄} :
    ((c : Thread nD τ).loc main_call0_v53 ↦{q} f)
      ⊢ iprop((((c : Thread nD τ).loc main_call0_v53 ↦{q} f) -∗ wp frame (wpE defs 𝒱 (c : Thread nD τ) bd) Set.univ (kont z) Q)
        -∗ wp frame (wpE defs 𝒱 (c : Thread nD τ) bd) Set.univ (smemLoad (Memref.whole main_call0_v53) (Rect.unit (s := S64) o S1.size h) h1 h2 >>= kont) Q) := by
  subst hz
  exact word_gb c 𝒱 bd q f h u ho

/-- A load of a word of the table `main_call0_v61`. -/
theorem word_gc (q : PosShare TreeShare) (f : S64.Idx → Elt F .i32) {o : Fin 1 → ℕ} (h : ∀ a, o a + S1.size a ≤ S64.size a) (u : Fin 64) (ho : o = ![u.val])
    {h1 : (Rect.unit (s := S64) o S1.size h).shape.numel = 1} {h2 : EltTy.i32.packing = 1}
    {kont : Elt F .i32 → Prog (TpuEff nD τ sig (Elt F) Λ .tc) α} {Q : α → sProp 𝕄} :
    ((c : Thread nD τ).loc main_call0_v61 ↦{q} f)
      ⊢ iprop((((c : Thread nD τ).loc main_call0_v61 ↦{q} f) -∗ wp frame (wpE defs 𝒱 (c : Thread nD τ) bd) Set.univ (kont (f (ix1 u))) Q)
        -∗ wp frame (wpE defs 𝒱 (c : Thread nD τ) bd) Set.univ (smemLoad (Memref.whole main_call0_v61) (Rect.unit (s := S64) o S1.size h) h1 h2 >>= kont) Q) :=
  wp_word c 𝒱 bd (i := main_call0_v61.idx) (hi := main_call0_v61.names) q f h (ix1 u) (by subst ho; intro a; fin_cases a <;> rfl)

/-- A load of a word of the table `main_call0_v61` whose value is known. -/
theorem wordEq_gc (q : PosShare TreeShare) (f : S64.Idx → Elt F .i32) {o : Fin 1 → ℕ} (h : ∀ a, o a + S1.size a ≤ S64.size a) (u : Fin 64) (ho : o = ![u.val])
    (z : BitVec 32) (hz : f (ix1 u) = z)
    {h1 : (Rect.unit (s := S64) o S1.size h).shape.numel = 1} {h2 : EltTy.i32.packing = 1}
    {kont : Elt F .i32 → Prog (TpuEff nD τ sig (Elt F) Λ .tc) α} {Q : α → sProp 𝕄} :
    ((c : Thread nD τ).loc main_call0_v61 ↦{q} f)
      ⊢ iprop((((c : Thread nD τ).loc main_call0_v61 ↦{q} f) -∗ wp frame (wpE defs 𝒱 (c : Thread nD τ) bd) Set.univ (kont z) Q)
        -∗ wp frame (wpE defs 𝒱 (c : Thread nD τ) bd) Set.univ (smemLoad (Memref.whole main_call0_v61) (Rect.unit (s := S64) o S1.size h) h1 h2 >>= kont) Q) := by
  subst hz
  exact word_gc c 𝒱 bd q f h u ho

/-- A load of a rectangle of a window. -/
theorem wp_win {cs : CoreSpace} {sh : Shape} {e : EltTy} (m : Memref sig .tc cs sh e) (q : PosShare TreeShare) (X : sh.Idx → Elt F e) (r : LoadRect sh) {hl : m.view.LoadsAt r}
    {kont : (r.shape.Idx → Elt F e) → Prog (TpuEff nD τ sig (Elt F) Λ .tc) α} {Q : α → sProp 𝕄} :
    (owns (c : Thread nD τ) m q X : sProp 𝕄)
      ⊢ iprop((owns (c : Thread nD τ) m q X -∗ wp frame (wpE defs 𝒱 (c : Thread nD τ) bd) Set.univ (kont (fun x => X (r.idx x))) Q)
        -∗ wp frame (wpE defs 𝒱 (c : Thread nD τ) bd) Set.univ (.op (.load m r hl) kont) Q) := by
  unfold owns
  iintro ⟨%f, %hf, H⟩ Hk
  iapply (wp_load 𝒱 (c : Thread nD τ) bd Set.univ (m := m) (S := m.view.set) (f := f) (q := q) (View.setOn_subset_set _ _)) $$ [H]
  · iexact H
  iintro H
  have e : m.view.readAt (Elt F) r f = fun x => X (r.idx x) := by
    subst hf; rfl
  rw [e]
  iapply Hk
  iexists f
  isplitr
  · ipureintro; exact hf
  iexact H

theorem sem_at {o : Fin 2 → ℕ} (s : Fin 3) (u : Fin 2) (ho : o = ![s.val, u.val]) (h : ∀ a, o a + S1x1.size a ≤ S3x2.size a) :
    ((cc0_scratch2.slice (Rect.unit (s := S3x2) o S1x1.size h)).squeeze S_ squeezes_S1x1_S_).sem = cc0_scratch2.ix (ix2 s u) := by
  subst ho
  show cc0_scratch2.ix _ = _
  congr 1
  funext a
  apply Fin.ext
  have hx : ∀ (a : Fin 2) (z : Fin (S1x1.size a)), z.val = 0 := by
    intro a z
    have : S1x1.size a = 1 := by fin_cases a <;> rfl
    omega
  fin_cases a
  · show s.val + 1 * _ = s.val
    rw [hx 0]; omega
  · show u.val + 1 * _ = u.val
    rw [hx 1]; omega
theorem semK {o : Fin 2 → ℕ} (s : Fin 3) (ho : o = ![s.val, 0]) (h : ∀ a, o a + S1x1.size a ≤ S3x2.size a) :
    ((cc0_scratch2.slice (Rect.unit (s := S3x2) o S1x1.size h)).squeeze S_ squeezes_S1x1_S_).sem = KSide.sem s := by
  rw [sem_at s 0 ho h]; clear h ho; revert s; decide
theorem semV {o : Fin 2 → ℕ} (s : Fin 3) (ho : o = ![s.val, 1]) (h : ∀ a, o a + S1x1.size a ≤ S3x2.size a) :
    ((cc0_scratch2.slice (Rect.unit (s := S3x2) o S1x1.size h)).squeeze S_ squeezes_S1x1_S_).sem = VSide.sem s := by
  rw [sem_at s 1 ho h]; clear h ho; revert s; decide

end Loads

end Cert.KernelIdeal.Ring
-- ==== Proof.Issue.lean ====
/-
  The copies of a chunk's pages: a step of each loop that starts them.
-/
module

public import proofs.«01_k».proof.Proof.Tables

@[expose] public section

noncomputable section

namespace Cert.KernelIdeal.Ring

open Cert.KernelIdeal Cert.KernelIdeal.Gen
open Idealize.ShloMosaic TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic

variable {F : FTy → Type} [FloatOps F] [Named F]

local notation "𝕄" => MT nD τ sig Unit (Elt F) ℕ (Pipeline.UD sig nD τ) ℕ

/-- Slot `s` of both rings with the first `k` copies of pages `p` started. -/
def startK (c : Dev nD) (A A' : S8x4096x16x128.Idx → Elt F .f32) (s : Fin 3) (p : Fin 32 → Fin 4096) (f f' : S3x8x32x16x128.Idx → Elt F .f32) (k : ℕ) : sProp 𝕄 :=
  iprop(KSide.issuing c A s p f k ∗ VSide.issuing c A' s p f' k)

/-- The page map of the program, at the share the region holds it with. -/
def heldPm (c : Dev nD) (q : PosShare TreeShare) (T : Tab) : sProp 𝕄 := ((c : Thread nD τ).loc main_arg6) ↦{q} (T.pm : S16x128.Idx → Elt F .i32)

theorem page_inb {o : Fin 4 → ℕ} {n : ℕ} (ho : o = ![0, n, 0, 0]) (hn : n < 4096) (a : Fin 4) : o a + S8x1x16x128.size a ≤ S8x4096x16x128.size a := by
  subst ho
  fin_cases a
  · exact (show (0:ℕ) + 8 ≤ 8 by omega)
  · exact (show n + 1 ≤ 4096 by omega)
  · exact (show (0:ℕ) + 16 ≤ 16 by omega)
  · exact (show (0:ℕ) + 128 ≤ 128 by omega)

section Steps
variable (c : Dev nD) {defs : Defs nD τ sig (Elt F) Λ₀} (𝒱 : Variants) (bd : Option 𝒱.V) (q : PosShare TreeShare) {T : Tab} (P : Plan T)
include P

theorem t1_step (i : grid0.Coords) {arg10 : Memref sig .tc .vmem S1x32x128 .f32} {harg10 : arg10.IsWhole} {arg11 : Memref sig .tc .vmem S8x16x128 .f32} {harg11 : arg11.IsWhole}
    {arg12 : Memref sig .tc .vmem S8x16x128 .f32} {harg12 : arg12.IsWhole} {arg15 : Memref sig .tc .vmem S1x32x128 .f32} {harg15 : arg15.IsWhole}
    (A A' : S8x4096x16x128.Idx → Elt F .f32) (f f' : S3x8x32x16x128.Idx → Elt F .f32) {b ch : ℕ} (hb : b < 16) (hc : ch < 4) (p : Fin 32 → Fin 4096)
    (hp : ∀ (j : Fin 32) (h : ch * 32 + j.val < 128), (p j).val = (T.pm (ix2 ⟨b, hb⟩ ⟨ch * 32 + j.val, h⟩)).toNat)
    {v6 : BitVec 32} (h1 : k0_cond1 i = 1#1) (h2 : k0_cond2 v6 = 1#1) (hw) (k : Fin k0_t1_loop.trips) (acc : Unit) :
    iprop(heldPm c q T ∗ startK c A A' (0 : Fin 3) p f f' k.val)
      ⊢ wp frame (wpE defs 𝒱 (c : Thread nD τ) bd) Set.univ (k0_t1_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 v6 h1 h2 (BitVec.ofNat 32 b) (BitVec.ofNat 32 ch) hw k acc)
        (fun _ => iprop(heldPm c q T ∗ startK c A A' (0 : Fin 3) p f f' (k.val + 1)) : Unit → sProp 𝕄) := by
  have hk : k.val < 32 := lt_of_lt_of_eq k.isLt Offs.t1_trips
  have hy : ch * 32 + k.val < 128 := by omega
  have hpk := hp ⟨k.val, hk⟩ hy
  unfold k0_t1_body
  iintro ⟨Hpm, HK⟩
  unfold heldPm
  have hch : k0_chk2 i v6 (T.pm (ix2 ⟨b, hb⟩ ⟨ch * 32 + k.val, hy⟩)) := fun _ _ a => page_inb (n := (T.pm (ix2 ⟨b, hb⟩ ⟨ch * 32 + k.val, hy⟩)).toNat) rfl (P.pm_lt _) a
  iapply (word_pm c 𝒱 bd q T.pm _ ⟨b, hb⟩ ⟨ch * 32 + k.val, hy⟩ (Offs.off3 b ch hb hc k)) $$ Hpm
  iintro Hpm
  iapply (wp_assume 𝒱 (c : Thread nD τ) bd Set.univ hch)
  unfold startK
  icases HK with ⟨HK, HV⟩
  iapply (KSide.wp_issue (defs := defs) c 𝒱 bd A (0 : Fin 3) p f k.val hk _ _ (by rw [hpk]; rfl) (Offs.off5 k) (semK (0 : Fin 3) Offs.off4 _)) $$ HK
  iintro HK
  iapply (VSide.wp_issue (defs := defs) c 𝒱 bd A' (0 : Fin 3) p f' k.val hk _ _ (by rw [hpk]; rfl) (Offs.off8 k) (semV (0 : Fin 3) Offs.off7 _)) $$ HV
  iintro HV
  iapply (le_wp_ret _ _)
  isplitl [Hpm]; · iexact Hpm
  isplitl [HK]; · iexact HK
  iexact HV

theorem t2_step (i : grid0.Coords) {arg10 : Memref sig .tc .vmem S1x32x128 .f32} {harg10 : arg10.IsWhole} {arg11 : Memref sig .tc .vmem S8x16x128 .f32} {harg11 : arg11.IsWhole}
    {arg12 : Memref sig .tc .vmem S8x16x128 .f32} {harg12 : arg12.IsWhole} {arg15 : Memref sig .tc .vmem S1x32x128 .f32} {harg15 : arg15.IsWhole}
    (A A' : S8x4096x16x128.Idx → Elt F .f32) (f f' : S3x8x32x16x128.Idx → Elt F .f32) {b ch : ℕ} (hb : b < 16) (hc : ch < 4) (p : Fin 32 → Fin 4096)
    (hp : ∀ (j : Fin 32) (h : ch * 32 + j.val < 128), (p j).val = (T.pm (ix2 ⟨b, hb⟩ ⟨ch * 32 + j.val, h⟩)).toNat)
    {v6 : BitVec 32} (h1 : k0_cond1 i = 1#1) (h3 : k0_cond3 v6 = 1#1) (hw) (k : Fin k0_t2_loop.trips) (acc : Unit) :
    iprop(heldPm c q T ∗ startK c A A' (1 : Fin 3) p f f' k.val)
      ⊢ wp frame (wpE defs 𝒱 (c : Thread nD τ) bd) Set.univ (k0_t2_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 v6 h1 h3 (BitVec.ofNat 32 b) (BitVec.ofNat 32 ch) hw k acc)
        (fun _ => iprop(heldPm c q T ∗ startK c A A' (1 : Fin 3) p f f' (k.val + 1)) : Unit → sProp 𝕄) := by
  have hk : k.val < 32 := lt_of_lt_of_eq k.isLt Offs.t2_trips
  have hy : ch * 32 + k.val < 128 := by omega
  have hpk := hp ⟨k.val, hk⟩ hy
  unfold k0_t2_body
  iintro ⟨Hpm, HK⟩
  unfold heldPm
  have hch : k0_chk4 i v6 (T.pm (ix2 ⟨b, hb⟩ ⟨ch * 32 + k.val, hy⟩)) := fun _ _ a => page_inb (n := (T.pm (ix2 ⟨b, hb⟩ ⟨ch * 32 + k.val, hy⟩)).toNat) rfl (P.pm_lt _) a
  iapply (word_pm c 𝒱 bd q T.pm _ ⟨b, hb⟩ ⟨ch * 32 + k.val, hy⟩ (Offs.off9 b ch hb hc k)) $$ Hpm
  iintro Hpm
  iapply (wp_assume 𝒱 (c : Thread nD τ) bd Set.univ hch)
  unfold startK
  icases HK with ⟨HK, HV⟩
  iapply (KSide.wp_issue (defs := defs) c 𝒱 bd A (1 : Fin 3) p f k.val hk _ _ (by rw [hpk]; rfl) (Offs.off11 k) (semK (1 : Fin 3) Offs.off10 _)) $$ HK
  iintro HK
  iapply (VSide.wp_issue (defs := defs) c 𝒱 bd A' (1 : Fin 3) p f' k.val hk _ _ (by rw [hpk]; rfl) (Offs.off14 k) (semV (1 : Fin 3) Offs.off13 _)) $$ HV
  iintro HV
  iapply (le_wp_ret _ _)
  isplitl [Hpm]; · iexact Hpm
  isplitl [HK]; · iexact HK
  iexact HV

theorem t4_step (i : grid0.Coords) {arg10 : Memref sig .tc .vmem S1x32x128 .f32} {harg10 : arg10.IsWhole} {arg11 : Memref sig .tc .vmem S8x16x128 .f32} {harg11 : arg11.IsWhole}
    {arg12 : Memref sig .tc .vmem S8x16x128 .f32} {harg12 : arg12.IsWhole} {arg15 : Memref sig .tc .vmem S1x32x128 .f32} {harg15 : arg15.IsWhole}
    (A A' : S8x4096x16x128.Idx → Elt F .f32) (f f' : S3x8x32x16x128.Idx → Elt F .f32) {b ch : ℕ} (hb : b < 16) (hc : ch < 4) (p : Fin 32 → Fin 4096)
    (hp : ∀ (j : Fin 32) (h : ch * 32 + j.val < 128), (p j).val = (T.pm (ix2 ⟨b, hb⟩ ⟨ch * 32 + j.val, h⟩)).toNat)
    (arg0 : BitVec 32) {n g : ℕ} (hn : n ≤ 4) (hg : g ≤ 64) (hw5) (hw9) (v6 : BitVec 32) (hw6) (z one : BitVec 32)
    (t3 : Fin (k0_t3_loop (BitVec.ofNat 32 n)).trips) (h4) (hw7) (k : Fin k0_t4_loop.trips) (acc : Unit) :
    iprop(heldPm c q T ∗ startK c A A' ⟨(g + t3.val + 2) % 3, Nat.mod_lt _ (by decide)⟩ p f f' k.val)
      ⊢ wp frame (wpE defs 𝒱 (c : Thread nD τ) bd) Set.univ (k0_t4_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 arg0 (BitVec.ofNat 32 n) hw5 (BitVec.ofNat 32 g) hw9 v6 hw6 z one t3 h4 (BitVec.ofNat 32 b) (BitVec.ofNat 32 ch) hw7 k acc)
        (fun _ => iprop(heldPm c q T ∗ startK c A A' ⟨(g + t3.val + 2) % 3, Nat.mod_lt _ (by decide)⟩ p f f' (k.val + 1)) : Unit → sProp 𝕄) := by
  have hk : k.val < 32 := lt_of_lt_of_eq k.isLt Offs.t4_trips
  have hy : ch * 32 + k.val < 128 := by omega
  have hpk := hp ⟨k.val, hk⟩ hy
  unfold k0_t4_body
  iintro ⟨Hpm, HK⟩
  unfold heldPm
  have hch : k0_chk8 (BitVec.ofNat 32 n) (BitVec.ofNat 32 g) v6 t3 (T.pm (ix2 ⟨b, hb⟩ ⟨ch * 32 + k.val, hy⟩)) := fun _ a => page_inb (n := (T.pm (ix2 ⟨b, hb⟩ ⟨ch * 32 + k.val, hy⟩)).toNat) rfl (P.pm_lt _) a
  iapply (word_pm c 𝒱 bd q T.pm _ ⟨b, hb⟩ ⟨ch * 32 + k.val, hy⟩ (Offs.off16 b ch hb hc k)) $$ Hpm
  iintro Hpm
  iapply (wp_assume 𝒱 (c : Thread nD τ) bd Set.univ hch)
  unfold startK
  icases HK with ⟨HK, HV⟩
  iapply (KSide.wp_issue (defs := defs) c 𝒱 bd A ⟨(g + t3.val + 2) % 3, Nat.mod_lt _ (by decide)⟩ p f k.val hk _ _ (by rw [hpk]; rfl) (Offs.off18 hn hg t3 k) (semK ⟨(g + t3.val + 2) % 3, Nat.mod_lt _ (by decide)⟩ (Offs.off17 hn hg t3) _)) $$ HK
  iintro HK
  iapply (VSide.wp_issue (defs := defs) c 𝒱 bd A' ⟨(g + t3.val + 2) % 3, Nat.mod_lt _ (by decide)⟩ p f' k.val hk _ _ (by rw [hpk]; rfl) (Offs.off21 hn hg t3 k) (semV ⟨(g + t3.val + 2) % 3, Nat.mod_lt _ (by decide)⟩ (Offs.off20 hn hg t3) _)) $$ HV
  iintro HV
  iapply (le_wp_ret _ _)
  isplitl [Hpm]; · iexact Hpm
  isplitl [HK]; · iexact HK
  iexact HV

end Steps

end Cert.KernelIdeal.Ring
-- ==== Proof.Patch.lean ====
/-
  The rows of the new tokens written into a landed slot: what the slot holds after, and the steps of the two loops that write them.
-/
module

public import proofs.«01_k».proof.Proof.Issue
public import Idealize.ShloMosaic.Lib.Pipeline.Value

@[expose] public section

noncomputable section

namespace Cert.KernelIdeal.Ring

open Cert.KernelIdeal Cert.KernelIdeal.Gen
open Idealize.ShloMosaic TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic

variable {F : FTy → Type} [FloatOps F] [Named F]

local notation "𝕄" => MT nD τ sig Unit (Elt F) ℕ (Pipeline.UD sig nD τ) ℕ

/-- The sequence of a grid point. -/
def pt (i : grid0.Coords) : Fin 16 := i 0

/-- The index of place `j` of chunk `ch` of sequence `b` in the page map. -/
def place (b : Fin 16) (ch : Fin 4) (j : Fin 32) : S16x128.Idx := ix2 b ⟨ch.val * 32 + j.val, by omega⟩

/-- The row of token `j2` as it is stored. -/
def rowOf (K : S8x16x128.Idx → Elt F .f32) (j2 : Fin 16) : S1x8x1x1x128.Idx → Elt F .f32 := fun x => K (ix3 (x 1) j2 (x 4))

/-- The slot after token `j2` has been tried on the first `k` pages of chunk `ch`. -/
def patchPages (T : Tab) (K : S8x16x128.Idx → Elt F .f32) (b : Fin 16) (ch : Fin 4) (s : Fin 3) (j2 : Fin 16) (f : S3x8x32x16x128.Idx → Elt F .f32) :
    ℕ → S3x8x32x16x128.Idx → Elt F .f32
  | 0 => f
  | k + 1 => if h : k < 32 then
      if T.pm (place b ch ⟨k, h⟩) = T.pidx (ix1 j2) then
        KSide.putRow (patchPages T K b ch s j2 f k) s ⟨k, h⟩ ⟨(T.off (ix1 j2)).toNat % 16, Nat.mod_lt _ (by decide)⟩ (rowOf K j2)
      else patchPages T K b ch s j2 f k
    else patchPages T K b ch s j2 f k

/-- The slot after the first `k` tokens have been tried on chunk `ch`. -/
def patchToks (T : Tab) (K : S8x16x128.Idx → Elt F .f32) (b : Fin 16) (ch : Fin 4) (s : Fin 3) (f : S3x8x32x16x128.Idx → Elt F .f32) :
    ℕ → S3x8x32x16x128.Idx → Elt F .f32
  | 0 => f
  | k + 1 => if h : k < 16 then
      if T.hits (ix3 b ch ⟨k, h⟩) ≠ 0#32 then patchPages T K b ch s ⟨k, h⟩ (patchToks T K b ch s f k) 32
      else patchToks T K b ch s f k
    else patchToks T K b ch s f k

theorem patchPages_succ (T : Tab) (K : S8x16x128.Idx → Elt F .f32) (b : Fin 16) (ch : Fin 4) (s : Fin 3) (j2 : Fin 16) (f : S3x8x32x16x128.Idx → Elt F .f32)
    (k : ℕ) (h : k < 32) : patchPages T K b ch s j2 f (k + 1) = if T.pm (place b ch ⟨k, h⟩) = T.pidx (ix1 j2) then
        KSide.putRow (patchPages T K b ch s j2 f k) s ⟨k, h⟩ ⟨(T.off (ix1 j2)).toNat % 16, Nat.mod_lt _ (by decide)⟩ (rowOf K j2)
      else patchPages T K b ch s j2 f k := by
  show (if h : k < 32 then _ else _) = _
  rw [dif_pos h]

theorem patchToks_succ (T : Tab) (K : S8x16x128.Idx → Elt F .f32) (b : Fin 16) (ch : Fin 4) (s : Fin 3) (f : S3x8x32x16x128.Idx → Elt F .f32)
    (k : ℕ) (h : k < 16) : patchToks T K b ch s f (k + 1) = if T.hits (ix3 b ch ⟨k, h⟩) ≠ 0#32 then patchPages T K b ch s ⟨k, h⟩ (patchToks T K b ch s f k) 32
      else patchToks T K b ch s f k := by
  show (if h : k < 16 then _ else _) = _
  rw [dif_pos h]

theorem rowMajor5 (j : S1x8x1x1x128.Idx) : (S1x8x1x1x128.rowMajor j).val = (j 1).val * 128 + (j 4).val := by
  rw [Shape.rowMajor_val_five]
  have h0 : (j 0).val < 1 := (j 0).isLt
  have h2 : (j 2).val < 1 := (j 2).isLt
  have h3 : (j 3).val < 1 := (j 3).isLt
  show ((((j 0).val * 8 + (j 1).val) * 1 + (j 2).val) * 1 + (j 3).val) * 128 + (j 4).val = _
  omega

/-- The row of token `j2`, loaded and reshaped, is `rowOf`. -/
theorem pay18_eq (K : S8x16x128.Idx → Elt F .f32) (j2 : Fin 16) {o : Fin 3 → ℕ} (ho : o = ![0, j2.val, 0]) (h) :
    k0_pay18 (fun x => K ((Rect.unit (s := S8x16x128) o S8x1x128.size h).toLoadRect.idx x)) = rowOf K j2 := by
  subst ho
  funext j
  obtain ⟨a, d, ha, hd⟩ : ∃ (a : Fin 8) (d : Fin 128), a.val = (j 1).val ∧ d.val = (j 4).val := ⟨j 1, j 4, rfl, rfl⟩
  unfold k0_pay18
  refine (shapeCast_apply _ _ j (ix3 a 0 d : S8x1x128.Idx) (by
    rw [rowMajor5, Shape.rowMajor_val_three]
    show (a.val * 1 + 0) * 128 + d.val = _
    omega)).trans ?_
  refine (shapeCast_apply _ _ (ix3 a 0 d : S8x1x128.Idx) (ix2 a d : S8x128.Idx) (by
    rw [Shape.rowMajor_val_two, Shape.rowMajor_val_three]
    show a.val * 128 + d.val = (a.val * 1 + 0) * 128 + d.val
    omega)).trans ?_
  refine (shapeCast_apply _ _ (ix2 a d : S8x128.Idx) (ix3 a 0 d : S8x1x128.Idx) (by
    rw [Shape.rowMajor_val_two, Shape.rowMajor_val_three]
    show (a.val * 1 + 0) * 128 + d.val = a.val * 128 + d.val
    omega)).trans ?_
  refine congrArg K (funext fun x => Fin.ext ?_)
  fin_cases x
  · show 0 + 1 * a.val = (j 1).val
    omega
  · show j2.val + 1 * 0 = j2.val
    omega
  · show 0 + 1 * d.val = (j 4).val
    omega

theorem pay19_eq (K : S8x16x128.Idx → Elt F .f32) (j2 : Fin 16) {o : Fin 3 → ℕ} (ho : o = ![0, j2.val, 0]) (h) :
    k0_pay19 (fun x => K ((Rect.unit (s := S8x16x128) o S8x1x128.size h).toLoadRect.idx x)) = rowOf K j2 :=
  pay18_eq K j2 ho h

/-- What the two loops read and write: the tables of pages, tokens' pages and rows, the new rows, and slot `s` of both rings. -/
def patchRes (c : Dev nD) (q q1 q2 : PosShare TreeShare) (T : Tab) (arg11 arg12 : Memref sig .tc .vmem S8x16x128 .f32) (K V : S8x16x128.Idx → Elt F .f32)
    (A A' : S8x4096x16x128.Idx → Elt F .f32) (s : Fin 3) (f f' : S3x8x32x16x128.Idx → Elt F .f32) : sProp 𝕄 :=
  iprop(heldPm c q T ∗ (((c : Thread nD τ).loc main_call0_v19) ↦{q} (T.pidx : S16.Idx → Elt F .i32)) ∗ (((c : Thread nD τ).loc main_call0_v20) ↦{q} (T.off : S16.Idx → Elt F .i32))
    ∗ (((c : Thread nD τ).loc main_call0_v32) ↦{q} (T.hits : S16x4x16.Idx → Elt F .i32))
    ∗ owns (c : Thread nD τ) arg11 q1 K ∗ owns (c : Thread nD τ) arg12 q2 V ∗ KSide.idleAt c A s f ∗ VSide.idleAt c A' s f')

theorem row_inb {o : Fin 5 → ℕ} {s j r : ℕ} (ho : o = ![s, 0, j, r, 0]) (hs : s < 3) (hj : j < 32) (hr : r < 16) (a : Fin 5) :
    o a + S1x8x1x1x128.size a ≤ S3x8x32x16x128.size a := by
  subst ho
  fin_cases a
  · exact (show s + 1 ≤ 3 by omega)
  · exact (show (0:ℕ) + 8 ≤ 8 by omega)
  · exact (show j + 1 ≤ 32 by omega)
  · exact (show r + 1 ≤ 16 by omega)
  · exact (show (0:ℕ) + 128 ≤ 128 by omega)

theorem map_inb {o : Fin 2 → ℕ} {b k : ℕ} (ho : o = ![b, k]) (hb : b < 16) (hk : k < 128) (a : Fin 2) : o a + S1x1.size a ≤ S16x128.size a := by
  subst ho
  fin_cases a
  · exact (show b + 1 ≤ 16 by omega)
  · exact (show k + 1 ≤ 128 by omega)

section Steps
variable (c : Dev nD) {defs : Defs nD τ sig (Elt F) Λ₀} (𝒱 : Variants) (bd : Option 𝒱.V) (q : PosShare TreeShare) {T : Tab} (P : Plan T)
include P

theorem t6_step (i : grid0.Coords) {arg10 : Memref sig .tc .vmem S1x32x128 .f32} {harg10 : arg10.IsWhole} {arg11 : Memref sig .tc .vmem S8x16x128 .f32} {harg11 : arg11.IsWhole}
    {arg12 : Memref sig .tc .vmem S8x16x128 .f32} {harg12 : arg12.IsWhole} {arg15 : Memref sig .tc .vmem S1x32x128 .f32} {harg15 : arg15.IsWhole}
    {q1 q2 : PosShare TreeShare} (K V : S8x16x128.Idx → Elt F .f32)
    (A A' : S8x4096x16x128.Idx → Elt F .f32) (f f' : S3x8x32x16x128.Idx → Elt F .f32) (arg0 : BitVec 32) {n g : ℕ} (hn : n ≤ 4) (hg : g ≤ 64) (hw5) (hw9) (v6 : BitVec 32) (hw6) (z one : BitVec 32)
    (t3 : Fin (k0_t3_loop (BitVec.ofNat 32 n)).trips) (ht : t3.val < 4) (t5 : Fin k0_t5_loop.trips) (j2 : Fin 16) (hj2 : j2.val = t5.val)
    (v87 : BitVec 32) (hw10) (h5) (k : Fin k0_t6_loop.trips) (acc : Unit) :
    patchRes c q q1 q2 T arg11 arg12 K V A A' ⟨(g + t3.val) % 3, Nat.mod_lt _ (by decide)⟩ (patchPages T K (pt i) ⟨t3.val, ht⟩ ⟨(g + t3.val) % 3, Nat.mod_lt _ (by decide)⟩ j2 f k.val) (patchPages T V (pt i) ⟨t3.val, ht⟩ ⟨(g + t3.val) % 3, Nat.mod_lt _ (by decide)⟩ j2 f' k.val)
      ⊢ wp frame (wpE defs 𝒱 (c : Thread nD τ) bd) Set.univ (k0_t6_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 arg0 (BitVec.ofNat 32 n) hw5 (BitVec.ofNat 32 g) hw9 v6 hw6 z one t3 t5 v87 hw10 h5 (T.off (ix1 j2)) k acc)
        (fun _ => patchRes c q q1 q2 T arg11 arg12 K V A A' ⟨(g + t3.val) % 3, Nat.mod_lt _ (by decide)⟩ (patchPages T K (pt i) ⟨t3.val, ht⟩ ⟨(g + t3.val) % 3, Nat.mod_lt _ (by decide)⟩ j2 f (k.val + 1)) (patchPages T V (pt i) ⟨t3.val, ht⟩ ⟨(g + t3.val) % 3, Nat.mod_lt _ (by decide)⟩ j2 f' (k.val + 1)) : Unit → sProp 𝕄) := by
  have hk : k.val < 32 := lt_of_lt_of_eq k.isLt Offs.t6_trips
  have hpl : t3.val * 32 + k.val < 128 := by omega
  unfold k0_t6_body patchRes heldPm
  iintro ⟨Hpm, Hpi, Hof, Hhi, Hkn, Hvn, HK, HV⟩
  iapply (word_pm c 𝒱 bd q T.pm _ (pt i) ⟨t3.val * 32 + k.val, hpl⟩ (Offs.off27 hn t3 i k)) $$ Hpm
  iintro Hpm
  iapply (word_pidx c 𝒱 bd q T.pidx _ j2 (by rw [hj2]; exact Offs.off28 t5)) $$ Hpi
  iintro Hpi
  have hch : k0_chk11 (BitVec.ofNat 32 n) (BitVec.ofNat 32 g) t3 v87 (T.off (ix1 j2)) k (T.pm (ix2 (pt i) ⟨t3.val * 32 + k.val, hpl⟩)) (T.pidx (ix1 j2)) :=
    fun _ _ a => row_inb (Offs.off30 hn hg t3 (T.off (ix1 j2)) k) (Nat.mod_lt _ (by decide)) hk (P.off_lt _) a
  iapply (wp_assume 𝒱 (c : Thread nD τ) bd Set.univ hch)
  have ho : k0_off30 (BitVec.ofNat 32 n) (BitVec.ofNat 32 g) t3 (T.off (ix1 j2)) k
      = ![(⟨(g + t3.val) % 3, Nat.mod_lt _ (by decide)⟩ : Fin 3).val, 0, (⟨k.val, hk⟩ : Fin 32).val, (⟨(T.off (ix1 j2)).toNat % 16, Nat.mod_lt _ (by decide)⟩ : Fin 16).val, 0] := by
    rw [Offs.off30 hn hg t3 (T.off (ix1 j2)) k]
    show _ = ![_, 0, k.val, (T.off (ix1 j2)).toNat % 16, 0]
    rw [Nat.mod_eq_of_lt (P.off_lt _)]
  have ho29 : k0_off29 t5 = ![0, j2.val, 0] := by rw [hj2]; exact Offs.off29 t5
  by_cases h6 : k0_cond6 (T.pm (ix2 (pt i) ⟨t3.val * 32 + k.val, hpl⟩)) (T.pidx (ix1 j2)) = 1#1
  · dsimp only [Prog.bind]
    rw [dif_pos h6]
    have e6 : T.pm (place (pt i) ⟨t3.val, ht⟩ ⟨k.val, hk⟩) = T.pidx (ix1 j2) := (Offs.cond6 _ _).1 h6
    have eP : ∀ (X : S8x16x128.Idx → Elt F .f32) (y : S3x8x32x16x128.Idx → Elt F .f32), patchPages T X (pt i) ⟨t3.val, ht⟩ ⟨(g + t3.val) % 3, Nat.mod_lt _ (by decide)⟩ j2 y (k.val + 1)
        = KSide.putRow (patchPages T X (pt i) ⟨t3.val, ht⟩ ⟨(g + t3.val) % 3, Nat.mod_lt _ (by decide)⟩ j2 y k.val) ⟨(g + t3.val) % 3, Nat.mod_lt _ (by decide)⟩ ⟨k.val, hk⟩ ⟨(T.off (ix1 j2)).toNat % 16, Nat.mod_lt _ (by decide)⟩ (k0_pay18 (fun x => X ((Rect.unit (s := S8x16x128) (k0_off29 t5) S8x1x128.size (k0_off29_inb t5)).toLoadRect.idx x))) := by
      intro X y
      rw [patchPages_succ _ _ _ _ _ _ _ _ hk, if_pos e6, pay18_eq X j2 ho29]
    rw [eP K f, eP V f']
    iapply (wp_win c 𝒱 bd arg11 q1 K _) $$ Hkn
    iintro Hkn
    iapply (KSide.wp_loadRow (defs := defs) c 𝒱 bd A ⟨(g + t3.val) % 3, Nat.mod_lt _ (by decide)⟩ ⟨k.val, hk⟩ _ _ _ ho) $$ HK
    iintro %v HK
    iapply (KSide.wp_storeRow (defs := defs) c 𝒱 bd A ⟨(g + t3.val) % 3, Nat.mod_lt _ (by decide)⟩ ⟨k.val, hk⟩ _ _ _ _ ho) $$ HK
    iintro HK
    iapply (wp_win c 𝒱 bd arg12 q2 V _) $$ Hvn
    iintro Hvn
    iapply (VSide.wp_loadRow (defs := defs) c 𝒱 bd A' ⟨(g + t3.val) % 3, Nat.mod_lt _ (by decide)⟩ ⟨k.val, hk⟩ _ _ _ ho) $$ HV
    iintro %v' HV
    iapply (VSide.wp_storeRow (defs := defs) c 𝒱 bd A' ⟨(g + t3.val) % 3, Nat.mod_lt _ (by decide)⟩ ⟨k.val, hk⟩ _ _ _ _ ho) $$ HV
    iintro HV
    iapply (le_wp_ret _ _)
    isplitl [Hpm]; · iexact Hpm
    isplitl [Hpi]; · iexact Hpi
    isplitl [Hof]; · iexact Hof
    isplitl [Hhi]; · iexact Hhi
    isplitl [Hkn]; · iexact Hkn
    isplitl [Hvn]; · iexact Hvn
    isplitl [HK]; · iexact HK
    iexact HV
  · dsimp only [Prog.bind]
    rw [dif_neg h6]
    have e6 : ¬ T.pm (place (pt i) ⟨t3.val, ht⟩ ⟨k.val, hk⟩) = T.pidx (ix1 j2) := fun h => h6 ((Offs.cond6 _ _).2 h)
    have eP : ∀ (X : S8x16x128.Idx → Elt F .f32) (y : S3x8x32x16x128.Idx → Elt F .f32), patchPages T X (pt i) ⟨t3.val, ht⟩ ⟨(g + t3.val) % 3, Nat.mod_lt _ (by decide)⟩ j2 y (k.val + 1)
        = patchPages T X (pt i) ⟨t3.val, ht⟩ ⟨(g + t3.val) % 3, Nat.mod_lt _ (by decide)⟩ j2 y k.val := by
      intro X y
      rw [patchPages_succ _ _ _ _ _ _ _ _ hk, if_neg e6]
    rw [eP K f, eP V f']
    iapply (le_wp_ret _ _)
    isplitl [Hpm]; · iexact Hpm
    isplitl [Hpi]; · iexact Hpi
    isplitl [Hof]; · iexact Hof
    isplitl [Hhi]; · iexact Hhi
    isplitl [Hkn]; · iexact Hkn
    isplitl [Hvn]; · iexact Hvn
    isplitl [HK]; · iexact HK
    iexact HV

theorem t5_step (i : grid0.Coords) {arg10 : Memref sig .tc .vmem S1x32x128 .f32} {harg10 : arg10.IsWhole} {arg11 : Memref sig .tc .vmem S8x16x128 .f32} {harg11 : arg11.IsWhole}
    {arg12 : Memref sig .tc .vmem S8x16x128 .f32} {harg12 : arg12.IsWhole} {arg15 : Memref sig .tc .vmem S1x32x128 .f32} {harg15 : arg15.IsWhole}
    {q1 q2 : PosShare TreeShare} (K V : S8x16x128.Idx → Elt F .f32)
    (A A' : S8x4096x16x128.Idx → Elt F .f32) (f f' : S3x8x32x16x128.Idx → Elt F .f32) (arg0 : BitVec 32) {n g : ℕ} (hn : n ≤ 4) (hg : g ≤ 64) (hw5) (hw9) (v6 : BitVec 32) (hw6) (z one : BitVec 32)
    (t3 : Fin (k0_t3_loop (BitVec.ofNat 32 n)).trips) (ht : t3.val < 4) (k : Fin k0_t5_loop.trips) (acc : Unit) :
    patchRes c q q1 q2 T arg11 arg12 K V A A' ⟨(g + t3.val) % 3, Nat.mod_lt _ (by decide)⟩ (patchToks T K (pt i) ⟨t3.val, ht⟩ ⟨(g + t3.val) % 3, Nat.mod_lt _ (by decide)⟩ f k.val) (patchToks T V (pt i) ⟨t3.val, ht⟩ ⟨(g + t3.val) % 3, Nat.mod_lt _ (by decide)⟩ f' k.val)
      ⊢ wp frame (wpE defs 𝒱 (c : Thread nD τ) bd) Set.univ (k0_t5_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 arg0 (BitVec.ofNat 32 n) hw5 (BitVec.ofNat 32 g) hw9 v6 hw6 z one t3 k acc)
        (fun _ => patchRes c q q1 q2 T arg11 arg12 K V A A' ⟨(g + t3.val) % 3, Nat.mod_lt _ (by decide)⟩ (patchToks T K (pt i) ⟨t3.val, ht⟩ ⟨(g + t3.val) % 3, Nat.mod_lt _ (by decide)⟩ f (k.val + 1)) (patchToks T V (pt i) ⟨t3.val, ht⟩ ⟨(g + t3.val) % 3, Nat.mod_lt _ (by decide)⟩ f' (k.val + 1)) : Unit → sProp 𝕄) := by
  have hk : k.val < 16 := lt_of_lt_of_eq k.isLt Offs.t5_trips
  unfold k0_t5_body
  rw [patchRes]
  iintro ⟨Hpm, Hpi, Hof, Hhi, Hkn, Hvn, HK, HV⟩
  iapply (word_hits c 𝒱 bd q T.hits _ (pt i) ⟨t3.val, ht⟩ ⟨k.val, hk⟩ (Offs.off25 hn t3 i k)) $$ Hhi
  iintro Hhi
  have hch : k0_chk10 i (BitVec.ofNat 32 n) t3 (T.hits (ix3 (pt i) ⟨t3.val, ht⟩ ⟨k.val, hk⟩)) :=
    fun k6 _ a => by
      have hk6 : k6.val < 32 := lt_of_lt_of_eq k6.isLt Offs.t6_trips
      exact map_inb (Offs.off27 hn t3 i k6) (pt i).isLt (by omega) a
  iapply (wp_assume 𝒱 (c : Thread nD τ) bd Set.univ hch)
  by_cases h5 : k0_cond5 (T.hits (ix3 (pt i) ⟨t3.val, ht⟩ ⟨k.val, hk⟩)) = 1#1
  · dsimp only [Prog.bind]
    rw [dif_pos h5]
    have eP : ∀ (X : S8x16x128.Idx → Elt F .f32) (y : S3x8x32x16x128.Idx → Elt F .f32), patchToks T X (pt i) ⟨t3.val, ht⟩ ⟨(g + t3.val) % 3, Nat.mod_lt _ (by decide)⟩ y (k.val + 1)
        = patchPages T X (pt i) ⟨t3.val, ht⟩ ⟨(g + t3.val) % 3, Nat.mod_lt _ (by decide)⟩ ⟨k.val, hk⟩ (patchToks T X (pt i) ⟨t3.val, ht⟩ ⟨(g + t3.val) % 3, Nat.mod_lt _ (by decide)⟩ y k.val) 32 := by
      intro X y
      rw [patchToks_succ _ _ _ _ _ _ _ hk, if_pos ((Offs.cond5 _).1 h5)]
    rw [eP K f, eP V f']
    iapply (word_off c 𝒱 bd q T.off _ ⟨k.val, hk⟩ (Offs.off26 k)) $$ Hof
    iintro Hof
    have hbody : ∀ (m : Fin k0_t6_loop.trips) (a : Unit), patchRes c q q1 q2 T arg11 arg12 K V A A' ⟨(g + t3.val) % 3, Nat.mod_lt _ (by decide)⟩ (patchPages T K (pt i) ⟨t3.val, ht⟩ ⟨(g + t3.val) % 3, Nat.mod_lt _ (by decide)⟩ ⟨k.val, hk⟩ (patchToks T K (pt i) ⟨t3.val, ht⟩ ⟨(g + t3.val) % 3, Nat.mod_lt _ (by decide)⟩ f k.val) m.val) (patchPages T V (pt i) ⟨t3.val, ht⟩ ⟨(g + t3.val) % 3, Nat.mod_lt _ (by decide)⟩ ⟨k.val, hk⟩ (patchToks T V (pt i) ⟨t3.val, ht⟩ ⟨(g + t3.val) % 3, Nat.mod_lt _ (by decide)⟩ f' k.val) m.val) ⊢ wp frame (wpE defs 𝒱 (c : Thread nD τ) bd) Set.univ (k0_t6_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 arg0 (BitVec.ofNat 32 n) hw5 (BitVec.ofNat 32 g) hw9 v6 hw6 z one t3 k (T.hits (ix3 (pt i) ⟨t3.val, ht⟩ ⟨k.val, hk⟩)) hch h5 (T.off (ix1 ⟨k.val, hk⟩)) m a)
        (fun _ => patchRes c q q1 q2 T arg11 arg12 K V A A' ⟨(g + t3.val) % 3, Nat.mod_lt _ (by decide)⟩ (patchPages T K (pt i) ⟨t3.val, ht⟩ ⟨(g + t3.val) % 3, Nat.mod_lt _ (by decide)⟩ ⟨k.val, hk⟩ (patchToks T K (pt i) ⟨t3.val, ht⟩ ⟨(g + t3.val) % 3, Nat.mod_lt _ (by decide)⟩ f k.val) (m.val + 1)) (patchPages T V (pt i) ⟨t3.val, ht⟩ ⟨(g + t3.val) % 3, Nat.mod_lt _ (by decide)⟩ ⟨k.val, hk⟩ (patchToks T V (pt i) ⟨t3.val, ht⟩ ⟨(g + t3.val) % 3, Nat.mod_lt _ (by decide)⟩ f' k.val) (m.val + 1)) : Unit → sProp 𝕄) := by
      intro m a
      have e := t6_step c (defs := defs) 𝒱 bd q P i (arg10 := arg10) (harg10 := harg10) (arg11 := arg11) (harg11 := harg11) (arg12 := arg12) (harg12 := harg12) (arg15 := arg15) (harg15 := harg15) (q1 := q1) (q2 := q2) K V A A' (patchToks T K (pt i) ⟨t3.val, ht⟩ ⟨(g + t3.val) % 3, Nat.mod_lt _ (by decide)⟩ f k.val) (patchToks T V (pt i) ⟨t3.val, ht⟩ ⟨(g + t3.val) % 3, Nat.mod_lt _ (by decide)⟩ f' k.val) arg0 hn hg hw5 hw9 v6 hw6 z one t3 ht k ⟨k.val, hk⟩ rfl
        (T.hits (ix3 (pt i) ⟨t3.val, ht⟩ ⟨k.val, hk⟩)) hch h5 m a
      exact e
    iapply (Scf.wp_for_bind frame (wpE defs 𝒱 (c : Thread nD τ) bd) Set.univ k0_t6_loop.lb k0_t6_loop.ub k0_t6_loop.st k0_t6_ok () _
      (fun m _ => patchRes c q q1 q2 T arg11 arg12 K V A A' ⟨(g + t3.val) % 3, Nat.mod_lt _ (by decide)⟩
        (patchPages T K (pt i) ⟨t3.val, ht⟩ ⟨(g + t3.val) % 3, Nat.mod_lt _ (by decide)⟩ ⟨k.val, hk⟩ (patchToks T K (pt i) ⟨t3.val, ht⟩ ⟨(g + t3.val) % 3, Nat.mod_lt _ (by decide)⟩ f k.val) m)
        (patchPages T V (pt i) ⟨t3.val, ht⟩ ⟨(g + t3.val) % 3, Nat.mod_lt _ (by decide)⟩ ⟨k.val, hk⟩ (patchToks T V (pt i) ⟨t3.val, ht⟩ ⟨(g + t3.val) % 3, Nat.mod_lt _ (by decide)⟩ f' k.val) m))
      hbody) $$ [Hpm Hpi Hof Hhi Hkn Hvn HK HV]
    · rw [patchRes]
      isplitl [Hpm]; · iexact Hpm
      isplitl [Hpi]; · iexact Hpi
      isplitl [Hof]; · iexact Hof
      isplitl [Hhi]; · iexact Hhi
      isplitl [Hkn]; · iexact Hkn
      isplitl [Hvn]; · iexact Hvn
      isplitl [HK]; · iexact HK
      iexact HV
    iintro %a HR
    iapply (le_wp_ret _ _)
    have e32 : Scf.trips k0_t6_loop.lb k0_t6_loop.ub k0_t6_loop.st = 32 := Offs.t6_trips
    rw [e32]
    iexact HR
  · dsimp only [Prog.bind]
    rw [dif_neg h5]
    have eP : ∀ (X : S8x16x128.Idx → Elt F .f32) (y : S3x8x32x16x128.Idx → Elt F .f32), patchToks T X (pt i) ⟨t3.val, ht⟩ ⟨(g + t3.val) % 3, Nat.mod_lt _ (by decide)⟩ y (k.val + 1)
        = patchToks T X (pt i) ⟨t3.val, ht⟩ ⟨(g + t3.val) % 3, Nat.mod_lt _ (by decide)⟩ y k.val := by
      intro X y
      rw [patchToks_succ _ _ _ _ _ _ _ hk, if_neg (fun h => h5 ((Offs.cond5 _).2 h))]
    rw [eP K f, eP V f']
    iapply (le_wp_ret _ _)
    rw [patchRes]
    isplitl [Hpm]; · iexact Hpm
    isplitl [Hpi]; · iexact Hpi
    isplitl [Hof]; · iexact Hof
    isplitl [Hhi]; · iexact Hhi
    isplitl [Hkn]; · iexact Hkn
    isplitl [Hvn]; · iexact Hvn
    isplitl [HK]; · iexact HK
    iexact HV

end Steps

end Cert.KernelIdeal.Ring
-- ==== Proof.Body.lean ====
/-
  The ring of three slots across the chunks of the run, and a trip of the loop over a sequence's chunks.
-/
module

public import proofs.«01_k».proof.Proof.Patch

@[expose] public section

set_option pp.maxSteps 250

noncomputable section

namespace Cert.KernelIdeal.Ring

open Cert.KernelIdeal Cert.KernelIdeal.Gen
open Idealize.ShloMosaic TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic

variable {F : FTy → Type} [FloatOps F] [Named F]

local notation "𝕄" => MT nD τ sig Unit (Elt F) ℕ (Pipeline.UD sig nD τ) ℕ

/-- The slot of chunk `h` of the run. -/
def sl (h : ℕ) : Fin 3 := ⟨h % 3, Nat.mod_lt _ (by decide)⟩

/-- Slot `s` of both rings, with nothing in flight. -/
def idle (c : Dev nD) (A A' : S8x4096x16x128.Idx → Elt F .f32) (s : Fin 3) : sProp 𝕄 :=
  iprop(∃ f f', KSide.idleAt c A s f ∗ VSide.idleAt c A' s f')

/-- Slot `s` of both rings at chunk `h`: its pages are in flight if there is such a chunk. -/
def occ (c : Dev nD) (A A' : S8x4096x16x128.Idx → Elt F .f32) (T : Tab) (G : ℕ) (s : Fin 3) (h : ℕ) : sProp 𝕄 :=
  if h < G then iprop(KSide.flying c A s (pages T h) ∗ VSide.flying c A' s (pages T h)) else idle c A A' s

/-- Both rings before chunk `g`. -/
def ring (c : Dev nD) (A A' : S8x4096x16x128.Idx → Elt F .f32) (T : Tab) (G g : ℕ) : sProp 𝕄 :=
  iprop(occ c A A' T G (sl g) g ∗ occ c A A' T G (sl (g + 1)) (g + 1) ∗ idle c A A' (sl (g + 2)))

/-- The nine tables. -/
def tabs (c : Dev nD) (q : PosShare TreeShare) (T : Tab) : sProp 𝕄 :=
  iprop(heldPm c q T
    ∗ (((c : Thread nD τ).loc main_arg7) ↦{q} (T.len : S16.Idx → Elt F .i32))
    ∗ (((c : Thread nD τ).loc main_call0_v19) ↦{q} (T.pidx : S16.Idx → Elt F .i32))
    ∗ (((c : Thread nD τ).loc main_call0_v20) ↦{q} (T.off : S16.Idx → Elt F .i32))
    ∗ (((c : Thread nD τ).loc main_call0_v32) ↦{q} (T.hits : S16x4x16.Idx → Elt F .i32))
    ∗ (((c : Thread nD τ).loc main_call0_v40) ↦{q} (T.nv : S16.Idx → Elt F .i32))
    ∗ (((c : Thread nD τ).loc main_call0_v43) ↦{q} (T.gs : S17.Idx → Elt F .i32))
    ∗ (((c : Thread nD τ).loc main_call0_v53) ↦{q} (T.gb : S64.Idx → Elt F .i32))
    ∗ (((c : Thread nD τ).loc main_call0_v61) ↦{q} (T.gc : S64.Idx → Elt F .i32)))

/-- The waits of the thread so far, whichever they are. -/
def anyOwes (c : Dev nD) : sProp 𝕄 := iprop(∃ W, owes (c : Thread nD τ) 0 W)

/-- What the slot of chunk `ch` of sequence `b` holds once the chunk's pages have landed and the new rows are written. -/
def filled (T : Tab) (K : S8x16x128.Idx → Elt F .f32) (A : S8x4096x16x128.Idx → Elt F .f32) (b : Fin 16) (ch : Fin 4) (g : ℕ) :
    S3x8x32x16x128.Idx → Elt F .f32 := patchToks T K b ch (sl g) (KSide.landed A (pages T g)) 16

/-- The three carried arrays after a chunk. -/
def trip (q3 : S1x32x128.Idx → Elt F .f32) (len : BitVec 32) (k : ℕ) (kc vc : S1x8x32x16x128.Idx → Elt F .f32)
    (m : FVec F S8x4x1 .f32 × FVec F S8x4x1 .f32 × FVec F S8x4x128 .f32) : FVec F S8x4x1 .f32 × FVec F S8x4x1 .f32 × FVec F S8x4x128 .f32 :=
  (k0_pay6 len q3 m.1 (BitVec.ofNat 32 k) (k0_pay20 kc), k0_pay9 len q3 m.1 m.2.1 (BitVec.ofNat 32 k) (k0_pay20 kc),
    k0_pay10 len q3 m.1 m.2.2 (BitVec.ofNat 32 k) (k0_pay20 kc) vc)

/-- The three carried arrays of sequence `b`, whose first chunk is chunk `g` of the run, before its chunk `k`. -/
def carry (T : Tab) (q3 : S1x32x128.Idx → Elt F .f32) (K V : S8x16x128.Idx → Elt F .f32) (A A' : S8x4096x16x128.Idx → Elt F .f32) (b : Fin 16) (g : ℕ) :
    ℕ → FVec F S8x4x1 .f32 × FVec F S8x4x1 .f32 × FVec F S8x4x128 .f32
  | 0 => (k0_pay2, k0_pay3, k0_pay4)
  | k + 1 => if h : k < 4 then trip q3 (T.len (ix1 b)) k (KSide.slotOf (filled T K A b ⟨k, h⟩ (g + k)) (sl (g + k)))
      (KSide.slotOf (filled T V A' b ⟨k, h⟩ (g + k)) (sl (g + k))) (carry T q3 K V A A' b g k)
    else carry T q3 K V A A' b g k

theorem carry_succ (T : Tab) (q3 : S1x32x128.Idx → Elt F .f32) (K V : S8x16x128.Idx → Elt F .f32) (A A' : S8x4096x16x128.Idx → Elt F .f32) (b : Fin 16) (g k : ℕ) (h : k < 4) :
    carry T q3 K V A A' b g (k + 1) = trip q3 (T.len (ix1 b)) k (KSide.slotOf (filled T K A b ⟨k, h⟩ (g + k)) (sl (g + k)))
      (KSide.slotOf (filled T V A' b ⟨k, h⟩ (g + k)) (sl (g + k))) (carry T q3 K V A A' b g k) := by
  show (if h : k < 4 then _ else _) = _
  rw [dif_pos h]

/-- A chunk's slot at a chunk that there is. -/
def air (c : Dev nD) (A A' : S8x4096x16x128.Idx → Elt F .f32) (T : Tab) (s : Fin 3) (h : ℕ) : sProp 𝕄 :=
  iprop(KSide.flying c A s (pages T h) ∗ VSide.flying c A' s (pages T h))

theorem occ_lt (c : Dev nD) (A A' : S8x4096x16x128.Idx → Elt F .f32) (T : Tab) (G : ℕ) (s : Fin 3) (h : ℕ) (hh : h < G) : occ c A A' T G s h ⊢ air c A A' T s h :=
  Entails.of_eq (if_pos hh)
theorem lt_occ (c : Dev nD) (A A' : S8x4096x16x128.Idx → Elt F .f32) (T : Tab) (G : ℕ) (s : Fin 3) (h : ℕ) (hh : h < G) : air c A A' T s h ⊢ occ c A A' T G s h :=
  Entails.of_eq (if_pos hh).symm
theorem not_occ (c : Dev nD) (A A' : S8x4096x16x128.Idx → Elt F .f32) (T : Tab) (G : ℕ) (s : Fin 3) (h : ℕ) (hh : ¬ h < G) : idle c A A' s ⊢ occ c A A' T G s h :=
  Entails.of_eq (if_neg hh).symm

theorem word_inb {o : Fin 1 → ℕ} {n : ℕ} (ho : o = ![n]) (hn : n < 64) (a : Fin 1) : o a + S1.size a ≤ S64.size a := by
  subst ho
  fin_cases a
  exact (show n + 1 ≤ 64 by omega)

section Steps
variable (c : Dev nD) {defs : Defs nD τ sig (Elt F) Λ₀} (𝒱 : Variants) (bd : Option 𝒱.V) (q : PosShare TreeShare) {T : Tab} (P : Plan T)
include P

theorem part1_wp (i : grid0.Coords) {arg10 : Memref sig .tc .vmem S1x32x128 .f32} {harg10 : arg10.IsWhole} {arg11 : Memref sig .tc .vmem S8x16x128 .f32} {harg11 : arg11.IsWhole}
    {arg12 : Memref sig .tc .vmem S8x16x128 .f32} {harg12 : arg12.IsWhole} {arg15 : Memref sig .tc .vmem S1x32x128 .f32} {harg15 : arg15.IsWhole}
    {q1 q2 : PosShare TreeShare} (K V : S8x16x128.Idx → Elt F .f32)
    (A A' : S8x4096x16x128.Idx → Elt F .f32) (arg0 : BitVec 32) (hw5) (hw9) (hw6) (t3 : Fin (k0_t3_loop (BitVec.ofNat 32 (P.n (pt i)))).trips) {kont : (Σ' (arg19 : BitVec 32), FVec F S8x512x128 .f32) → sProp 𝕄} :
    iprop(tabs c q T ∗ anyOwes c ∗ owns (c : Thread nD τ) arg11 q1 K ∗ owns (c : Thread nD τ) arg12 q2 V ∗ ring c A A' T P.G (P.st (pt i).val + t3.val))
      ⊢ iprop((iprop(tabs c q T ∗ anyOwes c ∗ owns (c : Thread nD τ) arg11 q1 K ∗ owns (c : Thread nD τ) arg12 q2 V
            ∗ occ c A A' T P.G (sl ((P.st (pt i).val + t3.val) + 1)) ((P.st (pt i).val + t3.val) + 1) ∗ occ c A A' T P.G (sl ((P.st (pt i).val + t3.val) + 2)) ((P.st (pt i).val + t3.val) + 2)
            ∗ KSide.idleAt c A (sl (P.st (pt i).val + t3.val)) (filled T K A (pt i) ⟨t3.val, lt_of_lt_of_le (lt_of_lt_of_eq t3.isLt (Offs.t3_trips (P.le4 _))) (P.le4 _)⟩ (P.st (pt i).val + t3.val))
            ∗ VSide.idleAt c A' (sl (P.st (pt i).val + t3.val)) (filled T V A' (pt i) ⟨t3.val, lt_of_lt_of_le (lt_of_lt_of_eq t3.isLt (Offs.t3_trips (P.le4 _))) (P.le4 _)⟩ (P.st (pt i).val + t3.val)))
          -∗ kont ⟨BitVec.ofNat 32 t3.val, k0_pay20 (KSide.slotOf (filled T K A (pt i) ⟨t3.val, lt_of_lt_of_le (lt_of_lt_of_eq t3.isLt (Offs.t3_trips (P.le4 _))) (P.le4 _)⟩ (P.st (pt i).val + t3.val)) (sl (P.st (pt i).val + t3.val)))⟩)
        -∗ wp frame (wpE defs 𝒱 (c : Thread nD τ) bd) Set.univ (k0_part1 i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 arg0 (BitVec.ofNat 32 (P.n (pt i))) hw5 (BitVec.ofNat 32 (P.st (pt i).val)) hw9 (BitVec.ofNat 32 P.G) hw6 0#32 1#32 t3) kont) := by
  have hn := P.le4 (pt i)
  have ht : t3.val < P.n (pt i) := lt_of_lt_of_eq t3.isLt (Offs.t3_trips hn)
  rw [k0_part1_eq_skeleton]
  unfold k0_part1_skel
  have hg : P.st (pt i).val ≤ 64 := le_trans (P.st_le _ (pt i).isLt.le) (by have := (pt i).isLt; omega)
  have hG := P.G_le
  have hlt : (P.st (pt i).val + t3.val) < P.G := P.lt_G (pt i) ht
  have hiv : Scf.iv 0#32 1#32 t3.val = BitVec.ofNat 32 t3.val := by
    rw [Offs.iv_w] <;> simp
  have hbody : ∀ (m : Fin k0_t5_loop.trips) (a : Unit), patchRes c q q1 q2 T arg11 arg12 K V A A' (sl (P.st (pt i).val + t3.val))
        (patchToks T K (pt i) ⟨t3.val, lt_of_lt_of_le (lt_of_lt_of_eq t3.isLt (Offs.t3_trips (P.le4 _))) (P.le4 _)⟩ (sl (P.st (pt i).val + t3.val)) (KSide.landed A (pages T (P.st (pt i).val + t3.val))) m.val)
        (patchToks T V (pt i) ⟨t3.val, lt_of_lt_of_le (lt_of_lt_of_eq t3.isLt (Offs.t3_trips (P.le4 _))) (P.le4 _)⟩ (sl (P.st (pt i).val + t3.val)) (KSide.landed A' (pages T (P.st (pt i).val + t3.val))) m.val)
      ⊢ wp frame (wpE defs 𝒱 (c : Thread nD τ) bd) Set.univ (k0_t5_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 arg0 (BitVec.ofNat 32 (P.n (pt i))) hw5 (BitVec.ofNat 32 (P.st (pt i).val)) hw9 (BitVec.ofNat 32 P.G) hw6 0#32 1#32 t3 m a)
        (fun _ => patchRes c q q1 q2 T arg11 arg12 K V A A' (sl (P.st (pt i).val + t3.val))
        (patchToks T K (pt i) ⟨t3.val, lt_of_lt_of_le (lt_of_lt_of_eq t3.isLt (Offs.t3_trips (P.le4 _))) (P.le4 _)⟩ (sl (P.st (pt i).val + t3.val)) (KSide.landed A (pages T (P.st (pt i).val + t3.val))) (m.val + 1))
        (patchToks T V (pt i) ⟨t3.val, lt_of_lt_of_le (lt_of_lt_of_eq t3.isLt (Offs.t3_trips (P.le4 _))) (P.le4 _)⟩ (sl (P.st (pt i).val + t3.val)) (KSide.landed A' (pages T (P.st (pt i).val + t3.val))) (m.val + 1)) : Unit → sProp 𝕄) := by
    intro m a
    exact t5_step c (defs := defs) 𝒱 bd q P i (arg10 := arg10) (harg10 := harg10) (arg11 := arg11) (harg11 := harg11) (arg12 := arg12) (harg12 := harg12) (arg15 := arg15) (harg15 := harg15) (q1 := q1) (q2 := q2) K V A A' (KSide.landed A (pages T (P.st (pt i).val + t3.val))) (KSide.landed A' (pages T (P.st (pt i).val + t3.val))) arg0 hn hg hw5 hw9 (BitVec.ofNat 32 P.G) hw6 0#32 1#32 t3 (lt_of_lt_of_le ht hn) m a
  dsimp only
  unfold ring tabs anyOwes filled
  iintro ⟨⟨Hpm, Hle, Hpi, Hof, Hhi, Hnv, Hgs, Hgb, Hgc⟩, ⟨%W, HO⟩, Hkn, Hvn, H0, H1, H2⟩ Hk
  ihave H0 := (occ_lt c A A' T P.G (sl (P.st (pt i).val + t3.val)) (P.st (pt i).val + t3.val) hlt) $$ H0
  unfold air
  icases H0 with ⟨HK0, HV0⟩
  by_cases h4 : k0_cond4 (BitVec.ofNat 32 (P.n (pt i))) (BitVec.ofNat 32 (P.st (pt i).val)) (BitVec.ofNat 32 P.G) t3 = 1#1
  · rw [dif_pos h4]
    have h2 : ((P.st (pt i).val + t3.val) + 2) < P.G := (Offs.cond4 hn hg t3 hG).1 h4
    obtain ⟨b', k', hk', e2⟩ := P.exists_seq 16 le_rfl _ h2
    have hk4 : k' < 4 := lt_of_lt_of_le hk' (P.le4 b')
    have h64 : ((P.st (pt i).val + t3.val) + 2) < 64 := lt_of_lt_of_le h2 hG
    have h64' : P.st b'.val + k' < 64 := e2 ▸ h64
    have egb : T.gb (ix1 ⟨((P.st (pt i).val + t3.val) + 2), h64⟩) = BitVec.ofNat 32 b'.val := by
      have := P.gb_eq b' k' h64' hk'
      rw [← this]
      exact congrArg (fun x => T.gb (ix1 x)) (Fin.ext e2)
    have egc : T.gc (ix1 ⟨((P.st (pt i).val + t3.val) + 2), h64⟩) = BitVec.ofNat 32 k' := by
      have := P.gc_eq b' k' h64' hk'
      rw [← this]
      exact congrArg (fun x => T.gc (ix1 x)) (Fin.ext e2)
    have hp : ∀ (j : Fin 32) (h : k' * 32 + j.val < 128), (pages T ((P.st (pt i).val + t3.val) + 2) j).val = (T.pm (ix2 ⟨b'.val, b'.isLt⟩ ⟨k' * 32 + j.val, h⟩)).toNat := by
      intro j h
      rw [e2]
      exact pages_eq P b' hk' j h
    iapply (wordEq_gb c 𝒱 bd q T.gb _ ⟨((P.st (pt i).val + t3.val) + 2), h64⟩ (Offs.off15 hn hg t3) _ egb) $$ Hgb
    iintro Hgb
    iapply (wordEq_gc c 𝒱 bd q T.gc _ ⟨((P.st (pt i).val + t3.val) + 2), h64⟩ (Offs.off15 hn hg t3) _ egc) $$ Hgc
    iintro Hgc
    have hch : k0_chk7 (BitVec.ofNat 32 (P.n (pt i))) (BitVec.ofNat 32 (P.st (pt i).val)) (BitVec.ofNat 32 P.G) t3 (BitVec.ofNat 32 b'.val) (BitVec.ofNat 32 k') := fun k6 _ a => by
      have hk6 : k6.val < 32 := lt_of_lt_of_eq k6.isLt Offs.t4_trips
      exact map_inb (Offs.off16 b'.val k' b'.isLt hk4 k6) b'.isLt (by omega) a
    iapply (wp_assume 𝒱 (c : Thread nD τ) bd Set.univ hch)
    unfold idle
    icases H2 with ⟨%f, %f', HK2, HV2⟩
    imod (KSide.start c A (sl ((P.st (pt i).val + t3.val) + 2)) (pages T ((P.st (pt i).val + t3.val) + 2)) f) $$ HK2 with HK2
    imod (VSide.start c A' (sl ((P.st (pt i).val + t3.val) + 2)) (pages T ((P.st (pt i).val + t3.val) + 2)) f') $$ HV2 with HV2
    have hbody4 : ∀ (m : Fin k0_t4_loop.trips) (a : Unit), iprop(heldPm c q T ∗ startK c A A' (sl ((P.st (pt i).val + t3.val) + 2)) (pages T ((P.st (pt i).val + t3.val) + 2)) f f' m.val)
        ⊢ wp frame (wpE defs 𝒱 (c : Thread nD τ) bd) Set.univ (k0_t4_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 arg0 (BitVec.ofNat 32 (P.n (pt i))) hw5 (BitVec.ofNat 32 (P.st (pt i).val)) hw9 (BitVec.ofNat 32 P.G) hw6 0#32 1#32 t3 h4 (BitVec.ofNat 32 b'.val) (BitVec.ofNat 32 k') hch m a)
          (fun _ => iprop(heldPm c q T ∗ startK c A A' (sl ((P.st (pt i).val + t3.val) + 2)) (pages T ((P.st (pt i).val + t3.val) + 2)) f f' (m.val + 1)) : Unit → sProp 𝕄) := by
      intro m a
      exact t4_step c (defs := defs) 𝒱 bd q P i (arg10 := arg10) (harg10 := harg10) (arg11 := arg11) (harg11 := harg11) (arg12 := arg12) (harg12 := harg12) (arg15 := arg15) (harg15 := harg15) A A' f f' b'.isLt hk4 (pages T ((P.st (pt i).val + t3.val) + 2)) hp arg0 hn hg hw5 hw9 (BitVec.ofNat 32 P.G) hw6 0#32 1#32 t3 h4 hch m a
    iapply (Scf.wp_for_bind frame (wpE defs 𝒱 (c : Thread nD τ) bd) Set.univ k0_t4_loop.lb k0_t4_loop.ub k0_t4_loop.st k0_t4_ok () _
      (fun m _ => iprop(heldPm c q T ∗ startK c A A' (sl ((P.st (pt i).val + t3.val) + 2)) (pages T ((P.st (pt i).val + t3.val) + 2)) f f' m)) hbody4) $$ [Hpm HK2 HV2]
    · isplitl [Hpm]; · iexact Hpm
      unfold startK
      isplitl [HK2]; · iexact HK2
      iexact HV2
    iintro %a4 ⟨Hpm, HS⟩
    have e32 : Scf.trips k0_t4_loop.lb k0_t4_loop.ub k0_t4_loop.st = 32 := Offs.t4_trips
    rw [e32]
    unfold startK
    icases HS with ⟨HK2, HV2⟩
    ihave HK2 := (KSide.issued c A (sl ((P.st (pt i).val + t3.val) + 2)) (pages T ((P.st (pt i).val + t3.val) + 2)) f) $$ HK2
    ihave HV2 := (VSide.issued c A' (sl ((P.st (pt i).val + t3.val) + 2)) (pages T ((P.st (pt i).val + t3.val) + 2)) f') $$ HV2
    ihave H2 := (lt_occ c A A' T P.G (sl ((P.st (pt i).val + t3.val) + 2)) ((P.st (pt i).val + t3.val) + 2) h2) $$ [HK2 HV2]
    · unfold air
      isplitl [HK2]; · iexact HK2
      iexact HV2
    -- the chunk's own pages land
    iapply (KSide.wp_arrive (defs := defs) c 𝒱 bd A (sl (P.st (pt i).val + t3.val)) (pages T (P.st (pt i).val + t3.val)) _ (semK (sl (P.st (pt i).val + t3.val)) (Offs.off22 hn hg t3) _) (W := W)) $$ [HK0 HO]
    · isplitl [HK0]; · iexact HK0
      iexact HO
    iintro ⟨HK, HO⟩
    iapply (VSide.wp_arrive (defs := defs) c 𝒱 bd A' (sl (P.st (pt i).val + t3.val)) (pages T (P.st (pt i).val + t3.val)) _ (semV (sl (P.st (pt i).val + t3.val)) (Offs.off24 hn hg t3) _)) $$ [HV0 HO]
    · isplitl [HV0]; · iexact HV0
      iexact HO
    iintro ⟨HV, HO⟩
    iapply (Scf.wp_for_bind frame (wpE defs 𝒱 (c : Thread nD τ) bd) Set.univ k0_t5_loop.lb k0_t5_loop.ub k0_t5_loop.st k0_t5_ok () _
      (fun m _ => patchRes c q q1 q2 T arg11 arg12 K V A A' (sl (P.st (pt i).val + t3.val))
        (patchToks T K (pt i) ⟨t3.val, lt_of_lt_of_le (lt_of_lt_of_eq t3.isLt (Offs.t3_trips (P.le4 _))) (P.le4 _)⟩ (sl (P.st (pt i).val + t3.val)) (KSide.landed A (pages T (P.st (pt i).val + t3.val))) m)
        (patchToks T V (pt i) ⟨t3.val, lt_of_lt_of_le (lt_of_lt_of_eq t3.isLt (Offs.t3_trips (P.le4 _))) (P.le4 _)⟩ (sl (P.st (pt i).val + t3.val)) (KSide.landed A' (pages T (P.st (pt i).val + t3.val))) m))
      hbody) $$ [Hpm Hpi Hof Hhi Hkn Hvn HK HV]
    · unfold patchRes
      isplitl [Hpm]; · iexact Hpm
      isplitl [Hpi]; · iexact Hpi
      isplitl [Hof]; · iexact Hof
      isplitl [Hhi]; · iexact Hhi
      isplitl [Hkn]; · iexact Hkn
      isplitl [Hvn]; · iexact Hvn
      isplitl [HK]; · iexact HK
      iexact HV
    iintro %a5 HR
    have e16 : Scf.trips k0_t5_loop.lb k0_t5_loop.ub k0_t5_loop.st = 16 := Offs.t5_trips
    rw [e16]
    unfold patchRes
    icases HR with ⟨Hpm, Hpi, Hof, Hhi, Hkn, Hvn, HK, HV⟩
    iapply (KSide.wp_loadSlot (defs := defs) c 𝒱 bd A (sl (P.st (pt i).val + t3.val)) _ _ (Offs.off32 hn hg t3)) $$ HK
    iintro HK
    iapply (le_wp_ret _ _)
    rw [hiv]
    iapply Hk
    isplitl [Hpm Hle Hpi Hof Hhi Hnv Hgs Hgb Hgc]
    · isplitl [Hpm]; · iexact Hpm
      isplitl [Hle]; · iexact Hle
      isplitl [Hpi]; · iexact Hpi
      isplitl [Hof]; · iexact Hof
      isplitl [Hhi]; · iexact Hhi
      isplitl [Hnv]; · iexact Hnv
      isplitl [Hgs]; · iexact Hgs
      isplitl [Hgb]; · iexact Hgb
      iexact Hgc
    isplitl [HO]
    · iexists _
      iexact HO
    isplitl [Hkn]; · iexact Hkn
    isplitl [Hvn]; · iexact Hvn
    isplitl [H1]; · iexact H1
    isplitl [H2]; · iexact H2
    isplitl [HK]; · iexact HK
    iexact HV
  · rw [dif_neg h4]
    ihave H2 := (not_occ c A A' T P.G (sl ((P.st (pt i).val + t3.val) + 2)) ((P.st (pt i).val + t3.val) + 2) (fun h => h4 ((Offs.cond4 hn hg t3 hG).2 h))) $$ H2
    -- the chunk's own pages land
    iapply (KSide.wp_arrive (defs := defs) c 𝒱 bd A (sl (P.st (pt i).val + t3.val)) (pages T (P.st (pt i).val + t3.val)) _ (semK (sl (P.st (pt i).val + t3.val)) (Offs.off22 hn hg t3) _) (W := W)) $$ [HK0 HO]
    · isplitl [HK0]; · iexact HK0
      iexact HO
    iintro ⟨HK, HO⟩
    iapply (VSide.wp_arrive (defs := defs) c 𝒱 bd A' (sl (P.st (pt i).val + t3.val)) (pages T (P.st (pt i).val + t3.val)) _ (semV (sl (P.st (pt i).val + t3.val)) (Offs.off24 hn hg t3) _)) $$ [HV0 HO]
    · isplitl [HV0]; · iexact HV0
      iexact HO
    iintro ⟨HV, HO⟩
    iapply (Scf.wp_for_bind frame (wpE defs 𝒱 (c : Thread nD τ) bd) Set.univ k0_t5_loop.lb k0_t5_loop.ub k0_t5_loop.st k0_t5_ok () _
      (fun m _ => patchRes c q q1 q2 T arg11 arg12 K V A A' (sl (P.st (pt i).val + t3.val))
        (patchToks T K (pt i) ⟨t3.val, lt_of_lt_of_le (lt_of_lt_of_eq t3.isLt (Offs.t3_trips (P.le4 _))) (P.le4 _)⟩ (sl (P.st (pt i).val + t3.val)) (KSide.landed A (pages T (P.st (pt i).val + t3.val))) m)
        (patchToks T V (pt i) ⟨t3.val, lt_of_lt_of_le (lt_of_lt_of_eq t3.isLt (Offs.t3_trips (P.le4 _))) (P.le4 _)⟩ (sl (P.st (pt i).val + t3.val)) (KSide.landed A' (pages T (P.st (pt i).val + t3.val))) m))
      hbody) $$ [Hpm Hpi Hof Hhi Hkn Hvn HK HV]
    · unfold patchRes
      isplitl [Hpm]; · iexact Hpm
      isplitl [Hpi]; · iexact Hpi
      isplitl [Hof]; · iexact Hof
      isplitl [Hhi]; · iexact Hhi
      isplitl [Hkn]; · iexact Hkn
      isplitl [Hvn]; · iexact Hvn
      isplitl [HK]; · iexact HK
      iexact HV
    iintro %a5 HR
    have e16 : Scf.trips k0_t5_loop.lb k0_t5_loop.ub k0_t5_loop.st = 16 := Offs.t5_trips
    rw [e16]
    unfold patchRes
    icases HR with ⟨Hpm, Hpi, Hof, Hhi, Hkn, Hvn, HK, HV⟩
    iapply (KSide.wp_loadSlot (defs := defs) c 𝒱 bd A (sl (P.st (pt i).val + t3.val)) _ _ (Offs.off32 hn hg t3)) $$ HK
    iintro HK
    iapply (le_wp_ret _ _)
    rw [hiv]
    iapply Hk
    isplitl [Hpm Hle Hpi Hof Hhi Hnv Hgs Hgb Hgc]
    · isplitl [Hpm]; · iexact Hpm
      isplitl [Hle]; · iexact Hle
      isplitl [Hpi]; · iexact Hpi
      isplitl [Hof]; · iexact Hof
      isplitl [Hhi]; · iexact Hhi
      isplitl [Hnv]; · iexact Hnv
      isplitl [Hgs]; · iexact Hgs
      isplitl [Hgb]; · iexact Hgb
      iexact Hgc
    isplitl [HO]
    · iexists _
      iexact HO
    isplitl [Hkn]; · iexact Hkn
    isplitl [Hvn]; · iexact Hvn
    isplitl [H1]; · iexact H1
    isplitl [H2]; · iexact H2
    isplitl [HK]; · iexact HK
    iexact HV

end Steps

end Cert.KernelIdeal.Ring
-- ==== Proof.Main.lean ====
/-
  A whole trip of the grid: the first two chunks' copies, the loop over the sequence's chunks, and the row the trip stores.
-/
module

public import proofs.«01_k».proof.Proof.Body
public import Idealize.ShloMosaic.Lib.VecWindow

@[expose] public section

set_option pp.maxSteps 250

noncomputable section

namespace Cert.KernelIdeal.Ring

open Cert.KernelIdeal Cert.KernelIdeal.Gen
open Idealize.ShloMosaic TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic

variable {F : FTy → Type} [FloatOps F] [Named F]

local notation "𝕄" => MT nD τ sig Unit (Elt F) ℕ (Pipeline.UD sig nD τ) ℕ

/-- The row of the result sequence `b` stores, of `n` chunks the first of which is chunk `g` of the run. -/
def stored (T : Tab) (X : S1x32x128.Idx → Elt F .f32) (K V : S8x16x128.Idx → Elt F .f32) (A A' : S8x4096x16x128.Idx → Elt F .f32) (b : Fin 16) (g n : ℕ) :
    S1x32x128.Idx → Elt F .f32 :=
  k0_pay17 (carry T X K V A A' b g n).2.1 (carry T X K V A A' b g n).2.2

/-- Both rings before grid point `b`: idle before the first, at the sequence's first chunk before any other. -/
def pool (c : Dev nD) (A A' : S8x4096x16x128.Idx → Elt F .f32) (T : Tab) (G : ℕ) (st : ℕ → ℕ) : ℕ → sProp 𝕄
  | 0 => iprop(idle c A A' 0 ∗ idle c A A' 1 ∗ idle c A A' 2)
  | b + 1 => ring c A A' T G (st (b + 1))

section Entail
variable (c : Dev nD) (q : PosShare TreeShare) (T : Tab) (A A' : S8x4096x16x128.Idx → Elt F .f32)

theorem tabs_open : (tabs c q T : sProp 𝕄) ⊢ iprop(heldPm c q T
    ∗ (((c : Thread nD τ).loc main_arg7) ↦{q} (T.len : S16.Idx → Elt F .i32))
    ∗ (((c : Thread nD τ).loc main_call0_v19) ↦{q} (T.pidx : S16.Idx → Elt F .i32))
    ∗ (((c : Thread nD τ).loc main_call0_v20) ↦{q} (T.off : S16.Idx → Elt F .i32))
    ∗ (((c : Thread nD τ).loc main_call0_v32) ↦{q} (T.hits : S16x4x16.Idx → Elt F .i32))
    ∗ (((c : Thread nD τ).loc main_call0_v40) ↦{q} (T.nv : S16.Idx → Elt F .i32))
    ∗ (((c : Thread nD τ).loc main_call0_v43) ↦{q} (T.gs : S17.Idx → Elt F .i32))
    ∗ (((c : Thread nD τ).loc main_call0_v53) ↦{q} (T.gb : S64.Idx → Elt F .i32))
    ∗ (((c : Thread nD τ).loc main_call0_v61) ↦{q} (T.gc : S64.Idx → Elt F .i32))) := by
  unfold tabs; exact Entails.rfl
theorem tabs_close : iprop(heldPm c q T
    ∗ (((c : Thread nD τ).loc main_arg7) ↦{q} (T.len : S16.Idx → Elt F .i32))
    ∗ (((c : Thread nD τ).loc main_call0_v19) ↦{q} (T.pidx : S16.Idx → Elt F .i32))
    ∗ (((c : Thread nD τ).loc main_call0_v20) ↦{q} (T.off : S16.Idx → Elt F .i32))
    ∗ (((c : Thread nD τ).loc main_call0_v32) ↦{q} (T.hits : S16x4x16.Idx → Elt F .i32))
    ∗ (((c : Thread nD τ).loc main_call0_v40) ↦{q} (T.nv : S16.Idx → Elt F .i32))
    ∗ (((c : Thread nD τ).loc main_call0_v43) ↦{q} (T.gs : S17.Idx → Elt F .i32))
    ∗ (((c : Thread nD τ).loc main_call0_v53) ↦{q} (T.gb : S64.Idx → Elt F .i32))
    ∗ (((c : Thread nD τ).loc main_call0_v61) ↦{q} (T.gc : S64.Idx → Elt F .i32))) ⊢ (tabs c q T : sProp 𝕄) := by
  unfold tabs; exact Entails.rfl
theorem idle_open (s : Fin 3) : idle c A A' s ⊢ (iprop(∃ f f', KSide.idleAt c A s f ∗ VSide.idleAt c A' s f') : sProp 𝕄) := by
  unfold idle; exact Entails.rfl
theorem ring_zero (G g : ℕ) (e : g = 0) :
    iprop(occ c A A' T G (0 : Fin 3) 0 ∗ occ c A A' T G (1 : Fin 3) 1 ∗ idle c A A' (2 : Fin 3)) ⊢ (ring c A A' T G g : sProp 𝕄) := by
  subst e; exact Entails.rfl
theorem ring_next (G g : ℕ) (f f' : S3x8x32x16x128.Idx → Elt F .f32) :
    iprop(occ c A A' T G (sl (g + 1)) (g + 1) ∗ occ c A A' T G (sl (g + 2)) (g + 2) ∗ KSide.idleAt c A (sl g) f ∗ VSide.idleAt c A' (sl g) f') ⊢ (ring c A A' T G (g + 1) : sProp 𝕄) := by
  have e : sl (g + 1 + 2) = sl g := Fin.ext (by show (g + 1 + 2) % 3 = g % 3; omega)
  unfold ring
  rw [e]
  unfold idle
  iintro ⟨H1, H2, HK, HV⟩
  isplitl [H1]; · iexact H1
  isplitl [H2]; · iexact H2
  iexists f
  iexists f'
  isplitl [HK]; · iexact HK
  iexact HV
end Entail

theorem whole_idx (X : S1x32x128.Idx → Elt F .f32) :
    (fun x => X ((Rect.unit (s := S1x32x128) ![0, 0, 0] S1x32x128.size inb_S1x32x128_S1x32x128_0_0_0).toLoadRect.idx x)) = X := by
  funext x
  refine congrArg X ?_
  funext a
  apply Fin.ext
  fin_cases a <;> exact (show 0 + 1 * _ = _ by omega)

theorem sem_inb (x : Fin 3) (u : Fin 2) (a : Fin 2) : (![x.val, u.val] : Fin 2 → ℕ) a + S1x1.size a ≤ S3x2.size a := by
  fin_cases a
  · exact (show x.val + 1 ≤ 3 by omega)
  · exact (show u.val + 1 ≤ 2 by omega)
theorem slot_inb (x : Fin 3) (a : Fin 5) : (![x.val, 0, 0, 0, 0] : Fin 5 → ℕ) a + S1x8x32x16x128.size a ≤ S3x8x32x16x128.size a := by
  fin_cases a
  · exact (show x.val + 1 ≤ 3 by omega)
  all_goals exact Nat.le_of_eq (Nat.zero_add _)
theorem piece_inb (x : Fin 3) {j : ℕ} (hj : j < 32) (a : Fin 5) : (![x.val, 0, j, 0, 0] : Fin 5 → ℕ) a + S1x8x1x16x128.size a ≤ S3x8x32x16x128.size a := by
  fin_cases a
  · exact (show x.val + 1 ≤ 3 by omega)
  · exact (show 0 + 8 ≤ 8 by omega)
  · exact (show j + 1 ≤ 32 by omega)
  · exact (show 0 + 16 ≤ 16 by omega)
  · exact (show 0 + 128 ≤ 128 by omega)

section Steps
variable (c : Dev nD) {defs : Defs nD τ sig (Elt F) Λ₀} (𝒱 : Variants) (bd : Option 𝒱.V) (q : PosShare TreeShare) {T : Tab} (P : Plan T)

/-- A store of a whole window. -/
theorem wp_winStore {α : Type} (m : Memref sig .tc .vmem S1x32x128 .f32) (Y : S1x32x128.Idx → Elt F .f32) {w : S1x32x128.Idx → Elt F .f32} {hx} {hm}
    {kont : PUnit → Prog (TpuEff nD τ sig (Elt F) Λ₀ .tc) α} {Q : α → sProp 𝕄} :
    (owns (c : Thread nD τ) m fullShare Y : sProp 𝕄)
      ⊢ iprop((owns (c : Thread nD τ) m fullShare w -∗ wp frame (wpE defs 𝒱 (c : Thread nD τ) bd) Set.univ (kont ⟨⟩) Q)
        -∗ wp frame (wpE defs 𝒱 (c : Thread nD τ) bd) Set.univ (.op (.store m (Rect.unit (s := S1x32x128) ![0, 0, 0] S1x32x128.size inb_S1x32x128_S1x32x128_0_0_0) w Finset.univ hx hm) kont) Q) := by
  unfold owns
  iintro ⟨%f, %hf, H⟩ Hk
  iapply (wp_store_writes₀ 𝒱 (c : Thread nD τ) bd Set.univ (m := m) (S := m.view.set) (f := f) (View.set_slice_subset _ _)) $$ [H]
  · iexact H
  iintro H
  iapply Hk
  iexists _
  isplitr
  · ipureintro; exact View.read_writes_full m.view f inb_S1x32x128_S1x32x128_0_0_0 w []
  iexact H

include P

theorem pool_succ (A A' : S8x4096x16x128.Idx → Elt F .f32) (b : Fin 16) : (pool c A A' T P.G P.st (b.val + 1) : sProp 𝕄) = ring c A A' T P.G (P.st b.val + P.n b) := by
  show ring c A A' T P.G (P.st (b.val + 1)) = _
  rw [P.st_succ]

theorem chk5 (i : grid0.Coords) : k0_chk5 i (BitVec.ofNat 32 (P.n (pt i))) := by
  have hn := P.le4 (pt i)
  refine ⟨Offs.t3_ok hn, fun t3 t5 a => ?_, Offs.t7_ok hn, fun t7 => absurd (lt_of_lt_of_eq t7.isLt (Offs.t7_trips hn)) (Nat.not_lt_zero _)⟩
  have h3 : t3.val < P.n (pt i) := lt_of_lt_of_eq t3.isLt (Offs.t3_trips hn)
  have h5 : t5.val < 16 := lt_of_lt_of_eq t5.isLt Offs.t5_trips
  have hi : (i 0).val < 16 := (pt i).isLt
  rw [Offs.off25 hn t3 i t5]
  fin_cases a
  · exact (show (i 0).val + 1 ≤ 16 by omega)
  · exact (show t3.val + 1 ≤ 4 by omega)
  · exact (show t5.val + 1 ≤ 16 by omega)

theorem chk9 (i : grid0.Coords) : k0_chk9 (BitVec.ofNat 32 (P.n (pt i))) (BitVec.ofNat 32 (P.st (pt i).val)) := by
  have hn := P.le4 (pt i)
  have hg : P.st (pt i).val ≤ 64 := le_trans (P.st_le _ (pt i).isLt.le) (by have := (pt i).isLt; omega)
  have hz : ∀ t7 : Fin (k0_t7_loop (BitVec.ofNat 32 (P.n (pt i)))).trips, False := fun t7 => absurd (lt_of_lt_of_eq t7.isLt (Offs.t7_trips hn)) (Nat.not_lt_zero _)
  refine ⟨fun t3 a => ?_, fun t3 a => ?_, fun t3 a => ?_, fun t3 a => ?_, fun t7 => (hz t7).elim, fun t7 => (hz t7).elim, fun t7 => (hz t7).elim, fun t7 => (hz t7).elim⟩
  · rw [Offs.off22 hn hg t3]; exact sem_inb (sl (P.st (pt i).val + t3.val)) 0 a
  · rw [Offs.off23 hn hg t3]; exact slot_inb (sl (P.st (pt i).val + t3.val)) a
  · rw [Offs.off24 hn hg t3]; exact sem_inb (sl (P.st (pt i).val + t3.val)) 1 a
  · rw [Offs.off32 hn hg t3]; exact slot_inb (sl (P.st (pt i).val + t3.val)) a

theorem chk6 (i : grid0.Coords) : k0_chk6 (BitVec.ofNat 32 (P.n (pt i))) (BitVec.ofNat 32 (P.st (pt i).val)) (BitVec.ofNat 32 P.G) := by
  have hn := P.le4 (pt i)
  have hG := P.G_le
  have hg : P.st (pt i).val ≤ 64 := le_trans (P.st_le _ (pt i).isLt.le) (by have := (pt i).isLt; omega)
  have hz : ∀ t7 : Fin (k0_t7_loop (BitVec.ofNat 32 (P.n (pt i)))).trips, False := fun t7 => absurd (lt_of_lt_of_eq t7.isLt (Offs.t7_trips hn)) (Nat.not_lt_zero _)
  refine ⟨fun t3 h4 a => ?_, fun t3 _ a => ?_, fun t3 t4 _ a => ?_, fun t3 _ a => ?_, fun t3 t4 _ a => ?_, fun t7 => (hz t7).elim, fun t7 => (hz t7).elim, fun t7 => (hz t7).elim, fun t7 => (hz t7).elim, fun t7 => (hz t7).elim⟩
  · have h2 : P.st (pt i).val + t3.val + 2 < P.G := (Offs.cond4 hn hg t3 hG).1 h4
    exact word_inb (Offs.off15 hn hg t3) (by omega) a
  · rw [Offs.off17 hn hg t3]; exact sem_inb (sl ((P.st (pt i).val + t3.val) + 2)) 0 a
  · rw [Offs.off18 hn hg t3 t4]; exact piece_inb (sl ((P.st (pt i).val + t3.val) + 2)) (lt_of_lt_of_eq t4.isLt Offs.t4_trips) a
  · rw [Offs.off20 hn hg t3]; exact sem_inb (sl ((P.st (pt i).val + t3.val) + 2)) 1 a
  · rw [Offs.off21 hn hg t3 t4]; exact piece_inb (sl ((P.st (pt i).val + t3.val) + 2)) (lt_of_lt_of_eq t4.isLt Offs.t4_trips) a

theorem t3_step (i : grid0.Coords) {arg10 : Memref sig .tc .vmem S1x32x128 .f32} {harg10 : arg10.IsWhole} {arg11 : Memref sig .tc .vmem S8x16x128 .f32} {harg11 : arg11.IsWhole}
    {arg12 : Memref sig .tc .vmem S8x16x128 .f32} {harg12 : arg12.IsWhole} {arg15 : Memref sig .tc .vmem S1x32x128 .f32} {harg15 : arg15.IsWhole}
    (X : S1x32x128.Idx → Elt F .f32) (K V : S8x16x128.Idx → Elt F .f32) (A A' : S8x4096x16x128.Idx → Elt F .f32) (arg0 : BitVec 32) (hw5) (hw9) (hw6)
    (t3 : Fin (k0_t3_loop (BitVec.ofNat 32 (P.n (pt i)))).trips) (acc : FVec F S8x4x1 .f32 × FVec F S8x4x1 .f32 × FVec F S8x4x128 .f32) :
    iprop(tabs c q T ∗ anyOwes c ∗ owns (c : Thread nD τ) arg11 fullShare K ∗ owns (c : Thread nD τ) arg12 fullShare V ∗ ring c A A' T P.G ((P.st (pt i).val) + t3.val) ∗ ⌜acc = carry T X K V A A' (pt i) (P.st (pt i).val) (t3.val)⌝)
      ⊢ wp frame (wpE defs 𝒱 (c : Thread nD τ) bd) Set.univ (k0_t3_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 arg0 (BitVec.ofNat 32 (P.n (pt i))) hw5 (T.len (ix1 (pt i))) (BitVec.ofNat 32 (P.st (pt i).val)) hw9 (BitVec.ofNat 32 P.G) hw6 X t3 acc)
        (fun r => iprop(tabs c q T ∗ anyOwes c ∗ owns (c : Thread nD τ) arg11 fullShare K ∗ owns (c : Thread nD τ) arg12 fullShare V ∗ ring c A A' T P.G ((P.st (pt i).val) + (t3.val + 1)) ∗ ⌜r = carry T X K V A A' (pt i) (P.st (pt i).val) ((t3.val + 1))⌝) : FVec F S8x4x1 .f32 × FVec F S8x4x1 .f32 × FVec F S8x4x128 .f32 → sProp 𝕄) := by
  have hn := P.le4 (pt i)
  have ht : t3.val < P.n (pt i) := lt_of_lt_of_eq t3.isLt (Offs.t3_trips hn)
  have hg : P.st (pt i).val ≤ 64 := le_trans (P.st_le _ (pt i).isLt.le) (by have := (pt i).isLt; omega)
  obtain ⟨a1, a2, a3⟩ := acc
  unfold k0_t3_body
  dsimp only
  rw [wp_bind]
  iintro ⟨HT, HO, H11, H12, HR, %ha⟩
  iapply (part1_wp c (defs := defs) 𝒱 bd q P i (arg10 := arg10) (harg10 := harg10) (arg11 := arg11) (harg11 := harg11) (arg12 := arg12) (harg12 := harg12) (arg15 := arg15) (harg15 := harg15) K V A A' arg0 hw5 hw9 hw6 t3) $$ [HT HO H11 H12 HR]
  · isplitl [HT]; · iexact HT
    isplitl [HO]; · iexact HO
    isplitl [H11]; · iexact H11
    isplitl [H12]; · iexact H12
    iexact HR
  iintro ⟨HT, HO, H11, H12, H1, H2, HK, HV⟩
  iapply (VSide.wp_loadSlot (defs := defs) c 𝒱 bd A' (sl ((P.st (pt i).val) + t3.val)) _ _ (Offs.off32 hn hg t3)) $$ HV
  iintro HV
  iapply (le_wp_ret _ _)
  isplitl [HT]; · iexact HT
  isplitl [HO]; · iexact HO
  isplitl [H11]; · iexact H11
  isplitl [H12]; · iexact H12
  isplitl [H1 H2 HK HV]
  · iapply (ring_next c T A A' P.G ((P.st (pt i).val) + t3.val))
    isplitl [H1]; · iexact H1
    isplitl [H2]; · iexact H2
    isplitl [HK]; · iexact HK
    iexact HV
  ipureintro
  rw [carry_succ T X K V A A' (pt i) (P.st (pt i).val) t3.val (lt_of_lt_of_le ht hn), ← ha]
  rfl

theorem main_wp (i : grid0.Coords) {arg10 : Memref sig .tc .vmem S1x32x128 .f32} {harg10 : arg10.IsWhole} {arg11 : Memref sig .tc .vmem S8x16x128 .f32} {harg11 : arg11.IsWhole}
    {arg12 : Memref sig .tc .vmem S8x16x128 .f32} {harg12 : arg12.IsWhole} {arg15 : Memref sig .tc .vmem S1x32x128 .f32} {harg15 : arg15.IsWhole}
    (X Y : S1x32x128.Idx → Elt F .f32) (K V : S8x16x128.Idx → Elt F .f32) (A A' : S8x4096x16x128.Idx → Elt F .f32) :
    iprop(tabs c q T ∗ anyOwes c ∗ pool c A A' T P.G P.st (pt i).val ∗ owns (c : Thread nD τ) arg10 fullShare X ∗ owns (c : Thread nD τ) arg11 fullShare K
        ∗ owns (c : Thread nD τ) arg12 fullShare V ∗ owns (c : Thread nD τ) arg15 fullShare Y)
      ⊢ wp frame (wpE defs 𝒱 (c : Thread nD τ) bd) Set.univ (cc0__attn_kernel i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2)
        (fun _ => iprop(tabs c q T ∗ anyOwes c ∗ pool c A A' T P.G P.st ((pt i).val + 1) ∗ owns (c : Thread nD τ) arg10 fullShare X ∗ owns (c : Thread nD τ) arg11 fullShare K
          ∗ owns (c : Thread nD τ) arg12 fullShare V ∗ owns (c : Thread nD τ) arg15 fullShare (stored T X K V A A' (pt i) (P.st (pt i).val) (P.n (pt i)))) : PUnit → sProp 𝕄) := by
  have hn := P.le4 (pt i)
  have hG := P.G_le
  have hw5 := chk5 P i
  have hw9 := chk9 P i
  have hw6 := chk6 P i
  have hbody3 : ∀ (m : Fin (k0_t3_loop (BitVec.ofNat 32 (P.n (pt i)))).trips) (acc : FVec F S8x4x1 .f32 × FVec F S8x4x1 .f32 × FVec F S8x4x128 .f32),
      iprop(tabs c q T ∗ anyOwes c ∗ owns (c : Thread nD τ) arg11 fullShare K ∗ owns (c : Thread nD τ) arg12 fullShare V ∗ ring c A A' T P.G ((P.st (pt i).val) + m.val) ∗ ⌜acc = carry T X K V A A' (pt i) (P.st (pt i).val) (m.val)⌝)
      ⊢ wp frame (wpE defs 𝒱 (c : Thread nD τ) bd) Set.univ (k0_t3_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 (BitVec.ofNat 32 (i 0).val) (BitVec.ofNat 32 (P.n (pt i))) hw5 (T.len (ix1 (pt i))) (BitVec.ofNat 32 (P.st (pt i).val)) hw9 (BitVec.ofNat 32 P.G) hw6 X m acc)
        (fun r => iprop(tabs c q T ∗ anyOwes c ∗ owns (c : Thread nD τ) arg11 fullShare K ∗ owns (c : Thread nD τ) arg12 fullShare V ∗ ring c A A' T P.G ((P.st (pt i).val) + (m.val + 1)) ∗ ⌜r = carry T X K V A A' (pt i) (P.st (pt i).val) ((m.val + 1))⌝) : FVec F S8x4x1 .f32 × FVec F S8x4x1 .f32 × FVec F S8x4x128 .f32 → sProp 𝕄) := fun m acc =>
    t3_step c (defs := defs) 𝒱 bd q P i (arg10 := arg10) (harg10 := harg10) (arg11 := arg11) (harg11 := harg11) (arg12 := arg12) (harg12 := harg12) (arg15 := arg15) (harg15 := harg15) X K V A A' (BitVec.ofNat 32 (i 0).val) hw5 hw9 hw6 m acc
  have hG0 : P.st (pt i).val < P.G := by
    have := P.lt_G (pt i) (P.pos (pt i))
    simpa using this
  have h0G : 0 < P.G := lt_of_le_of_lt (Nat.zero_le _) hG0
  rw [cc0__attn_kernel_eq_skeleton]
  unfold cc0__attn_kernel_skel
  dsimp only
  iintro ⟨HT, HO, HP, H10, H11, H12, H15⟩
  ihave HT := (tabs_open c q T) $$ HT
  icases HT with ⟨Hpm, Hle, Hpi, Hof, Hhi, Hnv, Hgs, Hgb, Hgc⟩
  iapply (wordEq_nv c 𝒱 bd q T.nv _ (pt i) (Offs.off1 i) _ (P.nv_eq (pt i)) (h1 := numel1_S1) (h2 := rfl)) $$ Hnv
  iintro Hnv
  iapply (wp_assume 𝒱 (c : Thread nD τ) bd Set.univ hw5)
  iapply (word_len c 𝒱 bd q T.len _ (pt i) (Offs.off1 i) (h1 := numel1_S1) (h2 := rfl)) $$ Hle
  iintro Hle
  iapply (wordEq_gs c 𝒱 bd q T.gs _ ⟨(pt i).val, by have := (pt i).isLt; omega⟩ (Offs.off2 i) _ (P.gs_eq ⟨(pt i).val, by have := (pt i).isLt; omega⟩) (h1 := numel1_S1) (h2 := rfl)) $$ Hgs
  iintro Hgs
  iapply (wp_assume 𝒱 (c : Thread nD τ) bd Set.univ hw9)
  iapply (wordEq_gs c 𝒱 bd q T.gs _ ⟨16, by decide⟩ rfl _ (P.gs_eq ⟨16, by decide⟩) (h1 := numel1_S1) (h2 := rfl)) $$ Hgs
  iintro Hgs
  iapply (wp_assume 𝒱 (c : Thread nD τ) bd Set.univ hw6)
  by_cases h1 : k0_cond1 i = 1#1
  · have hb0 : (pt i).val = 0 := (Offs.cond1 i).1 h1
    have est0 : P.st (pt i).val + 0 = 0 := by rw [hb0, P.st_zero]
    have hpool : (pool c A A' T P.G P.st (pt i).val : sProp 𝕄) = iprop(idle c A A' 0 ∗ idle c A A' 1 ∗ idle c A A' 2) := by rw [hb0]; rfl
    ihave HP := (Entails.of_eq hpool) $$ HP
    icases HP with ⟨H0, H1, H2⟩
    have h2 : k0_cond2 (BitVec.ofNat 32 P.G) = 1#1 := (Offs.cond2 hG).2 h0G
    try dsimp only [Prog.bind]
    rw [dif_pos h1]
    try dsimp only [Prog.bind]
    rw [dif_pos h2]
    obtain ⟨b0, k0, hk0, e0⟩ := P.exists_seq 16 le_rfl 0 h0G
    have hk40 : k0 < 4 := lt_of_lt_of_le hk0 (P.le4 b0)
    have h640 : P.st b0.val + k0 < 64 := by rw [← e0]; decide
    have egb0 : T.gb (ix1 ⟨0, by decide⟩) = BitVec.ofNat 32 b0.val := by
      rw [← P.gb_eq b0 k0 h640 hk0]
      exact congrArg (fun x => T.gb (ix1 x)) (Fin.ext e0)
    have egc0 : T.gc (ix1 ⟨0, by decide⟩) = BitVec.ofNat 32 k0 := by
      rw [← P.gc_eq b0 k0 h640 hk0]
      exact congrArg (fun x => T.gc (ix1 x)) (Fin.ext e0)
    have hp0 : ∀ (j : Fin 32) (h : k0 * 32 + j.val < 128), (pages T 0 j).val = (T.pm (ix2 ⟨b0.val, b0.isLt⟩ ⟨k0 * 32 + j.val, h⟩)).toNat := by
      intro j h
      have := pages_eq P b0 hk0 j h
      rw [← e0] at this
      exact this
    iapply (wordEq_gb c 𝒱 bd q T.gb _ ⟨0, by decide⟩ rfl _ egb0 (h1 := numel1_S1) (h2 := rfl)) $$ Hgb
    iintro Hgb
    iapply (wordEq_gc c 𝒱 bd q T.gc _ ⟨0, by decide⟩ rfl _ egc0 (h1 := numel1_S1) (h2 := rfl)) $$ Hgc
    iintro Hgc
    have hch0 : k0_chk1 i (BitVec.ofNat 32 P.G) (BitVec.ofNat 32 b0.val) (BitVec.ofNat 32 k0) := fun k6 _ _ a => by
      have hk6 : k6.val < 32 := lt_of_lt_of_eq k6.isLt Offs.t1_trips
      exact map_inb (Offs.off3 b0.val k0 b0.isLt hk40 k6) b0.isLt (by omega) a
    iapply (wp_assume 𝒱 (c : Thread nD τ) bd Set.univ hch0)
    ihave H0 := (idle_open c A A' (0 : Fin 3)) $$ H0
    icases H0 with ⟨%f0, %f0', HK0, HV0⟩
    imod (KSide.start c A (0 : Fin 3) (pages T 0) f0) $$ HK0 with HK0
    imod (VSide.start c A' (0 : Fin 3) (pages T 0) f0') $$ HV0 with HV0
    have hb0 : ∀ (m : Fin k0_t1_loop.trips) (a : Unit), iprop(heldPm c q T ∗ startK c A A' (0 : Fin 3) (pages T 0) f0 f0' m.val)
        ⊢ wp frame (wpE defs 𝒱 (c : Thread nD τ) bd) Set.univ (k0_t1_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 (BitVec.ofNat 32 P.G) h1 h2 (BitVec.ofNat 32 b0.val) (BitVec.ofNat 32 k0) hch0 m a)
          (fun _ => iprop(heldPm c q T ∗ startK c A A' (0 : Fin 3) (pages T 0) f0 f0' (m.val + 1)) : Unit → sProp 𝕄) := by
      intro m a
      exact t1_step c (defs := defs) 𝒱 bd q P i (arg10 := arg10) (harg10 := harg10) (arg11 := arg11) (harg11 := harg11) (arg12 := arg12) (harg12 := harg12) (arg15 := arg15) (harg15 := harg15) A A' f0 f0' b0.isLt hk40 (pages T 0) hp0 h1 h2 hch0 m a
    iapply (Scf.wp_for_bind frame (wpE defs 𝒱 (c : Thread nD τ) bd) Set.univ k0_t1_loop.lb k0_t1_loop.ub k0_t1_loop.st (k0_t1_ok i h1) () _
      (fun m _ => iprop(heldPm c q T ∗ startK c A A' (0 : Fin 3) (pages T 0) f0 f0' m)) hb0) $$ [Hpm HK0 HV0]
    · isplitl [Hpm]; · iexact Hpm
      unfold startK
      isplitl [HK0]; · iexact HK0
      iexact HV0
    iintro %a0 ⟨Hpm, HS⟩
    have et0 : Scf.trips k0_t1_loop.lb k0_t1_loop.ub k0_t1_loop.st = 32 := Offs.t1_trips
    rw [et0]
    unfold startK
    icases HS with ⟨HK0, HV0⟩
    ihave HK0 := (KSide.issued c A (0 : Fin 3) (pages T 0) f0) $$ HK0
    ihave HV0 := (VSide.issued c A' (0 : Fin 3) (pages T 0) f0') $$ HV0
    ihave H0 := (lt_occ c A A' T P.G (0 : Fin 3) 0 h0G) $$ [HK0 HV0]
    · unfold air
      isplitl [HK0]; · iexact HK0
      iexact HV0
    by_cases h3 : k0_cond3 (BitVec.ofNat 32 P.G) = 1#1
    · have h1G : 1 < P.G := (Offs.cond3 hG).1 h3
      try dsimp only [Prog.bind]
      rw [dif_pos h3]
      obtain ⟨b1, k1, hk1, e1⟩ := P.exists_seq 16 le_rfl 1 h1G
      have hk41 : k1 < 4 := lt_of_lt_of_le hk1 (P.le4 b1)
      have h641 : P.st b1.val + k1 < 64 := by rw [← e1]; decide
      have egb1 : T.gb (ix1 ⟨1, by decide⟩) = BitVec.ofNat 32 b1.val := by
        rw [← P.gb_eq b1 k1 h641 hk1]
        exact congrArg (fun x => T.gb (ix1 x)) (Fin.ext e1)
      have egc1 : T.gc (ix1 ⟨1, by decide⟩) = BitVec.ofNat 32 k1 := by
        rw [← P.gc_eq b1 k1 h641 hk1]
        exact congrArg (fun x => T.gc (ix1 x)) (Fin.ext e1)
      have hp1 : ∀ (j : Fin 32) (h : k1 * 32 + j.val < 128), (pages T 1 j).val = (T.pm (ix2 ⟨b1.val, b1.isLt⟩ ⟨k1 * 32 + j.val, h⟩)).toNat := by
        intro j h
        have := pages_eq P b1 hk1 j h
        rw [← e1] at this
        exact this
      iapply (wordEq_gb c 𝒱 bd q T.gb _ ⟨1, by decide⟩ rfl _ egb1 (h1 := numel1_S1) (h2 := rfl)) $$ Hgb
      iintro Hgb
      iapply (wordEq_gc c 𝒱 bd q T.gc _ ⟨1, by decide⟩ rfl _ egc1 (h1 := numel1_S1) (h2 := rfl)) $$ Hgc
      iintro Hgc
      have hch1 : k0_chk3 i (BitVec.ofNat 32 P.G) (BitVec.ofNat 32 b1.val) (BitVec.ofNat 32 k1) := fun k6 _ _ a => by
        have hk6 : k6.val < 32 := lt_of_lt_of_eq k6.isLt Offs.t2_trips
        exact map_inb (Offs.off9 b1.val k1 b1.isLt hk41 k6) b1.isLt (by omega) a
      iapply (wp_assume 𝒱 (c : Thread nD τ) bd Set.univ hch1)
      ihave H1 := (idle_open c A A' (1 : Fin 3)) $$ H1
      icases H1 with ⟨%f1, %f1', HK1, HV1⟩
      imod (KSide.start c A (1 : Fin 3) (pages T 1) f1) $$ HK1 with HK1
      imod (VSide.start c A' (1 : Fin 3) (pages T 1) f1') $$ HV1 with HV1
      have hb1 : ∀ (m : Fin k0_t2_loop.trips) (a : Unit), iprop(heldPm c q T ∗ startK c A A' (1 : Fin 3) (pages T 1) f1 f1' m.val)
          ⊢ wp frame (wpE defs 𝒱 (c : Thread nD τ) bd) Set.univ (k0_t2_body i (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2 (BitVec.ofNat 32 P.G) h1 h3 (BitVec.ofNat 32 b1.val) (BitVec.ofNat 32 k1) hch1 m a)
            (fun _ => iprop(heldPm c q T ∗ startK c A A' (1 : Fin 3) (pages T 1) f1 f1' (m.val + 1)) : Unit → sProp 𝕄) := by
        intro m a
        exact t2_step c (defs := defs) 𝒱 bd q P i (arg10 := arg10) (harg10 := harg10) (arg11 := arg11) (harg11 := harg11) (arg12 := arg12) (harg12 := harg12) (arg15 := arg15) (harg15 := harg15) A A' f1 f1' b1.isLt hk41 (pages T 1) hp1 h1 h3 hch1 m a
      iapply (Scf.wp_for_bind frame (wpE defs 𝒱 (c : Thread nD τ) bd) Set.univ k0_t2_loop.lb k0_t2_loop.ub k0_t2_loop.st (k0_t2_ok i h1) () _
        (fun m _ => iprop(heldPm c q T ∗ startK c A A' (1 : Fin 3) (pages T 1) f1 f1' m)) hb1) $$ [Hpm HK1 HV1]
      · isplitl [Hpm]; · iexact Hpm
        unfold startK
        isplitl [HK1]; · iexact HK1
        iexact HV1
      iintro %a1 ⟨Hpm, HS⟩
      have et1 : Scf.trips k0_t2_loop.lb k0_t2_loop.ub k0_t2_loop.st = 32 := Offs.t2_trips
      rw [et1]
      unfold startK
      icases HS with ⟨HK1, HV1⟩
      ihave HK1 := (KSide.issued c A (1 : Fin 3) (pages T 1) f1) $$ HK1
      ihave HV1 := (VSide.issued c A' (1 : Fin 3) (pages T 1) f1') $$ HV1
      ihave H1 := (lt_occ c A A' T P.G (1 : Fin 3) 1 h1G) $$ [HK1 HV1]
      · unfold air
        isplitl [HK1]; · iexact HK1
        iexact HV1
      ihave HT := (tabs_close c q T) $$ [Hpm Hle Hpi Hof Hhi Hnv Hgs Hgb Hgc]
      · isplitl [Hpm]; · iexact Hpm
        isplitl [Hle]; · iexact Hle
        isplitl [Hpi]; · iexact Hpi
        isplitl [Hof]; · iexact Hof
        isplitl [Hhi]; · iexact Hhi
        isplitl [Hnv]; · iexact Hnv
        isplitl [Hgs]; · iexact Hgs
        isplitl [Hgb]; · iexact Hgb
        iexact Hgc
      ihave HR := (ring_zero c T A A' P.G _ est0) $$ [H0 H1 H2]
      · isplitl [H0]; · iexact H0
        isplitl [H1]; · iexact H1
        iexact H2
      iapply (wp_win c 𝒱 bd arg10 fullShare X _) $$ H10
      iintro H10
      rw [whole_idx X]
      iapply (Scf.wp_for_bind frame (wpE defs 𝒱 (c : Thread nD τ) bd) Set.univ (k0_t3_loop (BitVec.ofNat 32 (P.n (pt i)))).lb (k0_t3_loop (BitVec.ofNat 32 (P.n (pt i)))).ub (k0_t3_loop (BitVec.ofNat 32 (P.n (pt i)))).st (k0_t3_ok i (BitVec.ofNat 32 (P.n (pt i))) hw5) _ _
        (fun m acc => iprop(tabs c q T ∗ anyOwes c ∗ owns (c : Thread nD τ) arg11 fullShare K ∗ owns (c : Thread nD τ) arg12 fullShare V ∗ ring c A A' T P.G ((P.st (pt i).val) + m) ∗ ⌜acc = carry T X K V A A' (pt i) (P.st (pt i).val) (m)⌝)) hbody3) $$ [HT HO H11 H12 HR]
      · isplitl [HT]; · iexact HT
        isplitl [HO]; · iexact HO
        isplitl [H11]; · iexact H11
        isplitl [H12]; · iexact H12
        isplitl [HR]; · iexact HR
        ipureintro; rfl
      iintro %a3 ⟨HT, HO, H11, H12, HR, %ha⟩
      have e3 : Scf.trips (k0_t3_loop (BitVec.ofNat 32 (P.n (pt i)))).lb (k0_t3_loop (BitVec.ofNat 32 (P.n (pt i)))).ub (k0_t3_loop (BitVec.ofNat 32 (P.n (pt i)))).st = P.n (pt i) := Offs.t3_trips hn
      rw [e3] at ha
      rw [e3]
      obtain ⟨x3, y3, z3⟩ := a3
      dsimp only
      iapply (Scf.wp_for_bind frame (wpE defs 𝒱 (c : Thread nD τ) bd) Set.univ (k0_t7_loop (BitVec.ofNat 32 (P.n (pt i)))).lb (k0_t7_loop (BitVec.ofNat 32 (P.n (pt i)))).ub (k0_t7_loop (BitVec.ofNat 32 (P.n (pt i)))).st (k0_t7_ok i (BitVec.ofNat 32 (P.n (pt i))) hw5) _ _
        (fun m acc => iprop(⌜acc = (x3, y3, z3)⌝)) (fun m a => absurd (lt_of_lt_of_eq m.isLt (Offs.t7_trips hn)) (Nat.not_lt_zero _))) $$ []
      · ipureintro; rfl
      iintro %a7 %ha7
      obtain ⟨x7, y7, z7⟩ := a7
      dsimp only
      iapply (wp_win c 𝒱 bd arg15 fullShare Y _) $$ H15
      iintro H15
      iapply (wp_winStore c 𝒱 bd arg15 Y) $$ H15
      iintro H15
      iapply (le_wp_ret _ _)
      have hy : k0_pay17 y7 z7 = stored T X K V A A' (pt i) (P.st (pt i).val) (P.n (pt i)) := by
        obtain ⟨-, rfl, rfl⟩ : x7 = x3 ∧ y7 = y3 ∧ z7 = z3 := by simpa using ha7
        unfold stored
        rw [← ha]
      rw [hy]
      isplitl [HT]; · iexact HT
      isplitl [HO]; · iexact HO
      isplitl [HR]
      · rw [pool_succ]
        iexact HR
      isplitl [H10]; · iexact H10
      isplitl [H11]; · iexact H11
      isplitl [H12]; · iexact H12
      iexact H15
    · dsimp only [Prog.bind]
      rw [dif_neg h3]
      ihave H1 := (not_occ c A A' T P.G (1 : Fin 3) 1 (fun h => h3 ((Offs.cond3 hG).2 h))) $$ H1
      ihave HT := (tabs_close c q T) $$ [Hpm Hle Hpi Hof Hhi Hnv Hgs Hgb Hgc]
      · isplitl [Hpm]; · iexact Hpm
        isplitl [Hle]; · iexact Hle
        isplitl [Hpi]; · iexact Hpi
        isplitl [Hof]; · iexact Hof
        isplitl [Hhi]; · iexact Hhi
        isplitl [Hnv]; · iexact Hnv
        isplitl [Hgs]; · iexact Hgs
        isplitl [Hgb]; · iexact Hgb
        iexact Hgc
      ihave HR := (ring_zero c T A A' P.G _ est0) $$ [H0 H1 H2]
      · isplitl [H0]; · iexact H0
        isplitl [H1]; · iexact H1
        iexact H2
      iapply (wp_win c 𝒱 bd arg10 fullShare X _) $$ H10
      iintro H10
      rw [whole_idx X]
      iapply (Scf.wp_for_bind frame (wpE defs 𝒱 (c : Thread nD τ) bd) Set.univ (k0_t3_loop (BitVec.ofNat 32 (P.n (pt i)))).lb (k0_t3_loop (BitVec.ofNat 32 (P.n (pt i)))).ub (k0_t3_loop (BitVec.ofNat 32 (P.n (pt i)))).st (k0_t3_ok i (BitVec.ofNat 32 (P.n (pt i))) hw5) _ _
        (fun m acc => iprop(tabs c q T ∗ anyOwes c ∗ owns (c : Thread nD τ) arg11 fullShare K ∗ owns (c : Thread nD τ) arg12 fullShare V ∗ ring c A A' T P.G ((P.st (pt i).val) + m) ∗ ⌜acc = carry T X K V A A' (pt i) (P.st (pt i).val) (m)⌝)) hbody3) $$ [HT HO H11 H12 HR]
      · isplitl [HT]; · iexact HT
        isplitl [HO]; · iexact HO
        isplitl [H11]; · iexact H11
        isplitl [H12]; · iexact H12
        isplitl [HR]; · iexact HR
        ipureintro; rfl
      iintro %a3 ⟨HT, HO, H11, H12, HR, %ha⟩
      have e3 : Scf.trips (k0_t3_loop (BitVec.ofNat 32 (P.n (pt i)))).lb (k0_t3_loop (BitVec.ofNat 32 (P.n (pt i)))).ub (k0_t3_loop (BitVec.ofNat 32 (P.n (pt i)))).st = P.n (pt i) := Offs.t3_trips hn
      rw [e3] at ha
      rw [e3]
      obtain ⟨x3, y3, z3⟩ := a3
      dsimp only
      iapply (Scf.wp_for_bind frame (wpE defs 𝒱 (c : Thread nD τ) bd) Set.univ (k0_t7_loop (BitVec.ofNat 32 (P.n (pt i)))).lb (k0_t7_loop (BitVec.ofNat 32 (P.n (pt i)))).ub (k0_t7_loop (BitVec.ofNat 32 (P.n (pt i)))).st (k0_t7_ok i (BitVec.ofNat 32 (P.n (pt i))) hw5) _ _
        (fun m acc => iprop(⌜acc = (x3, y3, z3)⌝)) (fun m a => absurd (lt_of_lt_of_eq m.isLt (Offs.t7_trips hn)) (Nat.not_lt_zero _))) $$ []
      · ipureintro; rfl
      iintro %a7 %ha7
      obtain ⟨x7, y7, z7⟩ := a7
      dsimp only
      iapply (wp_win c 𝒱 bd arg15 fullShare Y _) $$ H15
      iintro H15
      iapply (wp_winStore c 𝒱 bd arg15 Y) $$ H15
      iintro H15
      iapply (le_wp_ret _ _)
      have hy : k0_pay17 y7 z7 = stored T X K V A A' (pt i) (P.st (pt i).val) (P.n (pt i)) := by
        obtain ⟨-, rfl, rfl⟩ : x7 = x3 ∧ y7 = y3 ∧ z7 = z3 := by simpa using ha7
        unfold stored
        rw [← ha]
      rw [hy]
      isplitl [HT]; · iexact HT
      isplitl [HO]; · iexact HO
      isplitl [HR]
      · rw [pool_succ]
        iexact HR
      isplitl [H10]; · iexact H10
      isplitl [H11]; · iexact H11
      isplitl [H12]; · iexact H12
      iexact H15
  · have hb0 : (pt i).val ≠ 0 := fun h => h1 ((Offs.cond1 i).2 h)
    have hpool : (pool c A A' T P.G P.st (pt i).val : sProp 𝕄) = ring c A A' T P.G ((P.st (pt i).val) + 0) := by
      obtain ⟨b, hb⟩ := Nat.exists_eq_succ_of_ne_zero hb0
      rw [hb]; rfl
    ihave HR := (Entails.of_eq hpool) $$ HP
    try dsimp only [Prog.bind]
    rw [dif_neg h1]
    ihave HT := (tabs_close c q T) $$ [Hpm Hle Hpi Hof Hhi Hnv Hgs Hgb Hgc]
    · isplitl [Hpm]; · iexact Hpm
      isplitl [Hle]; · iexact Hle
      isplitl [Hpi]; · iexact Hpi
      isplitl [Hof]; · iexact Hof
      isplitl [Hhi]; · iexact Hhi
      isplitl [Hnv]; · iexact Hnv
      isplitl [Hgs]; · iexact Hgs
      isplitl [Hgb]; · iexact Hgb
      iexact Hgc
    iapply (wp_win c 𝒱 bd arg10 fullShare X _) $$ H10
    iintro H10
    rw [whole_idx X]
    iapply (Scf.wp_for_bind frame (wpE defs 𝒱 (c : Thread nD τ) bd) Set.univ (k0_t3_loop (BitVec.ofNat 32 (P.n (pt i)))).lb (k0_t3_loop (BitVec.ofNat 32 (P.n (pt i)))).ub (k0_t3_loop (BitVec.ofNat 32 (P.n (pt i)))).st (k0_t3_ok i (BitVec.ofNat 32 (P.n (pt i))) hw5) _ _
      (fun m acc => iprop(tabs c q T ∗ anyOwes c ∗ owns (c : Thread nD τ) arg11 fullShare K ∗ owns (c : Thread nD τ) arg12 fullShare V ∗ ring c A A' T P.G ((P.st (pt i).val) + m) ∗ ⌜acc = carry T X K V A A' (pt i) (P.st (pt i).val) (m)⌝)) hbody3) $$ [HT HO H11 H12 HR]
    · isplitl [HT]; · iexact HT
      isplitl [HO]; · iexact HO
      isplitl [H11]; · iexact H11
      isplitl [H12]; · iexact H12
      isplitl [HR]; · iexact HR
      ipureintro; rfl
    iintro %a3 ⟨HT, HO, H11, H12, HR, %ha⟩
    have e3 : Scf.trips (k0_t3_loop (BitVec.ofNat 32 (P.n (pt i)))).lb (k0_t3_loop (BitVec.ofNat 32 (P.n (pt i)))).ub (k0_t3_loop (BitVec.ofNat 32 (P.n (pt i)))).st = P.n (pt i) := Offs.t3_trips hn
    rw [e3] at ha
    rw [e3]
    obtain ⟨x3, y3, z3⟩ := a3
    dsimp only
    iapply (Scf.wp_for_bind frame (wpE defs 𝒱 (c : Thread nD τ) bd) Set.univ (k0_t7_loop (BitVec.ofNat 32 (P.n (pt i)))).lb (k0_t7_loop (BitVec.ofNat 32 (P.n (pt i)))).ub (k0_t7_loop (BitVec.ofNat 32 (P.n (pt i)))).st (k0_t7_ok i (BitVec.ofNat 32 (P.n (pt i))) hw5) _ _
      (fun m acc => iprop(⌜acc = (x3, y3, z3)⌝)) (fun m a => absurd (lt_of_lt_of_eq m.isLt (Offs.t7_trips hn)) (Nat.not_lt_zero _))) $$ []
    · ipureintro; rfl
    iintro %a7 %ha7
    obtain ⟨x7, y7, z7⟩ := a7
    dsimp only
    iapply (wp_win c 𝒱 bd arg15 fullShare Y _) $$ H15
    iintro H15
    iapply (wp_winStore c 𝒱 bd arg15 Y) $$ H15
    iintro H15
    iapply (le_wp_ret _ _)
    have hy : k0_pay17 y7 z7 = stored T X K V A A' (pt i) (P.st (pt i).val) (P.n (pt i)) := by
      obtain ⟨-, rfl, rfl⟩ : x7 = x3 ∧ y7 = y3 ∧ z7 = z3 := by simpa using ha7
      unfold stored
      rw [← ha]
    rw [hy]
    isplitl [HT]; · iexact HT
    isplitl [HO]; · iexact HO
    isplitl [HR]
    · rw [pool_succ]
      iexact HR
    isplitl [H10]; · iexact H10
    isplitl [H11]; · iexact H11
    isplitl [H12]; · iexact H12
    iexact H15

end Steps

end Cert.KernelIdeal.Ring
-- ==== Proof.Run.lean ====
/-
  The run of the whole program: the host's operations, then the sixteen trips of the grid over both rings, for tables that are a
  plan of the run.
-/
module

public import proofs.«01_k».proof.Proof.Main
public import proofs.«01_k».proof.Proof.Gen.KernelIdeal.Launch
public import Idealize.ShloMosaic.Lib.Pipeline.FrameBody

@[expose] public section

set_option pp.maxSteps 250
set_option maxRecDepth 2308

noncomputable section

namespace Cert.KernelIdeal.Run

open Cert.KernelIdeal Cert.KernelIdeal.Gen Cert.KernelIdeal.Ring
open Idealize.ShloMosaic TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Tactic
open Idealize.ShloMosaic.Pipeline (Dat Cfg Window BodyObligation BodyObligationLoose)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the buffers hold when the grid starts. -/
abbrev V (c : Dev nD) (b : Ref sig .tc) : Buf (Elt F) ((c : Thread nD τ).loc b) := StableHlo.after hostOps0 (fun b => m (c, b)) b

theorem hfresh : (hostOps0 (F := F)).Forall fun op => op.fresh = ∅ := by
  simp only [hostOps0, List.forall_cons]; repeat' first | exact trivial | constructor

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefix pcfgs 0 defs₀ 𝒱₀ m main hostOps0 hostOps0_sub hfresh fun c => main_chain c

/-- The six semaphores of the two rings. -/
abbrev osem0 : Fin 6 → SemLoc sig := fun j => (![SemLoc.dma 6, SemLoc.dma 7, SemLoc.dma 8, SemLoc.dma 9, SemLoc.dma 10, SemLoc.dma 11] : Fin 6 → SemLoc sig) j
theorem ownSemFacts0 : Pipeline.OwnSemFacts spec0 osem0 := by decide
theorem ownSems0_eq' (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (KSide.sem 0)) 0 ∗ semVal ((c : Thread nD τ), SemLoc.dma (VSide.sem 0)) 0
          ∗ semVal ((c : Thread nD τ), SemLoc.dma (KSide.sem 1)) 0 ∗ semVal ((c : Thread nD τ), SemLoc.dma (VSide.sem 1)) 0
          ∗ semVal ((c : Thread nD τ), SemLoc.dma (KSide.sem 2)) 0 ∗ semVal ((c : Thread nD τ), SemLoc.dma (VSide.sem 2)) 0) := by
  rw [Pipeline.ownSems0_eq_of_list c osem0 [0, 1, 2, 3, 4, 5] (by decide) (by decide)]; rfl

/-- The pages stay where they are: the body copies from them. -/
def H0 : Finset (Ref sig .tc) := {main_arg4, main_arg5}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((((c : Thread nD τ).loc main_arg4) ↦{fullShare} V m c main_arg4) ∗ (((c : Thread nD τ).loc main_arg5) ↦{fullShare} V m c main_arg5)) := by
  rw [BI.bigSep_eq_bigSepL_of_eq [main_arg4, main_arg5] (by decide) (by decide)]; rfl

/-- The contents of the tables. -/
def tbl : pre0.Contents (Elt F) := fun k => V m 0 (pre0.ref k)
def adm (p : Fin 1) : (pcfgs (F := F) p).Adm := ⟨tbl m, trivial⟩
theorem dev_eq (c : Dev nD) : c = 0 := Subsingleton.elim _ _

/-- Contents of the tables as words. -/
def tabOf (v : pre0.Contents (Elt F)) : Tab where
  pm := v 0
  len := v 1
  pidx := v 2
  off := v 3
  hits := v 4
  nv := v 5
  gs := v 6
  gb := v 7
  gc := v 8

/-- The tables as words. -/
def tab : Tab := tabOf (tbl m)

theorem prefHeld_of (c : Dev nD) (q : PosShare TreeShare) (v : pre0.Contents (Elt F)) :
    (Pipeline.prefHeld (Ix := Unit) (Name := ℕ) (U := Pipeline.UD sig nD τ) (Lvl := ℕ) (τ := τ) pre0 c (fun _ => q) v : sProp 𝕄) = tabs c q (tabOf v) := by
  unfold Pipeline.prefHeld
  rw [BI.bigSep_eq_bigSepL_of_eq [0, 1, 2, 3, 4, 5, 6, 7, 8] (by decide) (by decide)]; rfl

theorem prefHeld_eq (c : Dev nD) (q : PosShare TreeShare) :
    (Pipeline.prefHeld (Ix := Unit) (Name := ℕ) (U := Pipeline.UD sig nD τ) (Lvl := ℕ) (τ := τ) pre0 c (fun _ => q) (tbl m) : sProp 𝕄) = tabs c q (tab m) :=
  prefHeld_of c q (tbl m)

theorem three (Q : Fin 3 → sProp 𝕄) : bigSep Finset.univ Q = iprop(Q 0 ∗ Q 1 ∗ Q 2) := by
  rw [BI.bigSep_eq_bigSepL_of_eq [0, 1, 2] (by decide) (by decide)]; rfl

section Slots
variable (c : Dev nD) (A A' : S8x4096x16x128.Idx → Elt F .f32)

/-- Both rings with nothing in flight, as the launch hands them over. -/
def bare : sProp 𝕄 :=
  iprop(((∃ f : S3x8x32x16x128.Idx → Elt F .f32, ((c : Thread nD τ).loc cc0_scratch0) ↦{fullShare} f) ∗ (∃ f : S3x8x32x16x128.Idx → Elt F .f32, ((c : Thread nD τ).loc cc0_scratch1) ↦{fullShare} f))
    ∗ (semVal ((c : Thread nD τ), SemLoc.dma (KSide.sem 0)) 0 ∗ semVal ((c : Thread nD τ), SemLoc.dma (VSide.sem 0)) 0
          ∗ semVal ((c : Thread nD τ), SemLoc.dma (KSide.sem 1)) 0 ∗ semVal ((c : Thread nD τ), SemLoc.dma (VSide.sem 1)) 0
          ∗ semVal ((c : Thread nD τ), SemLoc.dma (KSide.sem 2)) 0 ∗ semVal ((c : Thread nD τ), SemLoc.dma (VSide.sem 2)) 0)
    ∗ ((((c : Thread nD τ).loc main_arg4) ↦{fullShare} A) ∗ (((c : Thread nD τ).loc main_arg5) ↦{fullShare} A')))

theorem bare_open : bare c A A' ⊢ (iprop(idle c A A' 0 ∗ idle c A A' 1 ∗ idle c A A' 2) : sProp 𝕄) := by
  unfold bare
  rw [KSide.hb_toks, VSide.hb_toks, three, three]
  iintro ⟨⟨⟨%f, Hf⟩, ⟨%f', Hf'⟩⟩, ⟨K0, V0, K1, V1, K2, V2⟩, ⟨⟨T0, T1, T2⟩, ⟨U0, U1, U2⟩⟩⟩
  ihave Hf := (Entails.of_eq ((KSide.vb_slots c f).trans (three _))) $$ Hf
  ihave Hf' := (Entails.of_eq ((VSide.vb_slots c f').trans (three _))) $$ Hf'
  icases Hf with ⟨F0, F1, F2⟩
  icases Hf' with ⟨E0, E1, E2⟩
  unfold idle KSide.idleAt VSide.idleAt
  isplitl [K0 V0 T0 U0 F0 E0]
  · iexists f; iexists f'
    isplitl [K0 T0 F0]
    · isplitl [K0]; · iexact K0
      isplitl [F0]; · iexact F0
      iexact T0
    isplitl [V0]; · iexact V0
    isplitl [E0]; · iexact E0
    iexact U0
  isplitl [K1 V1 T1 U1 F1 E1]
  · iexists f; iexists f'
    isplitl [K1 T1 F1]
    · isplitl [K1]; · iexact K1
      isplitl [F1]; · iexact F1
      iexact T1
    isplitl [V1]; · iexact V1
    isplitl [E1]; · iexact E1
    iexact U1
  iexists f; iexists f'
  isplitl [K2 T2 F2]
  · isplitl [K2]; · iexact K2
    isplitl [F2]; · iexact F2
    iexact T2
  isplitl [V2]; · iexact V2
  isplitl [E2]; · iexact E2
  iexact U2

theorem k_join (f0 f1 f2 : S3x8x32x16x128.Idx → Elt F .f32) :
    iprop((((c : Thread nD τ).loc cc0_scratch0) ↦[KSide.slotSet c 0]{fullShare} f0) ∗ (((c : Thread nD τ).loc cc0_scratch0) ↦[KSide.slotSet c 1]{fullShare} f1)
      ∗ (((c : Thread nD τ).loc cc0_scratch0) ↦[KSide.slotSet c 2]{fullShare} f2))
    ⊢ (iprop(∃ f : S3x8x32x16x128.Idx → Elt F .f32, ((c : Thread nD τ).loc cc0_scratch0) ↦{fullShare} f) : sProp 𝕄) := by
  have h : ∀ (s : Fin 3), ∀ i ∈ KSide.slotSet (τ := τ) c s, (![f0, f1, f2] : Fin 3 → S3x8x32x16x128.Idx → Elt F .f32) s i = (fun y : S3x8x32x16x128.Idx => (![f0, f1, f2] : Fin 3 → S3x8x32x16x128.Idx → Elt F .f32) (y 0) y) i := fun s i hi => by
    have e : (i : S3x8x32x16x128.Idx) 0 = s := Fin.ext ((KSide.mem_slotSet c s i).1 hi)
    simp only [e]
  iintro ⟨H0, H1, H2⟩
  iexists (fun y : S3x8x32x16x128.Idx => (![f0, f1, f2] : Fin 3 → S3x8x32x16x128.Idx → Elt F .f32) (y 0) y)
  iapply (Entails.of_eq ((KSide.vb_slots c _).trans (three _)).symm)
  isplitl [H0]; · iapply (Entails.of_eq (pointsTo_congr (h 0))); iexact H0
  isplitl [H1]; · iapply (Entails.of_eq (pointsTo_congr (h 1))); iexact H1
  iapply (Entails.of_eq (pointsTo_congr (h 2))); iexact H2

theorem v_join (f0 f1 f2 : S3x8x32x16x128.Idx → Elt F .f32) :
    iprop((((c : Thread nD τ).loc cc0_scratch1) ↦[VSide.slotSet c 0]{fullShare} f0) ∗ (((c : Thread nD τ).loc cc0_scratch1) ↦[VSide.slotSet c 1]{fullShare} f1)
      ∗ (((c : Thread nD τ).loc cc0_scratch1) ↦[VSide.slotSet c 2]{fullShare} f2))
    ⊢ (iprop(∃ f : S3x8x32x16x128.Idx → Elt F .f32, ((c : Thread nD τ).loc cc0_scratch1) ↦{fullShare} f) : sProp 𝕄) := by
  have h : ∀ (s : Fin 3), ∀ i ∈ VSide.slotSet (τ := τ) c s, (![f0, f1, f2] : Fin 3 → S3x8x32x16x128.Idx → Elt F .f32) s i = (fun y : S3x8x32x16x128.Idx => (![f0, f1, f2] : Fin 3 → S3x8x32x16x128.Idx → Elt F .f32) (y 0) y) i := fun s i hi => by
    have e : (i : S3x8x32x16x128.Idx) 0 = s := Fin.ext ((VSide.mem_slotSet c s i).1 hi)
    simp only [e]
  iintro ⟨H0, H1, H2⟩
  iexists (fun y : S3x8x32x16x128.Idx => (![f0, f1, f2] : Fin 3 → S3x8x32x16x128.Idx → Elt F .f32) (y 0) y)
  iapply (Entails.of_eq ((VSide.vb_slots c _).trans (three _)).symm)
  isplitl [H0]; · iapply (Entails.of_eq (pointsTo_congr (h 0))); iexact H0
  isplitl [H1]; · iapply (Entails.of_eq (pointsTo_congr (h 1))); iexact H1
  iapply (Entails.of_eq (pointsTo_congr (h 2))); iexact H2

theorem bare_close : (iprop(idle c A A' 0 ∗ idle c A A' 1 ∗ idle c A A' 2) : sProp 𝕄) ⊢ bare c A A' := by
  unfold bare
  rw [KSide.hb_toks, VSide.hb_toks, three, three]
  unfold idle KSide.idleAt VSide.idleAt
  iintro ⟨⟨%f0, %e0, ⟨K0, F0, T0⟩, ⟨V0, E0, U0⟩⟩, ⟨%f1, %e1, ⟨K1, F1, T1⟩, ⟨V1, E1, U1⟩⟩, ⟨%f2, %e2, ⟨K2, F2, T2⟩, ⟨V2, E2, U2⟩⟩⟩
  isplitl [F0 F1 F2 E0 E1 E2]
  · isplitl [F0 F1 F2]
    · iapply (k_join c f0 f1 f2)
      isplitl [F0]; · iexact F0
      isplitl [F1]; · iexact F1
      iexact F2
    iapply (v_join c e0 e1 e2)
    isplitl [E0]; · iexact E0
    isplitl [E1]; · iexact E1
    iexact E2
  isplitl [K0 V0 K1 V1 K2 V2]
  · isplitl [K0]; · iexact K0
    isplitl [V0]; · iexact V0
    isplitl [K1]; · iexact K1
    isplitl [V1]; · iexact V1
    isplitl [K2]; · iexact K2
    iexact V2
  isplitl [T0 T1 T2]
  · isplitl [T0]; · iexact T0
    isplitl [T1]; · iexact T1
    iexact T2
  isplitl [U0]; · iexact U0
  isplitl [U1]; · iexact U1
  iexact U2

theorem occ_idle (T : Tab) (G : ℕ) (s : Fin 3) (h : ℕ) (hh : ¬ h < G) : occ c A A' T G s h ⊢ (idle c A A' s : sProp 𝕄) := Entails.of_eq (if_neg hh)

/-- After the last chunk both rings are idle. -/
theorem ring_last (T : Tab) (G : ℕ) : ring c A A' T G G ⊢ (iprop(idle c A A' 0 ∗ idle c A A' 1 ∗ idle c A A' 2) : sProp 𝕄) := by
  have h0 := occ_idle (F := F) c A A' T G (sl G) G (lt_irrefl _)
  have h1 := occ_idle (F := F) c A A' T G (sl (G + 1)) (G + 1) (by omega)
  have h2 : ring c A A' T G G ⊢ (iprop(idle c A A' (sl G) ∗ idle c A A' (sl (G + 1)) ∗ idle c A A' (sl (G + 2))) : sProp 𝕄) := by
    unfold ring
    iintro ⟨H0, H1, H2⟩
    isplitl [H0]; · iapply h0; iexact H0
    isplitl [H1]; · iapply h1; iexact H1
    iexact H2
  refine h2.trans ?_
  rcases (show G % 3 = 0 ∨ G % 3 = 1 ∨ G % 3 = 2 by omega) with e | e | e
  · rw [show sl G = 0 from Fin.ext e, show sl (G + 1) = 1 from Fin.ext (show (G + 1) % 3 = 1 by omega), show sl (G + 2) = 2 from Fin.ext (show (G + 2) % 3 = 2 by omega)]
  · rw [show sl G = 1 from Fin.ext e, show sl (G + 1) = 2 from Fin.ext (show (G + 1) % 3 = 2 by omega), show sl (G + 2) = 0 from Fin.ext (show (G + 2) % 3 = 0 by omega)]
    iintro ⟨H0, H1, H2⟩
    isplitl [H2]; · iexact H2
    isplitl [H0]; · iexact H0
    iexact H1
  · rw [show sl G = 2 from Fin.ext e, show sl (G + 1) = 0 from Fin.ext (show (G + 1) % 3 = 0 by omega), show sl (G + 2) = 1 from Fin.ext (show (G + 2) % 3 = 1 by omega)]
    iintro ⟨H0, H1, H2⟩
    isplitl [H1]; · iexact H1
    isplitl [H2]; · iexact H2
    iexact H0
end Slots

/-! ## The proof data -/

/-- What an input window's buffer holds at point `t`. -/
abbrev held (c : Dev nD) (w : Fin 4) (t : Fin 16) : ((cfg0 (adm m 0)).win w).block.Idx → Elt F ((cfg0 (adm m 0)).win w).elt :=
  Pipeline.heldIn (c := c) (cfg0 (adm m 0)) (fun w => V m c (Pipeline.arrRef spec0 w)) w t.val (lt_of_lt_of_eq t.isLt N_0.symm)

/-- The row the trip at point `t` stores. -/
def rowOf (P : Plan (tab m)) (c : Dev nD) (t : Fin 16) : S1x32x128.Idx → Elt F .f32 :=
  stored (tab m) (held m c 0 t) (held m c 1 t) (held m c 2 t) (V m c main_arg4) (V m c main_arg5) t (P.st t.val) (P.n t)

def inv (P : Plan (tab m)) (c : Dev nD) (t : ℕ) : sProp 𝕄 :=
  iprop(tabs c fullShare.right (tab m) ∗ pool c (V m c main_arg4) (V m c main_arg5) (tab m) P.G P.st t ∗ ∃ r, prngReg c r)

def dats (P : Plan (tab m)) (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => held m c 0 (t.cast N_0)
    | ⟨1, _⟩ => held m c 1 (t.cast N_0)
    | ⟨2, _⟩ => held m c 2 (t.cast N_0)
    | ⟨3, _⟩ => rowOf m P c (t.cast N_0)
    | ⟨_ + 4, h⟩ => absurd h (Nat.not_lt.2 (Nat.le_add_left _ _))
  Φ t := inv m P c t.val
  q _ := fullShare
  owed _ := 0

variable (P : Plan (tab m)) (c : Dev nD)

theorem pt_coords : ∀ t : Fin grid0.N, pt (grid0.coords t) = t.cast N_0 := by
  intro t; apply Fin.ext; revert t; decide

theorem before_0 (t d) : (dats m P 0 c).before 0 t d = held m c 0 (t.cast N_0) :=
  Pipeline.Dat.before_eq_heldIn (dats m P 0 c) 0 rfl (fun _ => rfl) (fun _ _ => rfl) (fun _ => rfl) t d
theorem before_1 (t d) : (dats m P 0 c).before 1 t d = held m c 1 (t.cast N_0) :=
  Pipeline.Dat.before_eq_heldIn (dats m P 0 c) 1 rfl (fun _ => rfl) (fun _ _ => rfl) (fun _ => rfl) t d
theorem before_2 (t d) : (dats m P 0 c).before 2 t d = held m c 2 (t.cast N_0) :=
  Pipeline.Dat.before_eq_heldIn (dats m P 0 c) 2 rfl (fun _ => rfl) (fun _ _ => rfl) (fun _ => rfl) t d

abbrev st0 (t : Fin (cfg0 (adm m 0)).N) : Memref sig .tc .vmem S1x32x128 .f32 := ((cfg0 (adm m 0)).win 0).stage ((cfg0 (adm m 0)).slots t 0)
abbrev st1 (t : Fin (cfg0 (adm m 0)).N) : Memref sig .tc .vmem S8x16x128 .f32 := ((cfg0 (adm m 0)).win 1).stage ((cfg0 (adm m 0)).slots t 1)
abbrev st2 (t : Fin (cfg0 (adm m 0)).N) : Memref sig .tc .vmem S8x16x128 .f32 := ((cfg0 (adm m 0)).win 2).stage ((cfg0 (adm m 0)).slots t 2)
abbrev st3 (t : Fin (cfg0 (adm m 0)).N) : Memref sig .tc .vmem S1x32x128 .f32 := ((cfg0 (adm m 0)).win 3).stage ((cfg0 (adm m 0)).slots t 3)

def bodyPre (t : Fin (cfg0 (adm m 0)).N) : sProp 𝕄 :=
  iprop((dats m P 0 c).Φ t.castSucc ∗ (dats m P 0 c).owesAt () t.castSucc
    ∗ (∃ d, owns (c : Thread nD τ) (st0 m t) fullShare ((dats m P 0 c).before 0 t d))
    ∗ (∃ d, owns (c : Thread nD τ) (st1 m t) fullShare ((dats m P 0 c).before 1 t d))
    ∗ (∃ d, owns (c : Thread nD τ) (st2 m t) fullShare ((dats m P 0 c).before 2 t d))
    ∗ (∃ d, owns (c : Thread nD τ) (st3 m t) fullShare ((dats m P 0 c).before 3 t d)))
def bodyPost (t : Fin (cfg0 (adm m 0)).N) : sProp 𝕄 :=
  iprop((dats m P 0 c).Φ t.succ ∗ (dats m P 0 c).owesAt () t.succ
    ∗ owns (c : Thread nD τ) (st0 m t) fullShare (held m c 0 (t.cast N_0))
    ∗ owns (c : Thread nD τ) (st1 m t) fullShare (held m c 1 (t.cast N_0))
    ∗ owns (c : Thread nD τ) (st2 m t) fullShare (held m c 2 (t.cast N_0))
    ∗ owns (c : Thread nD τ) (st3 m t) fullShare (rowOf m P c (t.cast N_0)))

theorem phi_castSucc (t : Fin (cfg0 (adm m 0)).N) : (dats m P 0 c).Φ t.castSucc = inv m P c (pt (grid0.coords t)).val := by
  rw [pt_coords]; rfl
theorem phi_succ (t : Fin (cfg0 (adm m 0)).N) : (dats m P 0 c).Φ t.succ = inv m P c ((pt (grid0.coords t)).val + 1) := by
  rw [pt_coords]; rfl

theorem owes_in (t) : ((dats m P 0 c).owesAt () t) ⊢ (anyOwes c : sProp 𝕄) := by
  unfold anyOwes Dat.owesAt Pipeline.owesWithin
  rw [show (dats m P 0 c).owed t = 0 from rfl]
  iintro ⟨%W, -, HO⟩; iexists W; iexact HO
theorem owes_out (t) : (anyOwes c : sProp 𝕄) ⊢ ((dats m P 0 c).owesAt () t) := by
  unfold anyOwes Dat.owesAt Pipeline.owesWithin
  rw [show (dats m P 0 c).owed t = 0 from rfl]
  iintro ⟨%W, HO⟩; iexists W; isplitr; · ipureintro; exact fun _ _ => Or.inl trivial
  iexact HO

theorem main_triple {arg10 : Memref sig .tc .vmem S1x32x128 .f32} {harg10 : arg10.IsWhole} {arg11 : Memref sig .tc .vmem S8x16x128 .f32} {harg11 : arg11.IsWhole}
    {arg12 : Memref sig .tc .vmem S8x16x128 .f32} {harg12 : arg12.IsWhole} {arg15 : Memref sig .tc .vmem S1x32x128 .f32} {harg15 : arg15.IsWhole}
    (t : Fin (cfg0 (adm m 0)).N) (h10 : arg10 = st0 m t) (h11 : arg11 = st1 m t) (h12 : arg12 = st2 m t) (h15 : arg15 = st3 m t) :
    bodyPre m P c t ⊢ wp frame (wpE (defs₀ (F := F)) Variants.none (c : Thread nD τ) none) Set.univ (cc0__attn_kernel (grid0.coords t) (Memref.whole main_arg6) (Memref.isWhole_whole _) (Memref.whole main_arg7) (Memref.isWhole_whole _) (Memref.whole main_call0_v19) (Memref.isWhole_whole _) (Memref.whole main_call0_v20) (Memref.isWhole_whole _) (Memref.whole main_call0_v32) (Memref.isWhole_whole _) (Memref.whole main_call0_v40) (Memref.isWhole_whole _) (Memref.whole main_call0_v43) (Memref.isWhole_whole _) (Memref.whole main_call0_v53) (Memref.isWhole_whole _) (Memref.whole main_call0_v61) (Memref.isWhole_whole _) arg10 harg10 arg11 harg11 arg12 harg12 (Memref.whole main_arg4) (Memref.isWhole_whole _) (Memref.whole main_arg5) (Memref.isWhole_whole _) arg15 harg15 (Memref.whole cc0_scratch0) (Memref.isWhole_whole _) (Memref.whole cc0_scratch1) (Memref.isWhole_whole _) cc0_scratch2) (fun _ => bodyPost m P c t) := by
  have hrow : rowOf m P c (t.cast N_0) = stored (tab m) (held m c 0 (t.cast N_0)) (held m c 1 (t.cast N_0)) (held m c 2 (t.cast N_0)) (V m c main_arg4) (V m c main_arg5)
      (pt (grid0.coords t)) (P.st (pt (grid0.coords t)).val) (P.n (pt (grid0.coords t))) := by rw [pt_coords]; rfl
  unfold bodyPre bodyPost
  rw [phi_castSucc, phi_succ, hrow]
  simp only [before_0, before_1, before_2]
  subst h10 h11 h12 h15
  unfold inv
  generalize hZ : (stored (tab m) (held m c 0 (t.cast N_0)) (held m c 1 (t.cast N_0)) (held m c 2 (t.cast N_0)) (V m c main_arg4) (V m c main_arg5)
      (pt (grid0.coords t)) (P.st (pt (grid0.coords t)).val) (P.n (pt (grid0.coords t)))) = Z
  have hmain := fun Y => (sep_mono_left (Q := iprop(∃ r, prngReg c r)) (main_wp c (defs := defs₀ (F := F)) Variants.none none fullShare.right P (grid0.coords t) (arg10 := st0 m t) (harg10 := harg10)
    (arg11 := st1 m t) (harg11 := harg11) (arg12 := st2 m t) (harg12 := harg12) (arg15 := st3 m t) (harg15 := harg15)
    (held m c 0 (t.cast N_0)) Y (held m c 1 (t.cast N_0)) (held m c 2 (t.cast N_0)) (V m c main_arg4) (V m c main_arg5))).trans (wp_frame_r _ _ _)
  rw [hZ] at hmain
  have hpost : ∀ t', iprop((tabs c fullShare.right (tab m) ∗ anyOwes c ∗ pool c (V m c main_arg4) (V m c main_arg5) (tab m) P.G P.st t'
      ∗ owns (c : Thread nD τ) (st0 m t) fullShare (held m c 0 (t.cast N_0)) ∗ owns (c : Thread nD τ) (st1 m t) fullShare (held m c 1 (t.cast N_0))
      ∗ owns (c : Thread nD τ) (st2 m t) fullShare (held m c 2 (t.cast N_0)) ∗ owns (c : Thread nD τ) (st3 m t) fullShare Z) ∗ ∃ r, prngReg c r)
    ⊢ (iprop((tabs c fullShare.right (tab m) ∗ pool c (V m c main_arg4) (V m c main_arg5) (tab m) P.G P.st t' ∗ ∃ r, prngReg c r) ∗ (dats m P 0 c).owesAt () t.succ
      ∗ owns (c : Thread nD τ) (st0 m t) fullShare (held m c 0 (t.cast N_0)) ∗ owns (c : Thread nD τ) (st1 m t) fullShare (held m c 1 (t.cast N_0))
      ∗ owns (c : Thread nD τ) (st2 m t) fullShare (held m c 2 (t.cast N_0)) ∗ owns (c : Thread nD τ) (st3 m t) fullShare Z) : sProp 𝕄) := fun t' => by
    iintro ⟨⟨Ht, HO, Hp, H0, H1, H2, H3⟩, Hr⟩
    ihave HO := (owes_out m P c t.succ) $$ HO
    isplitl [Ht Hp Hr]
    · isplitl [Ht]; · iexact Ht
      isplitl [Hp]; · iexact Hp
      iexact Hr
    isplitl [HO]; · iexact HO
    isplitl [H0]; · iexact H0
    isplitl [H1]; · iexact H1
    isplitl [H2]; · iexact H2
    iexact H3
  iintro ⟨⟨Ht, Hp, Hr⟩, HO, ⟨%d0, H0⟩, ⟨%d1, H1⟩, ⟨%d2, H2⟩, ⟨%d3, H3⟩⟩
  ihave HO := (owes_in m P c t.castSucc) $$ HO
  iapply ((hmain ((dats m P 0 c).before 3 t d3)).trans (wp_mono _ _ _ fun _ => hpost _))
  isplitl [Ht Hp HO H0 H1 H2 H3]
  · isplitl [Ht]; · iexact Ht
    isplitl [HO]; · iexact HO
    isplitl [Hp]; · iexact Hp
    isplitl [H0]; · iexact H0
    isplitl [H1]; · iexact H1
    isplitl [H2]; · iexact H2
    iexact H3
  iexact Hr

theorem defs₀_row (t : Fin (cfg0 (adm m 0)).N) :
    defs₀ (F := F) .tc (cfg0 (adm m 0)).body ((cfg0 (adm m 0)).bodyArgs t ((cfg0 (adm m 0)).slots t))
      = defs₀ (F := F) .tc 0 (t, (cfg0 (adm m 0)).slots t) := rfl

theorem body_obligation : BodyObligation (dats m P 0 c) (defs₀ (F := F)) Variants.none () Set.univ := fun t => by
  rw [bigSep_W0, bigSep_W0]
  rw [defs₀_row]
  unfold defs₀; rw [Defs.onTc_tc]
  exact triple_restated (main_triple m P c t rfl rfl rfl rfl) rfl .rfl fun _ => .rfl

/-- Before the first point. -/
theorem start_inv : iprop(Pipeline.ΦD osem0 spec0 H0 (V m) c ∗ Pipeline.ΦT pre0 (tbl m) c) ⊢ (dats m P 0 c).Φ 0 := by
  rw [show (dats m P 0 c).Φ 0 = inv m P c 0 from rfl, Pipeline.ΦD_eq, scopedRest0_eq, ownSems0_eq', hbmPts0_eq]
  rw [show (Pipeline.ΦT pre0 (tbl m) c : sProp 𝕄) = tabs c fullShare.right (tab m) from prefHeld_eq m c _]
  have hb := bare_open (F := F) c (V m c main_arg4) (V m c main_arg5)
  unfold inv
  rw [show pool c (V m c main_arg4) (V m c main_arg5) (tab m) P.G P.st 0 = iprop(idle c (V m c main_arg4) (V m c main_arg5) 0 ∗ idle c (V m c main_arg4) (V m c main_arg5) 1 ∗ idle c (V m c main_arg4) (V m c main_arg5) 2) from rfl]
  iintro ⟨⟨Hs, Hr, Hq, Hh⟩, HT⟩
  isplitl [HT]; · iexact HT
  isplitl [Hs Hq Hh]
  · iapply hb
    unfold bare
    isplitl [Hs]; · iexact Hs
    isplitl [Hq]; · iexact Hq
    iexact Hh
  iexact Hr

/-- After the last point. -/
theorem last_inv : (dats m P 0 c).Φ (Fin.last (cfg0 (adm m 0)).N) ⊢ Pipeline.ΦD osem0 spec0 H0 (V m) c := by
  rw [show (dats m P 0 c).Φ (Fin.last (cfg0 (adm m 0)).N) = inv m P c 16 from rfl, Pipeline.ΦD_eq, scopedRest0_eq, ownSems0_eq', hbmPts0_eq]
  have hb := (ring_last (F := F) c (V m c main_arg4) (V m c main_arg5) (tab m) P.G).trans (bare_close c (V m c main_arg4) (V m c main_arg5))
  unfold inv
  rw [show pool c (V m c main_arg4) (V m c main_arg5) (tab m) P.G P.st 16 = ring c (V m c main_arg4) (V m c main_arg5) (tab m) P.G P.G from rfl]
  iintro ⟨HT, Hp, Hr⟩
  ihave Hp := hb $$ Hp
  unfold bare
  icases Hp with ⟨Hs, Hq, Hh⟩
  isplitl [Hs]; · iexact Hs
  isplitl [Hr]; · iexact Hr
  isplitl [Hq]; · iexact Hq
  iexact Hh

set_option backward.isDefEq.respectTransparency.types false in
/-- The whole program's run, for tables that are a plan. -/
theorem run_main : θ_run defs (onTc (τ := τ) (main (F := F))) (s₀ m ρ)
    (fun r => Pipeline.FramePost (Pipeline.pin (pcfgs (F := F)) (adm m)) (dats m P) 0 (V m) r ∧ r.2.sem = fun _ => 0) :=
  Pipeline.θ_run_frameP_dma (Q' := _) (pcfgs (F := F)) (adm m) (dats m P) (0 : Fin 1) launch0 osem0 defs₀ Variants.none ownSemFacts0 H0 H0_sub m ρ main
    (hbody := fun c => (body_obligation m P c).loose) (hshare := fun c => (dats m P 0 c).share_full fun _ => rfl)
    (howed := fun _ _ => rfl) (V := V m) (hmain := hmain m Variants.none) (hA := fun _ _ => rfl)
    (hpf := fun c k => by rw [dev_eq c]; rfl)
    (hin := start_inv m P) (hout := last_inv m P) (hQ' := fun _ h => h)

end Cert.KernelIdeal.Run
end
-- ==== Proof.Host.lean ====
/-
  What the host computes before the grid starts: the tables, the new rows and the queries, as terms over the arguments.
-/
module

public import proofs.«01_k».proof.Proof.Run
public import Idealize.ShloMosaic.Lib.Claim

@[expose] public section

set_option maxRecDepth 4000

noncomputable section

namespace Cert.KernelIdeal.Run

open Cert.KernelIdeal Cert.KernelIdeal.Gen Cert.KernelIdeal.Ring
open Idealize.ShloMosaic TcCoe
open Idealize.SL

variable {F : FTy → Type} [FloatOps F] [Named F]

/-- The last token of each sequence. -/
def lastOf (arg7 : IVec S16 32) : IVec S16 32 :=
  let c : IVec S_ 32 := constantI S_ 32 1#32
  let v0 : IVec S16 32 := (broadcastInDim S16 ![] bcast_S_S16) c
  let v1 : IVec S16 32 := subi arg7 v0
  let c_0 : IVec S_ 32 := constantI S_ 32 0#32
  let v2 : IVec S16 32 := (broadcastInDim S16 ![] bcast_S_S16) c_0
  maxsi v1 v2

/-- Its page of the sequence. -/
def slotOf (v3 : IVec S16 32) : IVec S16 32 :=
  let call0_v3 : IVec S16 32 := signi v3
  let c_1 : IVec S_ 32 := constantI S_ 32 16#32
  let call0_v0 : IVec S_ 32 := id c_1
  let call0_v4 : IVec S_ 32 := signi call0_v0
  let call0_v5 : IVec S16 32 := (broadcastInDim S16 ![] bcast_S_S16) call0_v4
  let call0_v6 : IVec S16 1 := (cmpi .ne) call0_v3 call0_v5
  let call0_v7 : IVec S16 32 := (broadcastInDim S16 ![] bcast_S_S16) call0_v0
  let call0_v8 : IVec S16 32 := Host.remsi v3 call0_v7
  let call0_c : IVec S_ 32 := constantI S_ 32 0#32
  let call0_v9 : IVec S16 32 := (broadcastInDim S16 ![] bcast_S_S16) call0_c
  let call0_v10 : IVec S16 1 := (cmpi .ne) call0_v8 call0_v9
  let call0_v11 : IVec S16 1 := andi call0_v6 call0_v10
  let call0_v1 : IVec S16 32 := (broadcastInDim S16 ![] bcast_S_S16) call0_v0
  let call0_v2 : IVec S16 32 := Host.divsi v3 call0_v1
  let call0_c_0 : IVec S_ 32 := constantI S_ 32 1#32
  let call0_v12 : IVec S16 32 := (broadcastInDim S16 ![] bcast_S_S16) call0_c_0
  let call0_v13 : IVec S16 32 := subi call0_v2 call0_v12
  select call0_v11 call0_v13 call0_v2

/-- Its place in the page. -/
def offOf (v3 : IVec S16 32) : IVec S16 32 :=
  let c_6 : IVec S_ 32 := constantI S_ 32 16#32
  let call1_v0 : IVec S_ 32 := id c_6
  let call1_c : IVec S_ 32 := constantI S_ 32 0#32
  let call1_v1 : IVec S_ 1 := (cmpi .eq) call1_v0 call1_c
  let call1_c_0 : IVec S_ 32 := constantI S_ 32 1#32
  let call1_v2 : IVec S_ 32 := select call1_v1 call1_c_0 call1_v0
  let call1_v3 : IVec S16 32 := (broadcastInDim S16 ![] bcast_S_S16) call1_v2
  let call1_v4 : IVec S16 32 := Host.remsi v3 call1_v3
  let call1_c_2 : IVec S_ 32 := constantI S_ 32 0#32
  let call1_v7 : IVec S16 32 := (broadcastInDim S16 ![] bcast_S_S16) call1_c_2
  let call1_v8 : IVec S16 1 := (cmpi .slt) call1_v4 call1_v7
  let call1_c_3 : IVec S_ 32 := constantI S_ 32 0#32
  let call1_v9 : IVec S_ 1 := (cmpi .slt) call1_v2 call1_c_3
  let call1_v10 : IVec S16 1 := (broadcastInDim S16 ![] bcast_S_S16) call1_v9
  let call1_v11 : IVec S16 1 := (cmpi .ne) call1_v8 call1_v10
  let call1_c_1 : IVec S_ 32 := constantI S_ 32 0#32
  let call1_v5 : IVec S16 32 := (broadcastInDim S16 ![] bcast_S_S16) call1_c_1
  let call1_v6 : IVec S16 1 := (cmpi .ne) call1_v4 call1_v5
  let call1_v12 : IVec S16 1 := andi call1_v11 call1_v6
  let call1_v13 : IVec S16 32 := (broadcastInDim S16 ![] bcast_S_S16) call1_v2
  let call1_v14 : IVec S16 32 := addi call1_v4 call1_v13
  select call1_v12 call1_v14 call1_v4

/-- The sequences beside those pages. -/
def pairOf (v5 : IVec S16 32) : IVec S16x2 32 :=
  let v4 : IVec S16 32 := iotaInDim S16 32 0
  let c_2 : IVec S_ 32 := constantI S_ 32 0#32
  let v6 : IVec S16 32 := (broadcastInDim S16 ![] bcast_S_S16) c_2
  let v7 : IVec S16 1 := (cmpi .slt) v4 v6
  let c_3 : IVec S_ 32 := constantI S_ 32 16#32
  let v8 : IVec S16 32 := (broadcastInDim S16 ![] bcast_S_S16) c_3
  let v9 : IVec S16 32 := addi v4 v8
  let v10 : IVec S16 32 := select v7 v9 v4
  let v16 : IVec S16x1 32 := (broadcastInDim S16x1 ![0] bcast_S16_S16x1_0) v10
  let c_4 : IVec S_ 32 := constantI S_ 32 0#32
  let v11 : IVec S16 32 := (broadcastInDim S16 ![] bcast_S_S16) c_4
  let v12 : IVec S16 1 := (cmpi .slt) v5 v11
  let c_5 : IVec S_ 32 := constantI S_ 32 128#32
  let v13 : IVec S16 32 := (broadcastInDim S16 ![] bcast_S_S16) c_5
  let v14 : IVec S16 32 := addi v5 v13
  let v15 : IVec S16 32 := select v12 v14 v5
  let v17 : IVec S16x1 32 := (broadcastInDim S16x1 ![0] bcast_S16_S16x1_0) v15
  (fun a b => concatenate S16x2 1 [⟨S16x1, a⟩, ⟨S16x1, b⟩] concatenates_S16x1_S16x1_S16x2_d1) v16 v17

/-- The page each new token goes to. -/
def pageOf (arg6 : IVec S16x128 32) (v18 : IVec S16x2 32) : IVec S16 32 :=
  (fun x i => Host.gather gather_S16x128_S16x2_S16_n_01_n_n_01_1_11 x i) arg6 v18

/-- Which chunks have such a page. -/
def hitsOf (arg6 : IVec S16x128 32) (v19 : IVec S16 32) : IVec S16x4x16 32 :=
  let v25 : IVec S16x4x32 32 := shapeCast S16x4x32 arg6 shapeCasts_S16x128_S16x4x32
  let v26 : IVec S16x4x32x1 32 := (broadcastInDim S16x4x32x1 ![0, 1, 2] bcast_S16x4x32_S16x4x32x1_0_1_2) v25
  let v28 : IVec S16x4x32x16 32 := (broadcastInDim S16x4x32x16 ![0, 1, 2, 3] bcast_S16x4x32x1_S16x4x32x16_0_1_2_3) v26
  let v27 : IVec S1x1x1x16 32 := (broadcastInDim S1x1x1x16 ![3] bcast_S16_S1x1x1x16_3) v19
  let v29 : IVec S16x4x32x16 32 := (broadcastInDim S16x4x32x16 ![0, 1, 2, 3] bcast_S1x1x1x16_S16x4x32x16_0_1_2_3) v27
  let v30 : IVec S16x4x32x16 1 := (cmpi .eq) v28 v29
  let c_7 : IVec S_ 1 := constantI S_ 1 0#1
  let v31 : IVec S16x4x16 1 := (fun x v => Host.reduce IntOp.ori x v reducesTo_S16x4x32x16_S16x4x16_d2 h_S_) v30 c_7
  extui 32 v31 natLt_1_32

/-- How many chunks each sequence has. -/
def chunksOf (arg7 : IVec S16 32) : IVec S16 32 :=
  let c_8 : IVec S_ 32 := constantI S_ 32 0#32
  let v33 : IVec S16 32 := (broadcastInDim S16 ![] bcast_S_S16) c_8
  let v34 : IVec S16 1 := (cmpi .sgt) arg7 v33
  let c_9 : IVec S_ 32 := constantI S_ 32 512#32
  let v35 : IVec S16 32 := (broadcastInDim S16 ![] bcast_S_S16) c_9
  let v36 : IVec S16 32 := addi arg7 v35
  let c_10 : IVec S_ 32 := constantI S_ 32 1#32
  let v37 : IVec S16 32 := (broadcastInDim S16 ![] bcast_S_S16) c_10
  let v38 : IVec S16 32 := subi v36 v37
  let call2_v3 : IVec S16 32 := signi v38
  let c_11 : IVec S_ 32 := constantI S_ 32 512#32
  let call2_v0 : IVec S_ 32 := id c_11
  let call2_v4 : IVec S_ 32 := signi call2_v0
  let call2_v5 : IVec S16 32 := (broadcastInDim S16 ![] bcast_S_S16) call2_v4
  let call2_v6 : IVec S16 1 := (cmpi .ne) call2_v3 call2_v5
  let call2_v7 : IVec S16 32 := (broadcastInDim S16 ![] bcast_S_S16) call2_v0
  let call2_v8 : IVec S16 32 := Host.remsi v38 call2_v7
  let call2_c : IVec S_ 32 := constantI S_ 32 0#32
  let call2_v9 : IVec S16 32 := (broadcastInDim S16 ![] bcast_S_S16) call2_c
  let call2_v10 : IVec S16 1 := (cmpi .ne) call2_v8 call2_v9
  let call2_v11 : IVec S16 1 := andi call2_v6 call2_v10
  let call2_v1 : IVec S16 32 := (broadcastInDim S16 ![] bcast_S_S16) call2_v0
  let call2_v2 : IVec S16 32 := Host.divsi v38 call2_v1
  let call2_c_0 : IVec S_ 32 := constantI S_ 32 1#32
  let call2_v12 : IVec S16 32 := (broadcastInDim S16 ![] bcast_S_S16) call2_c_0
  let call2_v13 : IVec S16 32 := subi call2_v2 call2_v12
  let v39 : IVec S16 32 := select call2_v11 call2_v13 call2_v2
  let c_12 : IVec S_ 32 := constantI S_ 32 4#32
  let call3_v0 : IVec S_ 32 := id c_12
  let call3_v1 : IVec S16 32 := (broadcastInDim S16 ![] bcast_S_S16) call3_v0
  select v34 v39 call3_v1

/-- The first chunk of each sequence. -/
def startOf (v40 : IVec S16 32) : IVec S17 32 :=
  let c_13 : IVec S_ 32 := constantI S_ 32 0#32
  let v41 : IVec S1 32 := (broadcastInDim S1 ![] bcast_S_S1) c_13
  let call4_call0_c : IVec S_ 32 := constantI S_ 32 0#32
  let call4_call0_v0 : IVec S_ 32 := (broadcastInDim S_ ![] bcast_S_S_) call4_call0_c
  let v42 : IVec S16 32 := (fun x v => Host.reduceWindow IntOp.addi ![16] ![1] ![15] ![0] x v reduceWindows_S16_S16_w16s1p15_0 h_S_) v40 call4_call0_v0
  (fun a b => concatenate S17 0 [⟨S1, a⟩, ⟨S16, b⟩] concatenates_S1_S16_S17_d0) v41 v42

/-- The sequence of each chunk. -/
def seqOf (v43 : IVec S17 32) : IVec S64 32 :=
  let c_16 : IVec S_ 32 := constantI S_ 32 15#32
  let call5_v3 : IVec S_ 32 := id c_16
  let call5_v4 : IVec S64 32 := (broadcastInDim S64 ![] bcast_S_S64) call5_v3
  let c_15 : IVec S_ 32 := constantI S_ 32 0#32
  let call5_v0 : IVec S_ 32 := id c_15
  let call5_v1 : IVec S64 32 := (broadcastInDim S64 ![] bcast_S_S64) call5_v0
  let v44 : IVec S64 32 := iotaInDim S64 32 0
  let v45 : IVec S64x1 32 := (broadcastInDim S64x1 ![0] bcast_S64_S64x1_0) v44
  let v48 : IVec S64x16 32 := (broadcastInDim S64x16 ![0, 1] bcast_S64x1_S64x16_0_1) v45
  let v46 : IVec S16 32 := extractStridedSlice S16 ![1] v43 slices_S17_S16_1
  let v47 : IVec S1x16 32 := (broadcastInDim S1x16 ![1] bcast_S16_S1x16_1) v46
  let v49 : IVec S64x16 32 := (broadcastInDim S64x16 ![0, 1] bcast_S1x16_S64x16_0_1) v47
  let v50 : IVec S64x16 1 := (cmpi .sge) v48 v49
  let v51 : IVec S64x16 32 := extui 32 v50 natLt_1_32
  let c_14 : IVec S_ 32 := constantI S_ 32 0#32
  let v52 : IVec S64 32 := (fun x v => Host.reduce IntOp.addi x v reducesTo_S64x16_S64_d1 h_S_) v51 c_14
  let call5_v2 : IVec S64 32 := maxsi call5_v1 v52
  minsi call5_v4 call5_v2

/-- The number of each chunk in its sequence. -/
def chunkOf (v43 : IVec S17 32) (v53 : IVec S64 32) : IVec S64 32 :=
  let v44 : IVec S64 32 := iotaInDim S64 32 0
  let c_17 : IVec S_ 32 := constantI S_ 32 0#32
  let v54 : IVec S64 32 := (broadcastInDim S64 ![] bcast_S_S64) c_17
  let v55 : IVec S64 1 := (cmpi .slt) v53 v54
  let c_18 : IVec S_ 32 := constantI S_ 32 17#32
  let v56 : IVec S64 32 := (broadcastInDim S64 ![] bcast_S_S64) c_18
  let v57 : IVec S64 32 := addi v53 v56
  let v58 : IVec S64 32 := select v55 v57 v53
  let v59 : IVec S64x1 32 := (broadcastInDim S64x1 ![0] bcast_S64_S64x1_0) v58
  let v60 : IVec S64 32 := (fun x i => Host.gather gather_S17_S64x1_S64_n_0_n_n_0_1_1 x i) v43 v59
  subi v44 v60

/-- The new rows, by head. -/
def newOf (arg1 : FVec F S16x1x8x128 .f32) : FVec F S8x16x128 .f32 :=
  let v21 : FVec F S16x8x128 .f32 := shapeCast S16x8x128 arg1 shapeCasts_S16x1x8x128_S16x8x128
  transpose S8x16x128 [1, 0, 2] v21 transposes_S16x8x128_S8x16x128_1_0_2

/-- The queries. -/
def queryOf (arg0 : FVec F S16x1x32x128 .f32) : FVec F S16x32x128 .f32 :=
  shapeCast S16x32x128 arg0 shapeCasts_S16x1x32x128_S16x32x128

variable (m : (ℓ : Loc nD τ sig) → Buf (Elt F) ℓ) (c : Dev nD)

/-- An argument at the start of the run. -/
abbrev arg (b : Ref sig .tc) : Buf (Elt F) ((c : Thread nD τ).loc b) := m ((c : Thread nD τ).loc b)

theorem V_arg0 : V m c main_arg0 = arg m c main_arg0 := by entry_read; rfl
theorem V_arg1 : V m c main_arg1 = arg m c main_arg1 := by entry_read; rfl
theorem V_arg2 : V m c main_arg2 = arg m c main_arg2 := by entry_read; rfl
theorem V_arg3 : V m c main_arg3 = arg m c main_arg3 := by entry_read; rfl
theorem V_arg4 : V m c main_arg4 = arg m c main_arg4 := by entry_read; rfl
theorem V_arg5 : V m c main_arg5 = arg m c main_arg5 := by entry_read; rfl
theorem V_arg6 : V m c main_arg6 = arg m c main_arg6 := by entry_read; rfl
theorem V_arg7 : V m c main_arg7 = arg m c main_arg7 := by entry_read; rfl
theorem V_v20 : V m c main_call0_v20 = offOf (lastOf (arg m c main_arg7)) := by
  entry_read
  try simp only [StableHlo.TRef.ofBuf_toBuf]
  try simp only [StableHlo.TRef.toBuf, StableHlo.TRef.ofBuf, cast_cast, cast_eq, id_eq]
  unfold offOf lastOf
  rfl
theorem V_v19 : V m c main_call0_v19 = pageOf (arg m c main_arg6) (pairOf (slotOf (lastOf (arg m c main_arg7)))) := by
  entry_read
  try simp only [StableHlo.TRef.ofBuf_toBuf]
  try simp only [StableHlo.TRef.toBuf, StableHlo.TRef.ofBuf, cast_cast, cast_eq, id_eq]
  unfold pageOf pairOf slotOf lastOf
  rfl
theorem V_v32 : V m c main_call0_v32 = hitsOf (arg m c main_arg6) (pageOf (arg m c main_arg6) (pairOf (slotOf (lastOf (arg m c main_arg7))))) := by
  entry_read
  try simp only [StableHlo.TRef.ofBuf_toBuf]
  try simp only [StableHlo.TRef.toBuf, StableHlo.TRef.ofBuf, cast_cast, cast_eq, id_eq]
  unfold hitsOf pageOf pairOf slotOf lastOf
  rfl
theorem V_v40 : V m c main_call0_v40 = chunksOf (arg m c main_arg7) := by
  entry_read
  try simp only [StableHlo.TRef.ofBuf_toBuf]
  try simp only [StableHlo.TRef.toBuf, StableHlo.TRef.ofBuf, cast_cast, cast_eq, id_eq]
  unfold chunksOf
  rfl
theorem V_v43 : V m c main_call0_v43 = startOf (chunksOf (arg m c main_arg7)) := by
  entry_read
  try simp only [StableHlo.TRef.ofBuf_toBuf]
  try simp only [StableHlo.TRef.toBuf, StableHlo.TRef.ofBuf, cast_cast, cast_eq, id_eq]
  unfold startOf chunksOf
  rfl
theorem V_v53 : V m c main_call0_v53 = seqOf (startOf (chunksOf (arg m c main_arg7))) := by
  entry_read
  try simp only [StableHlo.TRef.ofBuf_toBuf]
  try simp only [StableHlo.TRef.toBuf, StableHlo.TRef.ofBuf, cast_cast, cast_eq, id_eq]
  unfold seqOf startOf chunksOf
  rfl
theorem V_v61 : V m c main_call0_v61 = chunkOf (startOf (chunksOf (arg m c main_arg7))) (seqOf (startOf (chunksOf (arg m c main_arg7)))) := by
  entry_read
  try simp only [StableHlo.TRef.ofBuf_toBuf]
  try simp only [StableHlo.TRef.toBuf, StableHlo.TRef.ofBuf, cast_cast, cast_eq, id_eq]
  unfold chunkOf seqOf startOf chunksOf
  rfl
theorem V_v22 : V m c main_call0_v22 = newOf (arg m c main_arg1) := by
  entry_read
  try simp only [StableHlo.TRef.ofBuf_toBuf]
  try simp only [StableHlo.TRef.toBuf, StableHlo.TRef.ofBuf, cast_cast, cast_eq, id_eq]
  unfold newOf
  rfl
theorem V_v24 : V m c main_call0_v24 = newOf (arg m c main_arg2) := by
  entry_read
  try simp only [StableHlo.TRef.ofBuf_toBuf]
  try simp only [StableHlo.TRef.toBuf, StableHlo.TRef.ofBuf, cast_cast, cast_eq, id_eq]
  unfold newOf
  rfl
theorem V_v62 : V m c main_call0_v62 = queryOf (arg m c main_arg0) := by
  entry_read
  try simp only [StableHlo.TRef.ofBuf_toBuf]
  try simp only [StableHlo.TRef.toBuf, StableHlo.TRef.ofBuf, cast_cast, cast_eq, id_eq]
  unfold queryOf
  rfl

end Cert.KernelIdeal.Run
end
-- ==== Proof.HostWords.lean ====
/-
  The host's tables as numbers: how many chunks each sequence has, where its chunks start, and which sequence and which of its
  chunks each chunk of the run is.
-/
module

public import proofs.«01_k».proof.Proof.Host
public import Idealize.ShloMosaic.Lib.Routing.OpsSet
public import Idealize.ShloMosaic.Lib.Routing.Words

@[expose] public section

noncomputable section

namespace Cert.KernelIdeal.Run

open Cert.KernelIdeal Cert.KernelIdeal.Gen Cert.KernelIdeal.Ring
open Idealize.ShloMosaic TcCoe
open Idealize.SL

theorem clip_word (b : Fin 16) : IntOp.minsi 15#32 (IntOp.maxsi 0#32 (BitVec.ofNat 32 b.val)) = BitVec.ofNat 32 b.val := by revert b; decide

theorem wrap_word (b : Fin 16) :
    Scalar.select (IntOp.cmpi .slt (BitVec.ofNat 32 b.val) 0#32) (BitVec.ofNat 32 b.val + 17#32) (BitVec.ofNat 32 b.val) = BitVec.ofNat 32 b.val := by
  revert b; decide

section Words
variable (len : IVec S16 32) (L : Fin 16 → ℕ)

theorem last_ap (i : Fin 16) {a : ℕ} (h : len (ix1 i) = BitVec.ofNat 32 a) (ha : a < 2048) : lastOf len (ix1 i) = BitVec.ofNat 32 (a - 1) := by
  show IntOp.maxsi (len (ix1 i) - 1#32) 0#32 = _
  rw [h]; exact Routing.maxsi_pred (by omega)

theorem slot_ap (v3 : IVec S16 32) (i : Fin 16) {a : ℕ} (h : v3 (ix1 i) = BitVec.ofNat 32 a) (ha : a < 2048) : slotOf v3 (ix1 i) = BitVec.ofNat 32 (a / 16) :=
  Routing.pyDiv_ap bcast_S_S16 v3 (constantI S_ 32 16#32) (ix1 i) h rfl (by omega) (by omega) (by omega)

theorem off_ap (v3 : IVec S16 32) (i : Fin 16) {a : ℕ} (h : v3 (ix1 i) = BitVec.ofNat 32 a) (ha : a < 2048) : offOf v3 (ix1 i) = BitVec.ofNat 32 (a % 16) :=
  Routing.pyRem_ap bcast_S_S16 v3 (constantI S_ 32 16#32) (ix1 i) h rfl (by omega) (by omega) (by omega)

/-- The number of chunks of a sequence of length `a`. -/
def chunks (a : ℕ) : ℕ := if 0 < a then (a + 511) / 512 else 4

theorem chunks_pos (a : ℕ) : 1 ≤ chunks a := by unfold chunks; split <;> omega
theorem chunks_le {a : ℕ} (ha : a < 2048) : chunks a ≤ 4 := by unfold chunks; split <;> omega

theorem chunks_ap (i : Fin 16) {a : ℕ} (h : len (ix1 i) = BitVec.ofNat 32 a) (ha : a < 2048) : chunksOf len (ix1 i) = BitVec.ofNat 32 (chunks a) := by
  have hs : (subi (addi len (broadcastInDim S16 ![] bcast_S_S16 (constantI S_ 32 512#32))) (broadcastInDim S16 ![] bcast_S_S16 (constantI S_ 32 1#32)) : IVec S16 32) (ix1 i)
      = BitVec.ofNat 32 (a + 511) := by
    show len (ix1 i) + 512#32 - 1#32 = _
    rw [h, ← BitVec.ofNat_add]; apply BitVec.eq_of_toNat_eq; simp [BitVec.toNat_sub, BitVec.toNat_ofNat]; omega
  have hd := Routing.pyDiv_ap bcast_S_S16 _ (constantI S_ 32 512#32) (ix1 i) (b := 512) hs rfl (by omega) (by omega) (by omega)
  have hc : IntOp.cmpi .sgt (len (ix1 i)) 0#32 = BitVec.ofBool (decide (0 < a)) := by
    rw [h]; exact WordCmp.cmpi_sgt_ofNat (w := 32) (by omega) (by omega)
  show Scalar.select (IntOp.cmpi .sgt (len (ix1 i)) 0#32) (Routing.pyDiv bcast_S_S16 _ (constantI S_ 32 512#32) (ix1 i)) 4#32 = _
  rw [hc, hd]
  unfold chunks
  by_cases h0 : 0 < a <;> simp [h0, Scalar.select]

/-- The first chunk of sequence `b`, of sequences with `n` chunks each. -/
def starts (n : Fin 16 → ℕ) (b : ℕ) : ℕ := ((List.range b).map fun i => if h : i < 16 then n ⟨i, h⟩ else 0).sum

theorem starts_succ (n : Fin 16 → ℕ) (b : Fin 16) : starts n (b.val + 1) = starts n b.val + n b := by
  unfold starts
  rw [List.range_succ, List.map_append, List.sum_append]
  simp

theorem start_ap (nv : IVec S16 32) (n : Fin 16 → ℕ) (h : ∀ i : Fin 16, nv (ix1 i) = BitVec.ofNat 32 (n i)) (j : Fin 17) :
    startOf nv (ix1 j) = BitVec.ofNat 32 (starts n j.val) := by
  have hc := fun k : Fin 16 => Routing.cumsum1 (N := 16) (Nm1 := 15) rfl nv (fun i => if h : i < 16 then n ⟨i, h⟩ else 0) (fun i => (h i).trans (by simp))
    (broadcastInDim S_ ![] bcast_S_S_ (constantI S_ 32 0#32)) rfl reduceWindows_S16_S16_w16s1p15_0 h_S_ k
  show concatenate S17 0 [⟨S1, _⟩, ⟨S16, _⟩] concatenates_S1_S16_S17_d0 (ix1 j) = _
  rw [concatenate_pair_apply]
  by_cases hj : j.val < 1
  · have : j.val = 0 := by omega
    refine (dif_pos (show (ix1 j (0 : Fin 1)).val < 1 from hj)).trans ?_
    rw [this]; rfl
  · refine (dif_neg (show ¬ (ix1 j (0 : Fin 1)).val < 1 from hj)).trans ?_
    have e : j.val = (j.val - 1) + 1 := by omega
    refine Eq.trans ?_ ((hc ⟨j.val - 1, by omega⟩).trans (congrArg (fun x => BitVec.ofNat 32 (starts n x)) e.symm))
    show Host.reduceWindow _ _ _ _ _ _ _ _ _ _ = _
    congr 1
    funext a; fin_cases a; apply Fin.ext; simp [ix1, ValueIdx.ix1, Shape.Idx.norm]

variable (n : Fin 16 → ℕ)

theorem starts_mono {b b' : ℕ} (h : b ≤ b') : starts n b ≤ starts n b' := by
  induction b' with
  | zero => have : b = 0 := by omega
            subst this; exact le_refl _
  | succ k ih =>
    rcases Nat.lt_or_ge b (k + 1) with h' | h'
    · refine (ih (by omega)).trans ?_
      unfold starts; rw [List.range_succ, List.map_append, List.sum_append]; omega
    · have : b = k + 1 := by omega
      subst this; exact le_refl _

theorem starts_le (hn : ∀ b, n b ≤ 4) (b : ℕ) (hb : b ≤ 16) : starts n b ≤ 4 * b := by
  induction b with
  | zero => simp [starts]
  | succ k ih => have := starts_succ n ⟨k, by omega⟩; have := hn ⟨k, by omega⟩; have := ih (by omega); simp only at *; omega

theorem seq_ap (gs : IVec S17 32) (hn : ∀ b, n b ≤ 4) (h : ∀ j : Fin 17, gs (ix1 j) = BitVec.ofNat 32 (starts n j.val)) (b : Fin 16) (k : ℕ)
    (hg : starts n b.val + k < 64) (hk : k < n b) : seqOf gs (ix1 ⟨starts n b.val + k, hg⟩) = BitVec.ofNat 32 b.val := by
  have hsl := fun (j : ℕ) (hj : j ≤ 16) => starts_le n hn j hj
  have hcnt := Routing.reduce_count (n := 64) (m := 16) (by omega)
    (cmpi .sge (broadcastInDim S64x16 ![0, 1] bcast_S64x1_S64x16_0_1 (broadcastInDim S64x1 ![0] bcast_S64_S64x1_0 (iotaInDim S64 32 0)))
      (broadcastInDim S64x16 ![0, 1] bcast_S1x16_S64x16_0_1 (broadcastInDim S1x16 ![1] bcast_S16_S1x16_1 (extractStridedSlice S16 ![1] gs slices_S17_S16_1))))
    natLt_1_32 reducesTo_S64x16_S64_d1 h_S_ ⟨starts n b.val + k, hg⟩ (fun j => j < b.val) (fun q => by
      have e1 : gs (ix1 ⟨q.val + 1, by omega⟩) = BitVec.ofNat 32 (starts n (q.val + 1)) := h ⟨q.val + 1, by omega⟩
      have e2 : (broadcastInDim S64x16 ![0, 1] bcast_S1x16_S64x16_0_1 (broadcastInDim S1x16 ![1] bcast_S16_S1x16_1 (extractStridedSlice S16 ![1] gs slices_S17_S16_1))) (ValueIdx.ix2 ⟨starts n b.val + k, hg⟩ q)
          = gs (ix1 ⟨q.val + 1, by omega⟩) := by
        show gs _ = _
        congr 1
        funext a; fin_cases a; apply Fin.ext; show 1 + q.val = q.val + 1; omega
      show IntOp.cmpi .sge (BitVec.ofNat 32 (starts n b.val + k)) _ = 1#1 ↔ _
      rw [e2, e1]
      have := hsl (q.val + 1) (by omega)
      rw [WordCmp.cmpi_sge_ofNat (w := 32) (by omega) (by omega), WordCmp.ofBool_decide_eq_one_iff]
      have hs := starts_succ n b
      constructor
      · intro hle
        by_contra hb
        have := starts_mono n (show b.val + 1 ≤ q.val + 1 by omega)
        omega
      · intro hb
        have := starts_mono n (show q.val + 1 ≤ b.val by omega)
        omega)
  have hc : Nat.count (fun j => j < b.val) 16 = b.val := by
    rw [Nat.count_eq_card_filter_range]
    have : (Finset.range 16).filter (fun j => j < b.val) = Finset.range b.val := by
      ext j; simp; omega
    rw [this, Finset.card_range]
  rw [hc] at hcnt
  show IntOp.minsi 15#32 (IntOp.maxsi 0#32 _) = _
  refine (congrArg (fun x => IntOp.minsi 15#32 (IntOp.maxsi 0#32 x)) hcnt).trans ?_
  exact clip_word b

theorem chunk_ap (gs : IVec S17 32) (gb : IVec S64 32) (hn : ∀ b, n b ≤ 4) (h : ∀ j : Fin 17, gs (ix1 j) = BitVec.ofNat 32 (starts n j.val)) (b : Fin 16) (k : ℕ)
    (hg : starts n b.val + k < 64) (hgb : gb (ix1 ⟨starts n b.val + k, hg⟩) = BitVec.ofNat 32 b.val) : chunkOf gs gb (ix1 ⟨starts n b.val + k, hg⟩) = BitVec.ofNat 32 k := by
  have hgat := Routing.gather_take1 gather_S17_S64x1_S64_n_0_n_n_0_1_1 rfl rfl rfl rfl gs
    (broadcastInDim S64x1 ![0] bcast_S64_S64x1_0 (select (cmpi .slt gb (broadcastInDim S64 ![] bcast_S_S64 (constantI S_ 32 0#32))) (addi gb (broadcastInDim S64 ![] bcast_S_S64 (constantI S_ 32 17#32))) gb))
    ⟨starts n b.val + k, hg⟩ ⟨b.val, by omega⟩ (by
      have hix : ∀ (X : IVec S64 32) (p : Fin 64), broadcastInDim S64x1 ![0] bcast_S64_S64x1_0 X (ValueIdx.ix2 p 0) = X (ix1 p) := fun X p => by
        show X _ = _
        congr 1
        funext a; fin_cases a; rfl
      refine (hix _ _).trans ?_
      show Scalar.select (IntOp.cmpi .slt (gb (ix1 ⟨starts n b.val + k, hg⟩)) 0#32) (gb (ix1 ⟨starts n b.val + k, hg⟩) + 17#32) (gb (ix1 ⟨starts n b.val + k, hg⟩)) = _
      rw [hgb]; exact wrap_word b) (by omega)
  show BitVec.ofNat 32 (starts n b.val + k) - Host.gather gather_S17_S64x1_S64_n_0_n_n_0_1_1 gs _ (ix1 ⟨starts n b.val + k, hg⟩) = _
  refine (congrArg (fun x => BitVec.ofNat 32 (starts n b.val + k) - x) (hgat.trans (h _))).trans ?_
  show BitVec.ofNat 32 (starts n b.val + k) - BitVec.ofNat 32 (starts n b.val) = _
  apply BitVec.eq_of_toNat_eq; simp [BitVec.toNat_sub, BitVec.toNat_ofNat]; omega

end Words

variable {F : FTy → Type} [FloatOps F] [Named F]
variable (m : (ℓ : Loc nD τ sig) → Buf (Elt F) ℓ)

/-- The arguments are in range: pages name pages, lengths are below the capacity. -/
structure InRange : Prop where
  page : ∀ y : S16x128.Idx, ((arg m 0 main_arg6 : S16x128.Idx → BitVec 32) y).toNat < 4096
  len : ∀ i : Fin 16, ((arg m 0 main_arg7 : S16.Idx → BitVec 32) (ix1 i)).toNat < 2048

/-- The length of sequence `b`. -/
def lenOf (b : Fin 16) : ℕ := ((arg m 0 main_arg7 : S16.Idx → BitVec 32) (ix1 b)).toNat
def numOf (b : Fin 16) : ℕ := chunks (lenOf m b)

theorem len_eq (b : Fin 16) : (arg m 0 main_arg7 : S16.Idx → BitVec 32) (ix1 b) = BitVec.ofNat 32 (lenOf m b) := by
  unfold lenOf; apply BitVec.eq_of_toNat_eq; simp

theorem of_nv (v : pre0.Contents (Elt F)) : (tabOf v).nv = v 5 := by unfold tabOf; rfl
theorem tab_nv : (tab m).nv = chunksOf (arg m 0 main_arg7) := by rw [tab, of_nv]; exact V_v40 m 0
theorem of_gs (v : pre0.Contents (Elt F)) : (tabOf v).gs = v 6 := by unfold tabOf; rfl
theorem tab_gs : (tab m).gs = startOf (chunksOf (arg m 0 main_arg7)) := by rw [tab, of_gs]; exact V_v43 m 0
theorem of_gb (v : pre0.Contents (Elt F)) : (tabOf v).gb = v 7 := by unfold tabOf; rfl
theorem tab_gb : (tab m).gb = seqOf (startOf (chunksOf (arg m 0 main_arg7))) := by rw [tab, of_gb]; exact V_v53 m 0
theorem of_gc (v : pre0.Contents (Elt F)) : (tabOf v).gc = v 8 := by unfold tabOf; rfl
theorem tab_gc : (tab m).gc = chunkOf (startOf (chunksOf (arg m 0 main_arg7))) (seqOf (startOf (chunksOf (arg m 0 main_arg7)))) := by rw [tab, of_gc]; exact V_v61 m 0
theorem of_pm (v : pre0.Contents (Elt F)) : (tabOf v).pm = v 0 := by unfold tabOf; rfl
theorem tab_pm : (tab m).pm = arg m 0 main_arg6 := by rw [tab, of_pm]; exact V_arg6 m 0
theorem of_len (v : pre0.Contents (Elt F)) : (tabOf v).len = v 1 := by unfold tabOf; rfl
theorem tab_len : (tab m).len = arg m 0 main_arg7 := by rw [tab, of_len]; exact V_arg7 m 0
theorem of_off (v : pre0.Contents (Elt F)) : (tabOf v).off = v 3 := by unfold tabOf; rfl
theorem tab_off : (tab m).off = offOf (lastOf (arg m 0 main_arg7)) := by rw [tab, of_off]; exact V_v20 m 0
theorem of_pidx (v : pre0.Contents (Elt F)) : (tabOf v).pidx = v 2 := by unfold tabOf; rfl
theorem tab_pidx : (tab m).pidx = pageOf (arg m 0 main_arg6) (pairOf (slotOf (lastOf (arg m 0 main_arg7)))) := by rw [tab, of_pidx]; exact V_v19 m 0

section
variable {m} (H : InRange m)
include H

theorem num_le (b : Fin 16) : numOf m b ≤ 4 := chunks_le (H.len b)

theorem nv_ap (b : Fin 16) : (tab m).nv (ix1 b) = BitVec.ofNat 32 (numOf m b) :=
  (congrFun (tab_nv m) (ix1 b)).trans (chunks_ap _ b (len_eq m b) (H.len b))

theorem gs_ap' (j : Fin 17) : startOf (chunksOf (arg m 0 main_arg7)) (ix1 j) = BitVec.ofNat 32 (starts (numOf m) j.val) :=
  start_ap (chunksOf (arg m 0 main_arg7)) (numOf m) (fun b => chunks_ap _ b (len_eq m b) (H.len b)) j

theorem gs_ap (j : Fin 17) : (tab m).gs (ix1 j) = BitVec.ofNat 32 (starts (numOf m) j.val) := (congrFun (tab_gs m) (ix1 j)).trans (gs_ap' H j)

theorem gb_ap' (b : Fin 16) (k : ℕ) (hg : starts (numOf m) b.val + k < 64) (hk : k < numOf m b) :
    seqOf (startOf (chunksOf (arg m 0 main_arg7))) (ix1 ⟨starts (numOf m) b.val + k, hg⟩) = BitVec.ofNat 32 b.val :=
  seq_ap (numOf m) _ (num_le H) (gs_ap' H) b k hg hk

theorem gb_ap (b : Fin 16) (k : ℕ) (hg : starts (numOf m) b.val + k < 64) (hk : k < numOf m b) :
    (tab m).gb (ix1 ⟨starts (numOf m) b.val + k, hg⟩) = BitVec.ofNat 32 b.val :=
  (congrFun (tab_gb m) _).trans (gb_ap' H b k hg hk)

theorem gc_ap (b : Fin 16) (k : ℕ) (hg : starts (numOf m) b.val + k < 64) (hk : k < numOf m b) :
    (tab m).gc (ix1 ⟨starts (numOf m) b.val + k, hg⟩) = BitVec.ofNat 32 k :=
  (congrFun (tab_gc m) _).trans (chunk_ap (numOf m) _ _ (num_le H) (gs_ap' H) b k hg (gb_ap' H b k hg hk))

theorem pm_ap (y : S16x128.Idx) : ((tab m).pm y).toNat < 4096 := lt_of_eq_of_lt (congrArg BitVec.toNat (congrFun (tab_pm m) y)) (H.page y)

/-- Where in its page a sequence's new token goes. -/
theorem off_eq (i : Fin 16) : (tab m).off (ix1 i) = BitVec.ofNat 32 ((lenOf m i - 1) % 16) :=
  (congrFun (tab_off m) _).trans (off_ap _ i (last_ap _ i (len_eq m i) (H.len i)) (lt_of_le_of_lt (Nat.sub_le _ _) (H.len i)))

theorem off_lt (y : S16.Idx) : ((tab m).off y).toNat < 16 := by
  obtain ⟨i, rfl⟩ : ∃ i : Fin 16, y = ix1 i := ⟨y 0, by funext a; fin_cases a; rfl⟩
  rw [off_eq H, BitVec.toNat_ofNat]
  omega

end

/-- For arguments in range the tables are a plan of the run. -/
def planOf (H : InRange m) : Plan (tab m) where
  n := numOf m
  st := starts (numOf m)
  pos := fun b => chunks_pos _
  le4 := num_le H
  nv_eq := nv_ap H
  st_zero := rfl
  st_succ := starts_succ _
  gs_eq := gs_ap H
  gb_eq := gb_ap H
  gc_eq := gc_ap H
  pm_lt := pm_ap H
  off_lt := off_lt H

end Cert.KernelIdeal.Run
end
-- ==== Proof.Frame.lean ====
/-
  The run of the program from arguments in range: it ends with its arguments as they were and every semaphore at zero, and with the
  rows of the result it computed.
-/
module

public import proofs.«01_k».proof.Proof.HostWords

@[expose] public section

noncomputable section

namespace Cert.KernelIdeal.Run

open Cert.KernelIdeal Cert.KernelIdeal.Gen Cert.KernelIdeal.Ring
open Idealize.ShloMosaic TcCoe
open Idealize.SL

variable {F : FTy → Type} [FloatOps F] [Named F]
variable (m : (ℓ : Loc nD τ sig) → Buf (Elt F) ℓ) (ρ : Dev nD → PrngReg)

/-- The result array at the end of the run. -/
def result (P : Plan (tab m)) (c : Dev nD) : Buf (Elt F) ((c : Thread nD τ).loc main_v0) := (dats m P 0 c).arrAt 3 (Pipeline.pin (pcfgs (F := F)) (adm m) 0).N

theorem kept (P : Plan (tab m)) (r) (h : Pipeline.FramePost (Pipeline.pin (pcfgs (F := F)) (adm m)) (dats m P) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  ⟨((h c).2 main_arg0 (Pipeline.mem_restRefs_of (win := spec0) main_arg0 (by decide) (by decide))).trans (V_arg0 m c),
   ((h c).2 main_arg1 (Pipeline.mem_restRefs_of (win := spec0) main_arg1 (by decide) (by decide))).trans (V_arg1 m c),
   ((h c).2 main_arg2 (Pipeline.mem_restRefs_of (win := spec0) main_arg2 (by decide) (by decide))).trans (V_arg2 m c),
   ((h c).2 main_arg3 (Pipeline.mem_restRefs_of (win := spec0) main_arg3 (by decide) (by decide))).trans (V_arg3 m c),
   ((h c).2 main_arg4 (Pipeline.mem_restRefs_of (win := spec0) main_arg4 (by decide) (by decide))).trans (V_arg4 m c),
   ((h c).2 main_arg5 (Pipeline.mem_restRefs_of (win := spec0) main_arg5 (by decide) (by decide))).trans (V_arg5 m c),
   ((h c).2 main_arg6 (Pipeline.mem_restRefs_of (win := spec0) main_arg6 (by decide) (by decide))).trans (V_arg6 m c),
   ((h c).2 main_arg7 (Pipeline.mem_restRefs_of (win := spec0) main_arg7 (by decide) (by decide))).trans (V_arg7 m c)⟩

/-- The run keeps the arguments and leaves every semaphore at zero. -/
theorem run_frame (P : Plan (tab m)) : θ_run defs (onTc (τ := τ) (main (F := F))) ⟨m, fun _ => 0, ρ⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) ∧ r.2.sem = fun _ => 0) :=
  (θ_run defs _ _).mono (fun r h => ⟨fun c => kept m P r h.1 c, h.2⟩) (run_main m ρ P)

/-- The run ends with the result it computed and its arguments as they were. -/
theorem run_value (P : Plan (tab m)) : θ_run defs (onTc (τ := τ) (main (F := F))) ⟨m, fun _ => 0, ρ⟩ (fun r => ∀ c : Dev nD,
    r.2.mem ((c : Thread nD τ).loc main_v0) = result m P c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)) :=
  (θ_run defs _ _).mono (fun r h c => ⟨(h.1 c).1 3, kept m P r h.1 c⟩) (run_main m ρ P)

end Cert.KernelIdeal.Run
end
-- ==== Proof.Ranges.lean ====
/-
  The preconditions read entry by entry: the words they bound, and the floats they call finite.
-/
module

public import proofs.«01_k».proof.Pre_in_range
public import proofs.«01_k».proof.Pre_finite_in_range
public import Idealize.ShloMosaic.Lib.WordCmp

@[expose] public section

noncomputable section

namespace Cert.Ranges

open Idealize.ShloMosaic

theorem andi_one {x y : BitVec 1} (h : IntOp.andi x y = 1#1) : x = 1#1 ∧ y = 1#1 := by
  revert x y; decide

theorem fold_and {β : Type} (f : β → BitVec 1) (l : List β) (r : BitVec 1) (h : l.foldl (fun r n => IntOp.andi r (f n)) r = 1#1) :
    r = 1#1 ∧ ∀ n ∈ l, f n = 1#1 := by
  induction l generalizing r with
  | nil => exact ⟨h, by simp⟩
  | cons a l ih =>
    obtain ⟨h1, h2⟩ := ih _ h
    obtain ⟨h3, h4⟩ := andi_one h1
    exact ⟨h3, by simpa [h4] using h2⟩

/-- A conjunction over a whole array that holds, holds at every entry. -/
theorem entry_of_all {s t u : Shape} {axes : List (Fin s.rank)} (x : s.Idx → BitVec 1) (init : u.Idx → BitVec 1) (h : s.ReducesTo axes t) (hu : 0 < u.numel)
    (ht : t.rank = 0) (j : t.Idx) (e : Host.reduce IntOp.andi x init h hu j = 1#1) (y : s.Idx) : x y = 1#1 := by
  have hj : ∀ i i' : t.Idx, i = i' := fun i i' => by funext a; exact absurd a.isLt (by omega)
  have := (fold_and (fun n => x (s.rowMajor.symm n)) _ _ e).2 (s.rowMajor y) (by
    rw [List.mem_filter]; exact ⟨List.mem_finRange _, by simpa using hj _ _⟩)
  simpa using this

theorem toNat_of_range {x : BitVec 32} {lo k : ℕ} (hk : k < 2 ^ 31) (hlo : lo < 2 ^ 31)
    (h : IntOp.andi (IntOp.cmpi .sge x (BitVec.ofNat 32 lo)) (IntOp.cmpi .slt x (BitVec.ofNat 32 k)) = 1#1) : lo ≤ x.toNat ∧ x.toNat < k := by
  obtain ⟨h1, h2⟩ := andi_one h
  have ofBool_one : ∀ p : Bool, (BitVec.ofBool p = 1#1) ↔ p = true := by intro p; cases p <;> decide
  simp only [IntOp.cmpi, ofBool_one, BitVec.sle, BitVec.slt, decide_eq_true_eq, BitVec.toInt, BitVec.toNat_ofNat] at h1 h2
  have := x.isLt
  rw [Nat.mod_eq_of_lt (by omega)] at h1 h2
  split at h2 <;> split at h1 <;> (constructor <;> split at * <;> omega)

variable {F : FTy → Type} [FloatOps F]

theorem of_in_range [Cert.Pre_in_range.Facts] (a0 a1 a2 a3 a4 a5 a6 a7) (e : Cert.Pre_in_range.fn (F := F) a0 a1 a2 a3 a4 a5 a6 a7 = fun _ => 1#1) :
    (∀ y, (a6 y).toNat < 4096) ∧ ∀ y, (a7 y).toNat < 2048 := by
  obtain ⟨h1, h2⟩ := andi_one (congrFun e (fun a => absurd a.isLt (Nat.not_lt_zero _)))
  exact ⟨fun y => (toNat_of_range (lo := 0) (by omega) (by omega) (entry_of_all _ _ _ _ rfl _ h1 y)).2,
    fun y => (toNat_of_range (lo := 0) (by omega) (by omega) (entry_of_all _ _ _ _ rfl _ h2 y)).2⟩

theorem of_finite_in_range [Cert.Pre_finite_in_range.Facts] (a0 a1 a2 a3 a4 a5 a6 a7) (e : Cert.Pre_finite_in_range.fn (F := F) a0 a1 a2 a3 a4 a5 a6 a7 = fun _ => 1#1) :
    ((∀ y, (a6 y).toNat < 4096) ∧ ∀ y, 1 ≤ (a7 y).toNat ∧ (a7 y).toNat < 2048)
    ∧ (∀ y, FloatOps.cmpf .olt (Host.absf a0 y) (FloatOps.ofBits .f32 0x7F800000#32) = 1#1)
    ∧ (∀ y, FloatOps.cmpf .olt (Host.absf a1 y) (FloatOps.ofBits .f32 0x7F800000#32) = 1#1)
    ∧ ∀ y, FloatOps.cmpf .olt (Host.absf a4 y) (FloatOps.ofBits .f32 0x7F800000#32) = 1#1 := by
  obtain ⟨h', h5⟩ := andi_one (congrFun e (fun a => absurd a.isLt (Nat.not_lt_zero _)))
  obtain ⟨h'', h4⟩ := andi_one h'
  obtain ⟨h''', h3⟩ := andi_one h''
  obtain ⟨h1, h2⟩ := andi_one h'''
  exact ⟨⟨fun y => (toNat_of_range (lo := 0) (by omega) (by omega) (entry_of_all _ _ _ _ rfl _ h1 y)).2,
    fun y => (toNat_of_range (lo := 1) (by omega) (by omega) (entry_of_all _ _ _ _ rfl _ h2 y))⟩,
    fun y => entry_of_all _ _ _ _ rfl _ h3 y, fun y => entry_of_all _ _ _ _ rfl _ h4 y, fun y => entry_of_all _ _ _ _ rfl _ h5 y⟩

end Cert.Ranges
end
-- ==== Proof.Result.lean ====
/- The arrays the grid reads and writes, at one entry: the query block of a point, the new rows, and the result. -/
module

public import proofs.«01_k».proof.Proof.Frame
public import proofs.«01_k».proof.Proof.HostWords
public import Idealize.ShloMosaic.Lib.Pipeline.ValueKit
public import Idealize.ShloMosaic.Lib.Pipeline.Covers

@[expose] public section

noncomputable section

namespace Cert.KernelIdeal.Run

open Cert.KernelIdeal Cert.KernelIdeal.Gen Cert.KernelIdeal.Ring
open Idealize.ShloMosaic TcCoe
open Idealize.SL
open Idealize.ShloMosaic.Pipeline (Dat Cfg Window)

variable {F : FTy → Type} [FloatOps F] [Named F]
variable (m : (ℓ : Loc nD τ sig) → Buf (Elt F) ℓ)

/-- The result array, filled by the rows the points store. -/
def rows (P : Plan (tab m)) (c : Dev nD) : S16x32x128.Idx → Elt F .f32 := fun i => rowOf m P c (i 0) (ix3 0 (i 1) (i 2))

theorem coords_val (t : Fin grid0.N) : ((grid0.coords t) 0).val = t.val := congrArg Fin.val (pt_coords t)

theorem coord_mod (i : grid0.Coords) : (i 0).val % 2 ^ 32 = (i 0).val := Nat.mod_eq_of_lt (lt_of_lt_of_le (i 0).isLt (by decide))

theorem result_eq (P : Plan (tab m)) (c : Dev nD) : result m P c = rows m P c := by
  unfold result
  refine (dats m P 0 c).arrAt_eq_of_covers 3 _ ?_ fun t hf y => ?_
  · refine Window.covers_of_indexMap_surj _ rfl (fun a => ?_) fun β => ⟨fun (x : Fin 1) => ⟨(β (0 : Fin 3)).val, ?_⟩, fun a => ?_⟩
    · match a with
      | ⟨0, _⟩ => exact Nat.one_pos
      | ⟨1, _⟩ => exact (by decide : 0 < 32)
      | ⟨2, _⟩ => exact (by decide : 0 < 128)
    · match x with
      | ⟨0, _⟩ => exact lt_of_lt_of_eq (β (0 : Fin 3)).isLt (show (16 + 1 - 1) / 1 = 16 from rfl)
    · have b0 := lt_of_lt_of_eq (β (0 : Fin 3)).isLt (show (16 + 1 - 1) / 1 = 16 from rfl)
      have b1 := lt_of_lt_of_eq (β (1 : Fin 3)).isLt (show (32 + 32 - 1) / 32 = 1 from rfl)
      have b2 := lt_of_lt_of_eq (β (2 : Fin 3)).isLt (show (128 + 128 - 1) / 128 = 1 from rfl)
      match a with
      | ⟨0, _⟩ => exact Nat.mod_eq_of_lt (lt_of_lt_of_le b0 (show 16 ≤ 2 ^ 32 by decide))
      | ⟨1, _⟩ => exact (Nat.lt_one_iff.1 b1).symm
      | ⟨2, _⟩ => exact (Nat.lt_one_iff.1 b2).symm
  · blk_simp
    have e := fun a => Window.rect_emb_val (w := (cfg0 (adm m 0)).win 3) t y a rfl
    have hy : (y (0 : Fin 3)).val = 0 := Nat.lt_one_iff.1 (y (0 : Fin 3)).isLt
    have e0 : (((((cfg0 (adm m 0)).win 3).blk t).view.emb y) (0 : Fin 3)).val = t.val :=
      (e (0 : Fin 3)).trans (by
        show (grid0.coords t 0).val % 2 ^ 32 * 1 + (y (0 : Fin 3)).val = t.val
        rw [coord_mod, coords_val, hy]; omega)
    have e1 : (((((cfg0 (adm m 0)).win 3).blk t).view.emb y) (1 : Fin 3)).val = (y (1 : Fin 3)).val :=
      (e (1 : Fin 3)).trans (by show 0 * 32 + (y (1 : Fin 3)).val = _; omega)
    have e2 : (((((cfg0 (adm m 0)).win 3).blk t).view.emb y) (2 : Fin 3)).val = (y (2 : Fin 3)).val :=
      (e (2 : Fin 3)).trans (by show 0 * 128 + (y (2 : Fin 3)).val = _; omega)
    show rowOf m P c (t.cast N_0) y = rowOf m P c _ _
    refine congrArg₂ (rowOf m P c) (Fin.ext e0.symm) (funext fun a => Fin.ext ?_)
    match a with
    | ⟨0, _⟩ => exact hy
    | ⟨1, _⟩ => exact e1.symm
    | ⟨2, _⟩ => exact e2.symm

theorem fetch0 (t : Fin (cfg0 (adm m 0)).N) : ((cfg0 (adm m 0)).win 0).fetch t = true := by
  rw [Pipeline.Window.fetch_in _ rfl]
  by_cases h : t.val = 0
  · exact .inl h
  · refine .inr ⟨by omega, fun e => ?_⟩
    have e0 := congrFun e (0 : Fin 3)
    have h1 : (((cfg0 (adm m 0)).win 0).index t (0 : Fin 3)) = t.val % 2 ^ 32 := congrArg (· % 2 ^ 32) (coords_val t)
    have h2 : (((cfg0 (adm m 0)).win 0).index ⟨t.val - 1, lt_of_le_of_lt (Nat.sub_le _ _) t.isLt⟩ (0 : Fin 3)) = (t.val - 1) % 2 ^ 32 := congrArg (· % 2 ^ 32) (coords_val ⟨t.val - 1, lt_of_le_of_lt (Nat.sub_le _ _) t.isLt⟩)
    rw [h1, h2] at e0
    have := lt_of_lt_of_eq t.isLt N_0
    omega

theorem held_0 (c : Dev nD) (t : Fin 16) (r : Fin 32) (x : Fin 128) :
    held m c 0 t (ix3 0 r x : S1x32x128.Idx) = (V m c main_call0_v62 : S16x32x128.Idx → Elt F .f32) (ix3 t r x) := by
  refine (congrFun (Pipeline.heldIn_of_fetch (cfg := cfg0 (adm m 0)) (fun w => V m c (Pipeline.arrRef spec0 w)) 0 (t.cast N_0.symm) (fetch0 m _)) (ix3 0 r x : S1x32x128.Idx)).trans ?_
  refine (Window.fill_xinj ((cfg0 (adm m 0)).win 0) _ _ _ (ix3 0 r x : S1x32x128.Idx)).trans ?_
  show (V m c main_call0_v62 : S16x32x128.Idx → Elt F .f32) _ = _
  have e := fun a => Window.rect_emb_val (w := (cfg0 (adm m 0)).win 0) (t.cast N_0.symm) (ix3 0 r x : S1x32x128.Idx) a rfl
  refine congrArg (V m c main_call0_v62 : S16x32x128.Idx → Elt F .f32) (funext fun a => Fin.ext ?_)
  match a with
  | ⟨0, _⟩ =>
    refine (e (0 : Fin 3)).trans ?_
    show (grid0.coords (t.cast N_0.symm) 0).val % 2 ^ 32 * 1 + 0 = t.val
    rw [coord_mod, coords_val]
    show t.val * 1 + 0 = t.val
    omega
  | ⟨1, _⟩ => exact (e (1 : Fin 3)).trans (by show 0 * 32 + r.val = r.val; omega)
  | ⟨2, _⟩ => exact (e (2 : Fin 3)).trans (by show 0 * 128 + x.val = x.val; omega)

theorem held_1 (c : Dev nD) (t : Fin 16) : held m c 1 t = (V m c main_call0_v22 : S8x16x128.Idx → Elt F .f32) := by
  have key : ∀ (n : ℕ) (h : n < (cfg0 (adm m 0)).N), Pipeline.heldIn (c := c) (cfg0 (adm m 0)) (fun w => V m c (Pipeline.arrRef spec0 w)) 1 n h = (V m c main_call0_v22 : S8x16x128.Idx → Elt F .f32) := by
    intro n
    induction n with
    | zero =>
      intro h
      funext y
      refine (Window.fill_xinj ((cfg0 (adm m 0)).win 1) _ _ _ y).trans ?_
      show (V m c main_call0_v22 : S8x16x128.Idx → Elt F .f32) _ = _
      have e := fun a => Window.rect_emb_val (w := (cfg0 (adm m 0)).win 1) ⟨0, h⟩ y a rfl
      refine congrArg (V m c main_call0_v22 : S8x16x128.Idx → Elt F .f32) (funext fun a => Fin.ext ?_)
      match a with
      | ⟨0, _⟩ => exact (e (0 : Fin 3)).trans (by show 0 * 8 + (y (0 : Fin 3)).val = (y (0 : Fin 3)).val; omega)
      | ⟨1, _⟩ => exact (e (1 : Fin 3)).trans (by show 0 * 16 + (y (1 : Fin 3)).val = (y (1 : Fin 3)).val; omega)
      | ⟨2, _⟩ => exact (e (2 : Fin 3)).trans (by show 0 * 128 + (y (2 : Fin 3)).val = (y (2 : Fin 3)).val; omega)
    | succ n ih =>
      intro h
      refine (Pipeline.heldIn_of_not_fetch _ 1 n h ?_).trans (ih _)
      rw [Bool.eq_false_iff, Ne, Pipeline.Window.fetch_in _ rfl]
      rintro (h0 | ⟨_, h1⟩)
      · exact absurd h0 (Nat.succ_ne_zero _)
      · exact h1 rfl
  exact key _ _

theorem held_2 (c : Dev nD) (t : Fin 16) : held m c 2 t = (V m c main_call0_v24 : S8x16x128.Idx → Elt F .f32) := by
  have key : ∀ (n : ℕ) (h : n < (cfg0 (adm m 0)).N), Pipeline.heldIn (c := c) (cfg0 (adm m 0)) (fun w => V m c (Pipeline.arrRef spec0 w)) 2 n h = (V m c main_call0_v24 : S8x16x128.Idx → Elt F .f32) := by
    intro n
    induction n with
    | zero =>
      intro h
      funext y
      refine (Window.fill_xinj ((cfg0 (adm m 0)).win 2) _ _ _ y).trans ?_
      show (V m c main_call0_v24 : S8x16x128.Idx → Elt F .f32) _ = _
      have e := fun a => Window.rect_emb_val (w := (cfg0 (adm m 0)).win 2) ⟨0, h⟩ y a rfl
      refine congrArg (V m c main_call0_v24 : S8x16x128.Idx → Elt F .f32) (funext fun a => Fin.ext ?_)
      match a with
      | ⟨0, _⟩ => exact (e (0 : Fin 3)).trans (by show 0 * 8 + (y (0 : Fin 3)).val = (y (0 : Fin 3)).val; omega)
      | ⟨1, _⟩ => exact (e (1 : Fin 3)).trans (by show 0 * 16 + (y (1 : Fin 3)).val = (y (1 : Fin 3)).val; omega)
      | ⟨2, _⟩ => exact (e (2 : Fin 3)).trans (by show 0 * 128 + (y (2 : Fin 3)).val = (y (2 : Fin 3)).val; omega)
    | succ n ih =>
      intro h
      refine (Pipeline.heldIn_of_not_fetch _ 2 n h ?_).trans (ih _)
      rw [Bool.eq_false_iff, Ne, Pipeline.Window.fetch_in _ rfl]
      rintro (h0 | ⟨_, h1⟩)
      · exact absurd h0 (Nat.succ_ne_zero _)
      · exact h1 rfl
  exact key _ _

end Cert.KernelIdeal.Run
end
-- ==== Proof.Pages.lean ====
/- The page arrays of the reference: the new tokens scattered into their pages, the pages gathered by the page table, read at one entry. -/
module

public import proofs.«01_k».proof.Proof.Gen.ReferenceIdeal.Run
public import Idealize.ShloMosaic.Lib.Pointwise
public import Idealize.ShloMosaic.Lib.WordCmp
public import Idealize.ShloMosaic.Lib.Routing.OpsPair
public import Idealize.ShloMosaic.Lib.Routing.OpsSet
public import Idealize.ShloMosaic.Lib.LaneScatter.Pure

@[expose] public section

noncomputable section

namespace Cert.Pages

open Cert.ReferenceIdeal Cert.ReferenceIdeal.Gen
open Idealize.ShloMosaic Idealize.ShloMosaic.TcCoe
open Idealize.ShloMosaic.LaneScatter (lastHit lastHit_of_last lastHit_of_none lastHit_cases)

/-- What one place of a page holds once the first `n` new tokens have been laid in, in order: the last of those whose page and offset
    are the place's, or what the place held. -/
def laid {α : Type} (page off : ℕ → ℕ) (A : α) (N : ℕ → α) (pg r n : ℕ) : α :=
  lastHit (fun j => page j = pg ∧ off j = r) N A n

theorem starts_eq (idx : IVec S16x2 32) (h : Fin 8) (j : Fin 16) (e : Fin 128) :
    let d := scatter_S8x4096x16x128_S16x2_S8x16x128_02_12_12_1
    d.start (ix3 h j e) idx 0 = 0 ∧ d.start (ix3 h j e) idx 1 = (idx (ix2 j 0)).toInt ∧ d.start (ix3 h j e) idx 2 = (idx (ix2 j 1)).toInt
      ∧ d.start (ix3 h j e) idx 3 = 0 := by
  refine ⟨rfl, ?_, ?_, rfl⟩
  · exact congrArg (fun y => (idx y).toInt) (funext fun a => by fin_cases a <;> rfl)
  · exact congrArg (fun y => (idx y).toInt) (funext fun a => by fin_cases a <;> rfl)

theorem windows_eq (h : Fin 8) (j : Fin 16) (e : Fin 128) :
    let d := scatter_S8x4096x16x128_S16x2_S8x16x128_02_12_12_1
    d.window (ix3 h j e) 0 = h.val ∧ d.window (ix3 h j e) 1 = 0 ∧ d.window (ix3 h j e) 2 = 0
      ∧ d.window (ix3 h j e) 3 = e.val := ⟨rfl, rfl, rfl, rfl⟩

/-- Where a new token's entry lands. -/
theorem lands (idx : IVec S16x2 32) (h h' : Fin 8) (j : Fin 16) (e e' : Fin 128) (pg : Fin 4096) (r : Fin 16) :
    scatter_S8x4096x16x128_S16x2_S8x16x128_02_12_12_1.resultIdx? (ix3 h' j e') idx = some (ix4 h pg r e)
      ↔ h' = h ∧ (idx (ix2 j 0)).toInt = pg.val ∧ (idx (ix2 j 1)).toInt = r.val ∧ e' = e := by
  obtain ⟨s0, s1, s2, s3⟩ := starts_eq idx h' j e'
  obtain ⟨w0, w1, w2, w3⟩ := windows_eq h' j e'
  rw [Routing.resultIdx?_eq_some]
  constructor
  · intro q
    have q0 := q 0
    have q1 := q 1
    have q2 := q 2
    have q3 := q 3
    rw [s0, w0] at q0; rw [s1, w1] at q1; rw [s2, w2] at q2; rw [s3, w3] at q3
    change _ = (h.val : Int) at q0
    change _ = (pg.val : Int) at q1
    change _ = (r.val : Int) at q2
    change _ = (e.val : Int) at q3
    exact ⟨Fin.ext (by omega), by omega, by omega, Fin.ext (by omega)⟩
  · rintro ⟨rfl, q1, q2, rfl⟩ a
    match a with
    | ⟨0, _⟩ => exact (congrArg₂ (· + ·) s0 (congrArg Nat.cast w0)).trans (by show (0 : Int) + (h'.val : Int) = (h'.val : Int); omega)
    | ⟨1, _⟩ => exact (congrArg₂ (· + ·) s1 (congrArg Nat.cast w1)).trans (by show _ + ((0 : ℕ) : Int) = (pg.val : Int); omega)
    | ⟨2, _⟩ => exact (congrArg₂ (· + ·) s2 (congrArg Nat.cast w2)).trans (by show _ + ((0 : ℕ) : Int) = (r.val : Int); omega)
    | ⟨3, _⟩ => exact (congrArg₂ (· + ·) s3 (congrArg Nat.cast w3)).trans (by show (0 : Int) + (e'.val : Int) = (e'.val : Int); omega)

/-- The update at a row-major position. -/
theorem place_symm (n : Fin S8x16x128.numel) (h1 : n.val / 2048 < 8) :
    S8x16x128.rowMajor.symm n = ix3 ⟨n.val / 2048, h1⟩ ⟨n.val / 128 % 16, by omega⟩ ⟨n.val % 128, by omega⟩ :=
  (S8x16x128.rowMajor.symm_apply_eq).2 (Fin.ext (by
    rw [Shape.rowMajor_val_three]
    show n.val = (n.val / 2048 * 16 + n.val / 128 % 16) * 128 + n.val % 128
    omega))

/-- The scattered array at one place: the last of the sixteen tokens whose words name the place, or what was there. -/
theorem scattered {α : Type} (A : S8x4096x16x128.Idx → α) (idx : IVec S16x2 32) (N : S8x16x128.Idx → α)
    (page off : ℕ → ℕ) (hp : ∀ j : Fin 16, (idx (ix2 j 0)).toInt = page j.val) (ho : ∀ j : Fin 16, (idx (ix2 j 1)).toInt = off j.val)
    (h : Fin 8) (pg : Fin 4096) (r : Fin 16) (e : Fin 128) (v : ℕ → α) (hv : ∀ j : Fin 16, N (ix3 h j e) = v j.val) :
    Host.scatter scatter_S8x4096x16x128_S16x2_S8x16x128_02_12_12_1 (fun _ b => b) A idx N (ix4 h pg r e)
      = laid page off (A (ix4 h pg r e)) v pg.val r.val 16 := by
  have hn : S8x16x128.numel = 16384 := by decide
  rw [Routing.scatter_at]
  have step : ∀ (a : α) (n : Fin S8x16x128.numel),
      (if scatter_S8x4096x16x128_S16x2_S8x16x128_02_12_12_1.resultIdx? (S8x16x128.rowMajor.symm n) idx = some (ix4 h pg r e)
        then N (S8x16x128.rowMajor.symm n) else a)
      = if n.val / 2048 = h.val ∧ page (n.val / 128 % 16) = pg.val ∧ off (n.val / 128 % 16) = r.val ∧ n.val % 128 = e.val
        then v (n.val / 128 % 16) else a := by
    intro a n
    have hlt := n.isLt
    have h1 : n.val / 2048 < 8 := by omega
    have hl := lands idx h ⟨n.val / 2048, h1⟩ ⟨n.val / 128 % 16, by omega⟩ e ⟨n.val % 128, by omega⟩ pg r
    rw [hp, ho] at hl
    rw [place_symm n h1]
    by_cases c : n.val / 2048 = h.val ∧ page (n.val / 128 % 16) = pg.val ∧ off (n.val / 128 % 16) = r.val ∧ n.val % 128 = e.val
    · rw [if_pos c, if_pos (hl.2 ⟨Fin.ext c.1, by exact_mod_cast c.2.1, by exact_mod_cast c.2.2.1, Fin.ext c.2.2.2⟩)]
      have e1 : (⟨n.val / 2048, h1⟩ : Fin 8) = h := Fin.ext c.1
      have e2 : (⟨n.val % 128, by omega⟩ : Fin 128) = e := Fin.ext c.2.2.2
      rw [e1, e2, hv]
    · rw [if_neg c, if_neg]
      intro q
      obtain ⟨q1, q2, q3, q4⟩ := hl.1 q
      exact c ⟨congrArg Fin.val q1, by exact_mod_cast q2, by exact_mod_cast q3, congrArg Fin.val q4⟩
  simp only [step]
  rw [Routing.foldl_finRange_lastHit (fun n => n / 2048 = h.val ∧ page (n / 128 % 16) = pg.val ∧ off (n / 128 % 16) = r.val ∧ n % 128 = e.val)
    (fun n => v (n / 128 % 16))]
  have hh := h.isLt
  have he := e.isLt
  unfold laid
  rcases lastHit_cases (fun j => page j = pg.val ∧ off j = r.val) v (A (ix4 h pg r e)) 16 with ⟨k, hk, hit, hlast, hval⟩ | ⟨hnone, hval⟩
  · rw [hval]
    have a1 : ((h.val * 16 + k) * 128 + e.val) / 2048 = h.val := by omega
    have a2 : ((h.val * 16 + k) * 128 + e.val) / 128 % 16 = k := by omega
    have a3 : ((h.val * 16 + k) * 128 + e.val) % 128 = e.val := by omega
    refine (lastHit_of_last _ _ (k := (h.val * 16 + k) * 128 + e.val) ⟨a1, by rw [a2]; exact hit.1, by rw [a2]; exact hit.2, a3⟩ (by omega) ?_).trans
      (congrArg v a2)
    rintro n h1 h2 ⟨c1, c2, c3, c4⟩
    exact hlast (n / 128 % 16) (by omega) (by omega) ⟨c2, c3⟩
  · rw [hval]
    refine lastHit_of_none _ _ ?_
    rintro n h1 ⟨c1, c2, c3, c4⟩
    exact hnone (n / 128 % 16) (by omega) ⟨c2, c3⟩

/-- The gathered pages at one entry: the page that the table names. -/
theorem gathered {α : Type} (A : S8x4096x16x128.Idx → α) (idx : IVec S16x128x1 32) (h : Fin 8) (b : Fin 16) (s : Fin 128) (r : Fin 16) (e : Fin 128)
    (hi : (idx (ix3 b s 0)).toNat < 4096) :
    Host.gather gather_S8x4096x16x128_S16x128x1_S8x16x128x16x128_034_1_n_n_1_2_8116128 A idx (ix5 h b s r e)
      = A (ix4 h ⟨(idx (ix3 b s 0)).toNat, hi⟩ r e) := by
  refine congrArg A (funext fun a => Fin.ext ?_)
  match a with
  | ⟨0, _⟩ => show 0 + 0 + h.val = h.val; omega
  | ⟨1, _⟩ =>
    have e1 : gather_S8x4096x16x128_S16x128x1_S8x16x128x16x128_034_1_n_n_1_2_8116128.siIdx (ix5 h b s r e) ⟨0, by decide⟩ = ix3 b s 0 :=
      funext fun a => by fin_cases a <;> rfl
    show min (idx (gather_S8x4096x16x128_S16x128x1_S8x16x128x16x128_034_1_n_n_1_2_8116128.siIdx (ix5 h b s r e) ⟨0, by decide⟩)).toInt.toNat (4096 - 1) + 0 + 0
      = (idx (ix3 b s 0)).toNat
    rw [e1, BitVec.toInt_eq_toNat_of_lt (by omega)]
    omega
  | ⟨2, _⟩ => show 0 + 0 + r.val = r.val; omega
  | ⟨3, _⟩ => show 0 + 0 + e.val = e.val; omega

/-- The pages a sequence reads, new tokens in place: what the reference gathers from the array it scattered into, given the words of
    the page and offset of each new token. -/
def pages {α : Type} (A : S8x4096x16x128.Idx → α) (pidx off : S16.Idx → BitVec 32) (pm : S16x128.Idx → BitVec 32) (key : S16x1x8x128.Idx → α) :
    S8x16x128x16x128.Idx → α :=
  Host.gather gather_S8x4096x16x128_S16x128x1_S8x16x128x16x128_034_1_n_n_1_2_8116128 (Host.scatter scatter_S8x4096x16x128_S16x2_S8x16x128_02_12_12_1 (fun _ b => b) A (concatenate S16x2 1 [⟨S16x1, (broadcastInDim S16x1 ![0] bcast_S16_S16x1_0 (select (cmpi .slt pidx (broadcastInDim S16 ![] bcast_S_S16 (constantI S_ 32 0#32))) (addi pidx (broadcastInDim S16 ![] bcast_S_S16 (constantI S_ 32 4096#32))) pidx))⟩, ⟨S16x1, (broadcastInDim S16x1 ![0] bcast_S16_S16x1_0 (select (cmpi .slt off (broadcastInDim S16 ![] bcast_S_S16 (constantI S_ 32 0#32))) (addi off (broadcastInDim S16 ![] bcast_S_S16 (constantI S_ 32 16#32))) off))⟩] concatenates_S16x1_S16x1_S16x2_d1) (transpose S8x16x128 [1, 0, 2] (shapeCast _ key shapeCasts_S16x1x8x128_S16x8x128) transposes_S16x8x128_S8x16x128_1_0_2)) (broadcastInDim S16x128x1 ![0, 1] bcast_S16x128_S16x128x1_0_1 (select (cmpi .slt pm (broadcastInDim S16x128 ![] bcast_S_S16x128 (constantI S_ 32 0#32))) (addi pm (broadcastInDim S16x128 ![] bcast_S_S16x128 (constantI S_ 32 4096#32))) pm))

/-- Those pages at one entry. -/
theorem pages_apply {α : Type} (A : S8x4096x16x128.Idx → α) (pidx off : S16.Idx → BitVec 32) (pm : S16x128.Idx → BitVec 32) (key : S16x1x8x128.Idx → α)
    (hpidx : ∀ y, (pidx y).toNat < 4096) (hoff : ∀ y, (off y).toNat < 16) (hpm : ∀ y, (pm y).toNat < 4096)
    (page offs : ℕ → ℕ) (hp : ∀ j : Fin 16, (pidx (ix1 j)).toNat = page j.val) (ho : ∀ j : Fin 16, (off (ix1 j)).toNat = offs j.val)
    (h : Fin 8) (b : Fin 16) (s : Fin 128) (r : Fin 16) (e : Fin 128) (v : ℕ → α) (hv : ∀ j : Fin 16, key (ix4 j 0 h e) = v j.val) :
    pages A pidx off pm key (ix5 h b s r e)
      = laid page offs (A (ix4 h ⟨(pm (ix2 b s)).toNat, hpm _⟩ r e)) v (pm (ix2 b s)).toNat r.val 16 := by
  unfold pages
  have ei : (broadcastInDim S16x128x1 ![0, 1] bcast_S16x128_S16x128x1_0_1 (select (cmpi .slt pm (broadcastInDim S16x128 ![] bcast_S_S16x128 (constantI S_ 32 0#32))) (addi pm (broadcastInDim S16x128 ![] bcast_S_S16x128 (constantI S_ 32 4096#32))) pm)) (ix3 b s 0) = pm (ix2 b s) := by
    pointwise
    exact Routing.wrap_of_lt _ _ (by have := hpm (ix2 b s); omega)
  rw [gathered _ _ h b s r e (by rw [ei]; exact hpm _)]
  have e2 : (⟨((broadcastInDim S16x128x1 ![0, 1] bcast_S16x128_S16x128x1_0_1 (select (cmpi .slt pm (broadcastInDim S16x128 ![] bcast_S_S16x128 (constantI S_ 32 0#32))) (addi pm (broadcastInDim S16x128 ![] bcast_S_S16x128 (constantI S_ 32 4096#32))) pm)) (ix3 b s 0)).toNat, by rw [ei]; exact hpm _⟩ : Fin 4096)
      = ⟨(pm (ix2 b s)).toNat, hpm _⟩ := Fin.ext (congrArg BitVec.toNat ei)
  rw [e2]
  refine scattered A _ _ page offs ?_ ?_ h _ r e v ?_
  · intro j
    pointwise
    rw [Routing.wrap_of_lt _ _ (by have := hpidx (ix1 j); omega), BitVec.toInt_eq_toNat_of_lt (by have := hpidx (ix1 j); omega), hp]
  · intro j
    pointwise
    rw [Routing.wrap_of_lt _ _ (by have := hoff (ix1 j); omega), BitVec.toInt_eq_toNat_of_lt (by have := hoff (ix1 j); omega), ho]
  · intro j
    rw [← hv]
    pointwise

end Cert.Pages

end

end
-- ==== Proof.Slots.lean ====
/- A filled slot of the ring at one entry: the page that landed there, with the new tokens of that page in place. -/
module

public import proofs.«01_k».proof.Proof.HostWords
public import proofs.«01_k».proof.Proof.Pages

@[expose] public section

noncomputable section

namespace Cert.Slots

open Cert.KernelIdeal Cert.KernelIdeal.Gen Cert.KernelIdeal.Ring
open Idealize.ShloMosaic Idealize.ShloMosaic.TcCoe
open Idealize.ShloMosaic.LaneScatter (lastHit)

variable {F : FTy → Type} [FloatOps F] [Named F]

/-- One token tried on the first `n` pages of the slot, at one entry. -/
theorem patchPages_apply (T : Tab) (K : S8x16x128.Idx → Elt F .f32) (b : Fin 16) (ch : Fin 4) (s : Fin 3) (j2 : Fin 16) (f : S3x8x32x16x128.Idx → Elt F .f32)
    (h : Fin 8) (j : Fin 32) (r : Fin 16) (e : Fin 128) (n : ℕ) (hn : n ≤ 32) :
    patchPages T K b ch s j2 f n (ix5 s h j r e)
      = if j.val < n ∧ T.pm (place b ch j) = T.pidx (ix1 j2) ∧ (T.off (ix1 j2)).toNat % 16 = r.val then K (ix3 h j2 e) else f (ix5 s h j r e) := by
  induction n with
  | zero => exact (if_neg (by omega)).symm
  | succ n ih =>
    have ih := ih (by omega)
    rw [patchPages_succ T K b ch s j2 f n (by omega)]
    by_cases hm : T.pm (place b ch ⟨n, by omega⟩) = T.pidx (ix1 j2)
    · rw [if_pos hm]
      show (if s.val = s.val ∧ j.val = n ∧ r.val = (T.off (ix1 j2)).toNat % 16 then K (ix3 h j2 e) else patchPages T K b ch s j2 f n (ix5 s h j r e)) = _
      rw [ih]
      by_cases hj : j.val = n
      · have hm' : T.pm (place b ch j) = T.pidx (ix1 j2) := (congrArg (fun x => T.pm (place b ch x)) (Fin.ext hj : j = ⟨n, by omega⟩)).trans hm
        by_cases hr : (T.off (ix1 j2)).toNat % 16 = r.val
        · rw [if_pos ⟨rfl, hj, hr.symm⟩, if_pos ⟨by omega, hm', hr⟩]
        · rw [if_neg (fun q => hr q.2.2.symm), if_neg (fun q => hr q.2.2), if_neg (fun q => hr q.2.2)]
      · rw [if_neg (fun q => hj q.2.1)]
        exact if_congr (by constructor <;> rintro ⟨q1, q2⟩ <;> exact ⟨by omega, q2⟩) rfl rfl
    · rw [if_neg hm, ih]
      refine if_congr ⟨fun ⟨q1, q2⟩ => ⟨by omega, q2⟩, fun ⟨q1, q2, q3⟩ => ⟨?_, q2, q3⟩⟩ rfl rfl
      by_contra hc
      have hj : j.val = n := by omega
      exact hm ((congrArg (fun x => T.pm (place b ch x)) (Fin.ext hj : j = ⟨n, by omega⟩)).symm.trans q2)

/-- All tokens tried on a slot, at one entry. -/
theorem patchToks_apply (T : Tab) (K : S8x16x128.Idx → Elt F .f32) (b : Fin 16) (ch : Fin 4) (s : Fin 3) (f : S3x8x32x16x128.Idx → Elt F .f32)
    (hh : ∀ j2 : Fin 16, T.hits (ix3 b ch j2) = 0#32 → ∀ j : Fin 32, T.pm (place b ch j) ≠ T.pidx (ix1 j2))
    (hoff : ∀ y, (T.off y).toNat < 16) (page offs : ℕ → ℕ) (hp : ∀ j : Fin 16, (T.pidx (ix1 j)).toNat = page j.val)
    (ho : ∀ j : Fin 16, (T.off (ix1 j)).toNat = offs j.val)
    (h : Fin 8) (j : Fin 32) (r : Fin 16) (e : Fin 128) (v : ℕ → Elt F .f32) (hv : ∀ j : Fin 16, K (ix3 h j e) = v j.val) (n : ℕ) (hn : n ≤ 16) :
    patchToks T K b ch s f n (ix5 s h j r e)
      = Pages.laid page offs (f (ix5 s h j r e)) v (T.pm (place b ch j)).toNat r.val n := by
  induction n with
  | zero => rfl
  | succ n ih =>
    have ih := ih (by omega)
    rw [patchToks_succ T K b ch s f n (by omega)]
    show _ = if page n = (T.pm (place b ch j)).toNat ∧ offs n = r.val then v n
      else Pages.laid page offs (f (ix5 s h j r e)) v (T.pm (place b ch j)).toNat r.val n
    have h1 := hp ⟨n, by omega⟩
    have h2 := ho ⟨n, by omega⟩
    have h3 := hoff (ix1 ⟨n, by omega⟩)
    simp only at h1 h2
    by_cases hz : T.hits (ix3 b ch ⟨n, by omega⟩) = 0#32
    · rw [if_neg (not_not.2 hz), ih, if_neg]
      rintro ⟨q, -⟩
      exact hh ⟨n, by omega⟩ hz j (BitVec.eq_of_toNat_eq (by omega))
    · rw [if_pos hz, patchPages_apply T K b ch s ⟨n, by omega⟩ _ h j r e 32 le_rfl, ih]
      refine if_congr ⟨fun ⟨_, q2, q3⟩ => ⟨?_, by omega⟩, fun ⟨q1, q2⟩ => ⟨j.isLt, BitVec.eq_of_toNat_eq (by omega), by omega⟩⟩ (hv _) rfl
      rw [q2]; omega

/-- A disjunction of bits is zero only where each of them is. -/
theorem fold_ori {ι : Type} [DecidableEq ι] (f : ι → BitVec 1) (s : Finset ι) (h : Finset.fold IntOp.ori 0#1 f s = 0#1) : ∀ x ∈ s, f x = 0#1 := by
  induction s using Finset.induction_on with
  | empty => intro x hx; exact absurd hx (Finset.notMem_empty x)
  | insert a s ha ih =>
    rw [Finset.fold_insert ha] at h
    have hb : ∀ p q : BitVec 1, IntOp.ori p q = 0#1 → p = 0#1 ∧ q = 0#1 := by decide
    obtain ⟨h1, h2⟩ := hb _ _ h
    intro x hx
    rcases Finset.mem_insert.1 hx with rfl | hx
    · exact h1
    · exact ih h2 x hx

theorem setWidth_zero {p : BitVec 1} (h : BitVec.setWidth 32 p = 0#32) : p = 0#1 := by
  revert p; decide

/-- The hits of a chunk: where there is none, no page of the chunk is the token's. -/
theorem hits_none (arg6 : IVec S16x128 32) (p : IVec S16 32) (b : Fin 16) (ch : Fin 4) (j2 : Fin 16) (hz : Run.hitsOf arg6 p (ix3 b ch j2) = 0#32)
    (j : Fin 32) : arg6 (place b ch j) ≠ p (ix1 j2) := by
  unfold Run.hitsOf at hz
  revert hz
  pointwise
  intro hz hne
  have h1 := fold_ori (fun x : Fin 32 => IntOp.cmpi CmpIPredicate.eq (arg6 (ix2 b ⟨ch.val * 32 + x.val, by omega⟩)) (p (ix1 j2))) Finset.univ (setWidth_zero hz) j
    (Finset.mem_univ j)
  have h2 : IntOp.cmpi CmpIPredicate.eq (arg6 (place b ch j)) (p (ix1 j2)) = 0#1 := h1
  rw [hne] at h2
  simp [IntOp.cmpi] at h2

variable (m : (ℓ : Loc nD τ sig) → Buf (Elt F) ℓ)

theorem of_hits (v : pre0.Contents (Elt F)) : (Run.tabOf v).hits = v 4 := by unfold Run.tabOf; rfl
theorem tab_hits : (Run.tab m).hits = Run.hitsOf (Run.arg m 0 main_arg6) (Run.pageOf (Run.arg m 0 main_arg6) (Run.pairOf (Run.slotOf (Run.lastOf (Run.arg m 0 main_arg7))))) := by
  rw [Run.tab, of_hits]; exact Run.V_v32 m 0

theorem hits_guard (b : Fin 16) (ch : Fin 4) (j2 : Fin 16) (hz : (Run.tab m).hits (ix3 b ch j2) = 0#32) (j : Fin 32) :
    (Run.tab m).pm (place b ch j) ≠ (Run.tab m).pidx (ix1 j2) := by
  rw [tab_hits] at hz
  rw [Run.tab_pm, Run.tab_pidx]
  exact hits_none _ _ b ch j2 hz j

/-- A filled slot, read at page `j` of the chunk, row `r` and lane `e` of head `h`. -/
theorem slot_apply (P : Plan (Run.tab m)) (b : Fin 16) (k : ℕ) (hk : k < 4) (hkn : k < P.n b) (K : S8x16x128.Idx → Elt F .f32) (A : S8x4096x16x128.Idx → Elt F .f32)
    (page offs : ℕ → ℕ) (hp : ∀ j : Fin 16, ((Run.tab m).pidx (ix1 j)).toNat = page j.val) (ho : ∀ j : Fin 16, ((Run.tab m).off (ix1 j)).toNat = offs j.val)
    (h : Fin 8) (j : Fin 32) (r : Fin 16) (e : Fin 128) (v : ℕ → Elt F .f32) (hv : ∀ j : Fin 16, K (ix3 h j e) = v j.val) :
    KSide.slotOf (filled (Run.tab m) K A b ⟨k, hk⟩ (P.st b.val + k)) (sl (P.st b.val + k)) (ix5 0 h j r e)
      = Pages.laid page offs (A (ix4 h ⟨((Run.tab m).pm (ix2 b ⟨k * 32 + j.val, by omega⟩)).toNat, P.pm_lt _⟩ r e)) v
          ((Run.tab m).pm (ix2 b ⟨k * 32 + j.val, by omega⟩)).toNat r.val 16 := by
  refine (patchToks_apply (Run.tab m) K b ⟨k, hk⟩ (sl (P.st b.val + k)) (KSide.landed A (pages (Run.tab m) (P.st b.val + k)))
    (fun j2 hz j => hits_guard m b ⟨k, hk⟩ j2 hz j) P.off_lt page offs hp ho h j r e v hv 16 le_rfl).trans ?_
  have e1 : KSide.landed A (pages (Run.tab m) (P.st b.val + k)) (ix5 (sl (P.st b.val + k)) h j r e)
      = A (ix4 h ⟨((Run.tab m).pm (ix2 b ⟨k * 32 + j.val, by omega⟩)).toNat, P.pm_lt _⟩ r e) :=
    congrArg (fun x => A (ix4 h x r e)) (Fin.ext (pages_eq P b hkn j (by omega)))
  rw [e1]
  rfl

end Cert.Slots

end

end
-- ==== Proof.Online.lean ====
/- The arithmetic of the attention row over the extended reals: a maximum, a sum of exponentials and a weighted sum kept
   chunk by chunk and rescaled whenever the maximum grows give the same quotient as the row taken at once. -/
module

public import Idealize.ShloMosaic.PureOps.Ideal

@[expose] public section

noncomputable section

namespace Cert.Online

open Idealize.ShloMosaic
open scoped BigOperators

/-- The three running values after `k` chunks of 512 positions: the maximum, the sum of the exponentials, the weighted sum. -/
def run (w v : ℕ → EReal) : ℕ → EReal × EReal × EReal
  | 0 => (⊥, 0, 0)
  | k + 1 =>
    let s := run w v k
    let m := max s.1 (Finset.univ.sup fun t : Fin 512 => w (k * 512 + t.val))
    (m, s.2.1 * Ideal.exp (s.1 - m) + ∑ t : Fin 512, Ideal.exp (w (k * 512 + t.val) - m),
      s.2.2 * Ideal.exp (s.1 - m) + ∑ t : Fin 512, Ideal.exp (w (k * 512 + t.val) - m) * v (k * 512 + t.val))

/-- The greatest of the first `n` values. -/
def top (w : ℕ → EReal) (n : ℕ) : EReal := (Finset.range n).sup w

theorem exp_bot : Ideal.exp ⊥ = 0 := rfl
theorem exp_coe (r : ℝ) : Ideal.exp (r : EReal) = (Real.exp r : EReal) := rfl

theorem bot_sub (z : EReal) : (⊥ : EReal) - z = ⊥ := by
  rw [sub_eq_add_neg, EReal.bot_add]

/-- Every exponential is at least zero. -/
theorem exp_nonneg (x : EReal) : 0 ≤ Ideal.exp x := by
  induction x with
  | bot => exact le_rfl
  | top => exact le_top
  | coe r => rw [exp_coe]; exact_mod_cast (Real.exp_pos r).le

/-- The exponential of what is not the positive infinity is not the positive infinity. -/
theorem exp_ne_top {x : EReal} (h : x ≠ ⊤) : Ideal.exp x ≠ ⊤ := by
  induction x with
  | bot => exact EReal.zero_ne_top
  | top => exact absurd rfl h
  | coe r => rw [exp_coe]; exact EReal.coe_ne_top _

/-- A difference from something no smaller, itself below the positive infinity, is not the positive infinity. -/
theorem sub_ne_top {x y : EReal} (h : x ≤ y) (hy : y ≠ ⊤) : x - y ≠ ⊤ := by
  induction x with
  | bot => rw [bot_sub]; exact bot_ne_top
  | top => exact absurd (top_le_iff.1 h) hy
  | coe r =>
    induction y with
    | bot => exact absurd (le_bot_iff.1 h) (EReal.coe_ne_bot r)
    | top => exact absurd rfl hy
    | coe s => rw [← EReal.coe_sub]; exact EReal.coe_ne_top _

/-- Rescaling an exponential from one maximum to a greater one. -/
theorem exp_mul {x y z : EReal} (hxy : x ≤ y) (hyz : y ≤ z) (hz : z ≠ ⊤) :
    Ideal.exp (x - y) * Ideal.exp (y - z) = Ideal.exp (x - z) := by
  induction x with
  | bot => rw [bot_sub, bot_sub, exp_bot, zero_mul]
  | top => exact absurd (top_le_iff.1 (hxy.trans hyz)) hz
  | coe r =>
    induction y with
    | bot => exact absurd (le_bot_iff.1 hxy) (EReal.coe_ne_bot r)
    | top => exact absurd (top_le_iff.1 hyz) hz
    | coe s =>
      induction z with
      | bot => exact absurd (le_bot_iff.1 hyz) (EReal.coe_ne_bot s)
      | top => exact absurd rfl hz
      | coe t =>
        rw [← EReal.coe_sub, ← EReal.coe_sub, ← EReal.coe_sub, exp_coe, exp_coe, exp_coe, ← EReal.coe_mul,
          ← Real.exp_add]
        congr 2; ring

/-- A sum times a number that is neither negative nor infinite, term by term. -/
theorem sum_mul {ι : Type} (s : Finset ι) (f : ι → EReal) {a : EReal} (h0 : 0 ≤ a) (ht : a ≠ ⊤) :
    (∑ i ∈ s, f i) * a = ∑ i ∈ s, f i * a := by
  classical
  induction s using Finset.induction_on with
  | empty => rw [Finset.sum_empty, Finset.sum_empty, zero_mul]
  | insert i s hi ih =>
    rw [Finset.sum_insert hi, Finset.sum_insert hi, EReal.right_distrib_of_nonneg_of_ne_top h0 ht, ih]

/-- A sum over the next chunk, joined to the sum before it. -/
theorem sum_chunk (f : ℕ → EReal) (k : ℕ) :
    ∑ p ∈ Finset.range ((k + 1) * 512), f p
      = ∑ p ∈ Finset.range (k * 512), f p + ∑ t : Fin 512, f (k * 512 + t.val) := by
  rw [Nat.succ_mul, Finset.sum_range_add, Finset.sum_range fun x => f (k * 512 + x)]

theorem top_chunk (w : ℕ → EReal) (k : ℕ) :
    top w ((k + 1) * 512) = max (top w (k * 512)) (Finset.univ.sup fun t : Fin 512 => w (k * 512 + t.val)) := by
  apply le_antisymm
  · refine Finset.sup_le fun p hp => ?_
    rw [Finset.mem_range] at hp
    by_cases h : p < k * 512
    · exact le_max_of_le_left (Finset.le_sup (f := w) (Finset.mem_range.2 h))
    · have e : k * 512 + (p - k * 512) = p := by omega
      have := Finset.le_sup (f := fun t : Fin 512 => w (k * 512 + t.val))
        (Finset.mem_univ (⟨p - k * 512, by omega⟩ : Fin 512))
      simp only [e] at this
      exact le_max_of_le_right this
  · refine max_le (Finset.sup_mono ?_) (Finset.sup_le fun t _ => ?_)
    · intro p hp; rw [Finset.mem_range] at *; omega
    · exact Finset.le_sup (f := w) (Finset.mem_range.2 (by have := t.isLt; omega))

/-- After `k` chunks the running values are the maximum and the two sums over all the positions so far. -/
theorem run_eq (w v : ℕ → EReal) (h : ∀ n, top w n ≠ ⊤) (k : ℕ) :
    run w v k = (top w (k * 512), ∑ p ∈ Finset.range (k * 512), Ideal.exp (w p - top w (k * 512)),
      ∑ p ∈ Finset.range (k * 512), Ideal.exp (w p - top w (k * 512)) * v p) := by
  induction k with
  | zero => simp [run, top]
  | succ k ih =>
    have hm : top w (k * 512) ≤ top w ((k + 1) * 512) := by rw [top_chunk]; exact le_max_left _ _
    have ha := exp_ne_top (sub_ne_top hm (h _))
    have h0 := exp_nonneg (top w (k * 512) - top w ((k + 1) * 512))
    have hx : ∀ p ∈ Finset.range (k * 512),
        Ideal.exp (w p - top w (k * 512)) * Ideal.exp (top w (k * 512) - top w ((k + 1) * 512))
          = Ideal.exp (w p - top w ((k + 1) * 512)) := fun p hp =>
      exp_mul (Finset.le_sup (f := w) hp) hm (h _)
    simp only [run, ih]
    rw [← top_chunk]
    refine Prod.ext rfl (Prod.ext ?_ ?_)
    · rw [sum_chunk fun p => Ideal.exp (w p - top w ((k + 1) * 512)), ← Finset.sum_congr rfl hx, ← sum_mul _ _ h0 ha]
    · rw [sum_chunk fun p => Ideal.exp (w p - top w ((k + 1) * 512)) * v p]
      dsimp only
      rw [sum_mul _ _ h0 ha]
      congr 1
      refine Finset.sum_congr rfl fun p hp => ?_
      rw [mul_right_comm, hx p hp]

/-- The quotient of the running sums once every position that counts has been read is the row's weighted mean, whatever the
    number of chunks: positions past the length weigh nothing. -/
theorem quotient (w v : ℕ → EReal) (L n : ℕ) (hL : 1 ≤ L) (hn : L ≤ n * 512) (h4 : n ≤ 4)
    (hr : ∀ p, p < L → ∃ r : ℝ, w p = r) (hb : ∀ p, L ≤ p → w p = ⊥) :
    Ideal.div (run w v n).2.2 (run w v n).2.1
      = ∑ p : Fin 2048, Ideal.div (Ideal.exp (w p.val - Finset.univ.sup fun q : Fin 2048 => w q.val))
          (∑ q : Fin 2048, Ideal.exp (w q.val - Finset.univ.sup fun q : Fin 2048 => w q.val)) * v p.val := by
  have hfin : ∀ n, top w n ≠ ⊤ := by
    intro n
    have : top w n < ⊤ := by
      refine (Finset.sup_lt_iff (bot_lt_top)).2 fun p _ => ?_
      by_cases hp : p < L
      · obtain ⟨r, e⟩ := hr p hp; rw [e]; exact EReal.coe_lt_top r
      · rw [hb p (by omega)]; exact bot_lt_top
    exact this.ne
  have hle : ∀ p, w p ≤ top w (n * 512) := by
    intro p
    by_cases hp : p < n * 512
    · exact Finset.le_sup (f := w) (Finset.mem_range.2 hp)
    · rw [hb p (by omega)]; exact bot_le
  have hM : (Finset.univ.sup fun q : Fin 2048 => w q.val) = top w (n * 512) := by
    apply le_antisymm
    · exact Finset.sup_le fun q _ => hle q.val
    · refine Finset.sup_le fun p hp => ?_
      rw [Finset.mem_range] at hp
      exact Finset.le_sup (f := fun q : Fin 2048 => w q.val) (Finset.mem_univ (⟨p, by omega⟩ : Fin 2048))
  rw [hM, run_eq w v hfin]
  set M := top w (n * 512) with hMd
  have hsub : Finset.range (n * 512) ⊆ Finset.range 2048 := by
    intro p hp; rw [Finset.mem_range] at *; omega
  have hz : ∀ p, p ∉ Finset.range (n * 512) → Ideal.exp (w p - M) = 0 := by
    intro p hp
    rw [Finset.mem_range] at hp
    rw [hb p (by omega), bot_sub, exp_bot]
  have e1 : ∑ p ∈ Finset.range (n * 512), Ideal.exp (w p - M) = ∑ q : Fin 2048, Ideal.exp (w q.val - M) := by
    rw [Finset.sum_subset hsub fun p _ hp => hz p hp, Finset.sum_range fun p => Ideal.exp (w p - M)]
  have e2 : ∑ p ∈ Finset.range (n * 512), Ideal.exp (w p - M) * v p
      = ∑ q : Fin 2048, Ideal.exp (w q.val - M) * v q.val := by
    rw [Finset.sum_subset hsub fun p _ hp => by rw [hz p hp, zero_mul],
      Finset.sum_range fun p => Ideal.exp (w p - M) * v p]
  dsimp only
  rw [e1, e2]
  set Z := ∑ q : Fin 2048, Ideal.exp (w q.val - M) with hZd
  obtain ⟨r0, e0⟩ := hr 0 (by omega)
  have hMb : M ≠ ⊥ := by
    intro hb'
    have := hle 0
    rw [e0, hb'] at this
    exact EReal.coe_ne_bot r0 (le_bot_iff.1 this)
  obtain ⟨mr, hmr⟩ : ∃ mr : ℝ, M = mr := ⟨M.toReal, (EReal.coe_toReal (hfin _) hMb).symm⟩
  have hpos : 0 < Z := by
    refine lt_of_lt_of_le ?_ (Finset.single_le_sum (f := fun q : Fin 2048 => Ideal.exp (w q.val - M))
      (fun q _ => exp_nonneg _) (Finset.mem_univ (⟨0, by omega⟩ : Fin 2048)))
    show 0 < Ideal.exp (w 0 - M)
    rw [e0, hmr, ← EReal.coe_sub, exp_coe]
    exact_mod_cast Real.exp_pos _
  have hinv0 : 0 ≤ Z⁻¹ := EReal.inv_nonneg_of_nonneg hpos.le
  have hinvt : Z⁻¹ ≠ ⊤ := by
    intro h
    exact absurd h (by
      induction Z with
      | bot => simp
      | top => simp
      | coe z => rw [← EReal.coe_inv]; exact EReal.coe_ne_top _)
  simp only [Ideal.div, if_neg hpos.ne']
  rw [sum_mul _ _ hinv0 hinvt]
  exact Finset.sum_congr rfl fun p _ => mul_right_comm _ _ _

/-- A sum of products of real numbers is a real number. -/
theorem real_sum {ι : Type} (s : Finset ι) (f g : ι → EReal) (hf : ∀ i, ∃ r : ℝ, f i = r) (hg : ∀ i, ∃ r : ℝ, g i = r) :
    ∃ r : ℝ, ∑ i ∈ s, f i * g i = r := by
  classical
  induction s using Finset.induction_on with
  | empty => exact ⟨0, by simp⟩
  | insert i s hi ih =>
    obtain ⟨a, ha⟩ := hf i
    obtain ⟨b, hb⟩ := hg i
    obtain ⟨c, hc⟩ := ih
    exact ⟨a * b + c, by rw [Finset.sum_insert hi, ha, hb, hc]; norm_cast⟩

/-- What a magnitude below the positive infinity says. -/
theorem real_of_abs {x : EReal} (h : max x (-x) < ⊤) : ∃ r : ℝ, x = r := by
  induction x with
  | bot => exact absurd h (by simp)
  | top => exact absurd h (by simp)
  | coe r => exact ⟨r, rfl⟩

end Cert.Online

end

end
-- ==== Proof.RefRow.lean ====
/- The reference's result read at one entry: the weighted mean of a sequence's value rows. -/
module

public import proofs.«01_k».proof.Proof.Gen.ReferenceIdeal.Run
public import proofs.«01_k».proof.Proof.Online
public import Idealize.ShloMosaic.Lib.Pointwise
public import Idealize.ShloMosaic.Lib.WordCmp

@[expose] public section

noncomputable section

namespace Cert.RefRow

open Cert.ReferenceIdeal Cert.ReferenceIdeal.Gen
open Idealize.ShloMosaic Idealize.ShloMosaic.TcCoe

/-- The reference's scores with the positions past the length masked. -/
def scores (q : S16x1x32x128.Idx → Ideal .f32) (K : S8x16x128x16x128.Idx → Ideal .f32) (len : S16.Idx → BitVec 32) : S16x8x4x2048.Idx → Ideal .f32 :=
  select (broadcastInDim S16x8x4x2048 ![0, 1, 2, 3] bcast_S16x1x1x2048_S16x8x4x2048_0_1_2_3 (broadcastInDim S16x1x1x2048 ![0, 3] bcast_S16x2048_S16x1x1x2048_0_3 (cmpi .sge (broadcastInDim S16x2048 ![0, 1] bcast_S1x2048_S16x2048_0_1 (broadcastInDim S1x2048 ![1] bcast_S2048_S1x2048_1 (iotaInDim S2048 32 0))) (broadcastInDim S16x2048 ![0, 1] bcast_S16x1_S16x2048_0_1 (broadcastInDim S16x1 ![0] bcast_S16_S16x1_0 len))))) (broadcastInDim S16x8x4x2048 ![] bcast_S_S16x8x4x2048 (constant S_ .f32 0xFF800000#32)) (Host.dotGeneral (F := Ideal) dot_S16x8x4x128_S16x8x2048x128_S16x8x4x2048_3_3_2_2_01_01 none (shapeCast _ (shapeCast _ q shapeCasts_S16x1x32x128_S16x32x128) shapeCasts_S16x32x128_S16x8x4x128) (transpose S16x8x2048x128 [1, 0, 2, 3] (shapeCast _ K shapeCasts_S8x16x128x16x128_S8x16x2048x128) transposes_S8x16x2048x128_S16x8x2048x128_1_0_2_3))

/-- The score of position `p` of a row: the product of the query with the position's key, below the length, and minus infinity past it. -/
def score (q : Fin 128 → EReal) (K : ℕ → Fin 128 → EReal) (L p : ℕ) : EReal :=
  if p < L then ∑ x, q x * K p x else ⊥

theorem bits_bot : Ideal.ofBits FTy.f32 0xFF800000#32 = ⊥ := by simp [Ideal.ofBits, Ideal.ieee]

/-- The mask's comparison and choice, on numbers. -/
theorem select_sge {α : Type} (p : ℕ) (hp : p < 2048) (l : BitVec 32) (hl : l.toNat < 2048) (x y : α) :
    Scalar.select (IntOp.cmpi .sge (BitVec.ofNat 32 p) l) x y = if p < l.toNat then y else x := by
  have e : IntOp.cmpi .sge (BitVec.ofNat 32 p) l = BitVec.ofBool (decide (l.toNat ≤ p)) := by
    unfold IntOp.cmpi
    simp only [BitVec.sle]
    congr 1
    rw [decide_eq_decide, BitVec.toInt_eq_toNat_of_lt (by omega), BitVec.toInt_eq_toNat_of_lt (by rw [BitVec.toNat_ofNat]; omega),
      BitVec.toNat_ofNat, Nat.mod_eq_of_lt (by omega)]
    omega
  rw [e]
  by_cases h : p < l.toNat
  · rw [if_pos h, decide_eq_false (by omega)]; rfl
  · rw [if_neg h, decide_eq_true (by omega)]; rfl

theorem scores_apply (q : S16x1x32x128.Idx → Ideal .f32) (K : S8x16x128x16x128.Idx → Ideal .f32) (len : S16.Idx → BitVec 32)
    (hl : ∀ y, (len y).toNat < 2048) (b : Fin 16) (h : Fin 8) (g : Fin 4) (p : Fin 2048) :
    scores q K len (ix4 b h g p) = if p.val < (len (ix1 b)).toNat then
      ∑ x : Fin 128, q (ix4 b 0 ⟨h.val * 4 + g.val, by omega⟩ x) * K (ix5 h b ⟨p.val / 16, by omega⟩ ⟨p.val % 16, by omega⟩ x) else ⊥ := by
  unfold scores
  pointwise
  rw [select_sge p.val p.isLt _ (hl _), bits_bot]

/-- The exponentials of the scores less their row's maximum. -/
def weights (w : S16x8x4x2048.Idx → Ideal .f32) : S16x8x4x2048.Idx → Ideal .f32 :=
  Host.exp (subf (F := Ideal) w (broadcastInDim S16x8x4x2048 ![0, 1, 2, 3] bcast_S16x8x4x1_S16x8x4x2048_0_1_2_3 (broadcastInDim S16x8x4x1 ![0, 1, 2] bcast_S16x8x4_S16x8x4x1_0_1_2 (Host.reduce FloatOps.maximumf w (constant S_ .f32 0xFF800000#32) reducesTo_S16x8x4x2048_S16x8x4_d3 h_S_))))

theorem weights_apply (w : S16x8x4x2048.Idx → Ideal .f32) (b : Fin 16) (h : Fin 8) (g : Fin 4) (p : Fin 2048) :
    weights w (ix4 b h g p) = Ideal.exp (w (ix4 b h g p) - Finset.univ.sup fun x : Fin 2048 => w (ix4 b h g x)) := by
  unfold weights
  pointwise
  rw [bits_bot]
  rfl

/-- The weighted mean of the value rows by the weights over their sum. -/
def mean (e : S16x8x4x2048.Idx → Ideal .f32) (Vp : S8x16x128x16x128.Idx → Ideal .f32) : S16x32x128.Idx → Ideal .f32 :=
  shapeCast _ (Host.dotGeneral (F := Ideal) dot_S16x8x4x2048_S16x8x2048x128_S16x8x4x128_3_2_2_3_01_01 none (Host.divf e (broadcastInDim S16x8x4x2048 ![0, 1, 2, 3] bcast_S16x8x4x1_S16x8x4x2048_0_1_2_3 (broadcastInDim S16x8x4x1 ![0, 1, 2] bcast_S16x8x4_S16x8x4x1_0_1_2 (Host.reduceAdd e (constant S_ .f32 0x00000000#32) reducesTo_S16x8x4x2048_S16x8x4_d3 h_S_)))) (transpose S16x8x2048x128 [1, 0, 2, 3] (shapeCast _ Vp shapeCasts_S8x16x128x16x128_S8x16x2048x128) transposes_S8x16x2048x128_S16x8x2048x128_1_0_2_3)) shapeCasts_S16x8x4x128_S16x32x128

theorem mean_apply (e : S16x8x4x2048.Idx → Ideal .f32) (Vp : S8x16x128x16x128.Idx → Ideal .f32) (b : Fin 16) (h : Fin 8) (g : Fin 4) (d : Fin 128) :
    mean e Vp (ix3 b ⟨h.val * 4 + g.val, by omega⟩ d)
      = ∑ p : Fin 2048, Ideal.div (e (ix4 b h g p)) (∑ x : Fin 2048, e (ix4 b h g x))
          * Vp (ix5 h b ⟨p.val / 16, by omega⟩ ⟨p.val % 16, by omega⟩ d) := by
  unfold mean
  pointwise

/-- The reference's row: from the gathered keys and values given position by position, the weighted mean of the values by the
    exponentials of the masked scores. -/
theorem row (q : S16x1x32x128.Idx → Ideal .f32) (Kp Vp : S8x16x128x16x128.Idx → Ideal .f32) (len : S16.Idx → BitVec 32)
    (hl : ∀ y, (len y).toNat < 2048) (b : Fin 16) (h : Fin 8) (g : Fin 4) (d : Fin 128) (K V : ℕ → Fin 128 → EReal)
    (hK : ∀ (p : Fin 2048) x, Kp (ix5 h b ⟨p.val / 16, by omega⟩ ⟨p.val % 16, by omega⟩ x) = K p.val x)
    (hV : ∀ (p : Fin 2048) x, Vp (ix5 h b ⟨p.val / 16, by omega⟩ ⟨p.val % 16, by omega⟩ x) = V p.val x) :
    mean (weights (scores q Kp len)) Vp (ix3 b ⟨h.val * 4 + g.val, by omega⟩ d)
      = ∑ p : Fin 2048, Ideal.div
          (Ideal.exp (score (fun x => q (ix4 b 0 ⟨h.val * 4 + g.val, by omega⟩ x)) K (len (ix1 b)).toNat p.val
            - Finset.univ.sup fun y : Fin 2048 => score (fun x => q (ix4 b 0 ⟨h.val * 4 + g.val, by omega⟩ x)) K (len (ix1 b)).toNat y.val))
          (∑ z : Fin 2048, Ideal.exp (score (fun x => q (ix4 b 0 ⟨h.val * 4 + g.val, by omega⟩ x)) K (len (ix1 b)).toNat z.val
            - Finset.univ.sup fun y : Fin 2048 => score (fun x => q (ix4 b 0 ⟨h.val * 4 + g.val, by omega⟩ x)) K (len (ix1 b)).toNat y.val))
          * V p.val d := by
  have hs : ∀ p : Fin 2048, scores q Kp len (ix4 b h g p)
      = score (fun x => q (ix4 b 0 ⟨h.val * 4 + g.val, by omega⟩ x)) K (len (ix1 b)).toNat p.val := by
    intro p
    rw [scores_apply q Kp len hl]
    simp only [score, hK]
  rw [mean_apply]
  simp only [weights_apply, hs, hV]

end Cert.RefRow

end

end
-- ==== Proof.TripRow.lean ====
/- One chunk of the kernel's loop read at one row: the running maximum and sums as numbers. -/
module

public import proofs.«01_k».proof.Proof.Main
public import proofs.«01_k».proof.Proof.RefRow

@[expose] public section

noncomputable section

namespace Cert.TripRow

open Cert.KernelIdeal Cert.KernelIdeal.Gen
open Idealize.ShloMosaic Idealize.ShloMosaic.TcCoe

/-- The kernel's mask: the comparison and choice, on numbers. -/
theorem select_slt {α : Type} (k t : ℕ) (hk : k < 4) (ht : t < 512) (l : BitVec 32) (hl : l.toNat < 2048) (x y : α) :
    Scalar.select (IntOp.cmpi .slt (IntOp.addi (Scalar.muli (BitVec.ofNat 32 k) 512#32) (BitVec.ofNat 32 t)) l) x y
      = if k * 512 + t < l.toNat then x else y := by
  have e0 : IntOp.addi (Scalar.muli (BitVec.ofNat 32 k) 512#32) (BitVec.ofNat 32 t) = BitVec.ofNat 32 (k * 512 + t) := by
    show BitVec.ofNat 32 k * 512#32 + BitVec.ofNat 32 t = _
    apply BitVec.eq_of_toNat_eq
    simp [BitVec.toNat_mul, BitVec.toNat_add, BitVec.toNat_ofNat]
  have e : IntOp.cmpi .slt (BitVec.ofNat 32 (k * 512 + t)) l = BitVec.ofBool (decide (k * 512 + t < l.toNat)) := by
    unfold IntOp.cmpi
    simp only [BitVec.slt]
    congr 1
    rw [decide_eq_decide, BitVec.toInt_eq_toNat_of_lt (x := BitVec.ofNat 32 (k * 512 + t)) (by rw [BitVec.toNat_ofNat]; omega),
      BitVec.toInt_eq_toNat_of_lt (by omega), BitVec.toNat_ofNat, Nat.mod_eq_of_lt (by omega)]
    omega
  rw [e0, e]
  by_cases h : k * 512 + t < l.toNat
  · rw [if_pos h, decide_eq_true h]; rfl
  · rw [if_neg h, decide_eq_false h]; rfl

/-- The kernel's mask is minus infinity. -/
theorem mask_bot : (Named.named κ "mask" 0xD01502F9#32 : Ideal .f32) = ⊥ := rfl

section Row
variable (len : BitVec 32) (hl : len.toNat < 2048) (q3 : S1x32x128.Idx → Ideal .f32) (k : ℕ) (hk : k < 4) (kc vc : S1x8x32x16x128.Idx → Ideal .f32)
  (mm ll : S8x4x1.Idx → Ideal .f32) (aa : S8x4x128.Idx → Ideal .f32)
  (h : Fin 8) (g : Fin 4) (d : Fin 128) (q : Fin 128 → EReal) (hq : ∀ x, q3 (ix3 0 ⟨h.val * 4 + g.val, by omega⟩ x) = q x)
  (K V : ℕ → Fin 128 → EReal)
  (hK : ∀ (t : Fin 512) x, kc (ix5 0 h ⟨t.val / 16, by omega⟩ ⟨t.val % 16, by omega⟩ x) = K (k * 512 + t.val) x)
  (hV : ∀ (t : Fin 512) x, vc (ix5 0 h ⟨t.val / 16, by omega⟩ ⟨t.val % 16, by omega⟩ x) = V (k * 512 + t.val) x)

include hl hk hq hK in
/-- A position's masked score. -/
theorem pay5_apply (t : Fin 512) :
    k0_pay5 (F := Ideal) len q3 (BitVec.ofNat 32 k) (k0_pay20 (F := Ideal) kc) (ix3 h g t) = RefRow.score q K len.toNat (k * 512 + t.val) := by
  unfold k0_pay5 k0_pay1 k0_pay20
  pointwise
  rw [select_slt k t.val hk t.isLt len hl, mask_bot]
  unfold RefRow.score
  refine if_congr Iff.rfl (Finset.sum_congr rfl fun x _ => ?_) rfl
  exact congrArg₂ (· * ·) (hq x) (hK t x)

include hl hk hq hK in
theorem pay6_apply :
    k0_pay6 (F := Ideal) len q3 mm (BitVec.ofNat 32 k) (k0_pay20 (F := Ideal) kc) (ix3 h g 0)
      = max (mm (ix3 h g 0)) (Finset.univ.sup fun t : Fin 512 => RefRow.score q K len.toNat (k * 512 + t.val)) := by
  have e := fun t => pay5_apply len hl q3 k hk kc h g q hq K hK t
  revert e
  generalize k0_pay20 (F := Ideal) kc = kc'
  intro e
  unfold k0_pay6
  pointwise
  rw [RefRow.bits_bot]
  simp only [e]
  rfl

theorem pay7_apply (w : BitVec 32) (kc' : S8x512x128.Idx → Ideal .f32) : k0_pay7 (F := Ideal) len q3 mm w kc' (ix3 h g 0)
    = Ideal.exp (mm (ix3 h g 0) - k0_pay6 (F := Ideal) len q3 mm w kc' (ix3 h g 0)) := by
  unfold k0_pay7
  pointwise

theorem pay8_apply (w : BitVec 32) (kc' : S8x512x128.Idx → Ideal .f32) (t : Fin 512) : k0_pay8 (F := Ideal) len q3 mm w kc' (ix3 h g t)
    = Ideal.exp (k0_pay5 (F := Ideal) len q3 w kc' (ix3 h g t) - k0_pay6 (F := Ideal) len q3 mm w kc' (ix3 h g 0)) := by
  unfold k0_pay8
  pointwise

theorem pay9_apply (w : BitVec 32) (kc' : S8x512x128.Idx → Ideal .f32) : k0_pay9 (F := Ideal) len q3 mm ll w kc' (ix3 h g 0)
    = ll (ix3 h g 0) * k0_pay7 (F := Ideal) len q3 mm w kc' (ix3 h g 0) + ∑ x : Fin 512, k0_pay8 (F := Ideal) len q3 mm w kc' (ix3 h g x) := by
  unfold k0_pay9
  pointwise

theorem pay10_apply (w : BitVec 32) (kc' : S8x512x128.Idx → Ideal .f32) : k0_pay10 (F := Ideal) len q3 mm aa w kc' vc (ix3 h g d)
    = aa (ix3 h g d) * k0_pay7 (F := Ideal) len q3 mm w kc' (ix3 h g 0)
      + ∑ x : Fin 512, k0_pay8 (F := Ideal) len q3 mm w kc' (ix3 h g x) * vc (ix5 0 h ⟨x.val / 16, by omega⟩ ⟨x.val % 16, by omega⟩ d) := by
  unfold k0_pay10
  pointwise

/-- What the three carried arrays hold for one row and one lane. -/
def at_ (m : FVec Ideal S8x4x1 .f32 × FVec Ideal S8x4x1 .f32 × FVec Ideal S8x4x128 .f32) : EReal × EReal × EReal :=
  (m.1 (ix3 h g 0), m.2.1 (ix3 h g 0), m.2.2 (ix3 h g d))

include hl hk hq hK hV in
/-- A chunk of the loop is a step of the running values. -/
theorem trip_apply (m : FVec Ideal S8x4x1 .f32 × FVec Ideal S8x4x1 .f32 × FVec Ideal S8x4x128 .f32)
    (hm : at_ h g d m = Online.run (RefRow.score q K len.toNat) (fun p => V p d) k) :
    at_ h g d (Ring.trip q3 len k kc vc m) = Online.run (RefRow.score q K len.toNat) (fun p => V p d) (k + 1) := by
  obtain ⟨mm, ll, aa⟩ := m
  have e5 := fun t => pay5_apply len hl q3 k hk kc h g q hq K hK t
  have e6 := pay6_apply len hl q3 k hk kc mm h g q hq K hK
  have e9 := pay9_apply len q3 mm ll h g (BitVec.ofNat 32 k) (k0_pay20 (F := Ideal) kc)
  have e10 := pay10_apply len q3 k vc mm aa h g d (BitVec.ofNat 32 k) (k0_pay20 (F := Ideal) kc)
  simp only [pay7_apply, pay8_apply, e5, e6, hV] at e9 e10
  have h1 : mm (ix3 h g 0) = (Online.run (RefRow.score q K len.toNat) (fun p => V p d) k).1 := congrArg Prod.fst hm
  have h2 : ll (ix3 h g 0) = (Online.run (RefRow.score q K len.toNat) (fun p => V p d) k).2.1 := congrArg (fun x => x.2.1) hm
  have h3 : aa (ix3 h g d) = (Online.run (RefRow.score q K len.toNat) (fun p => V p d) k).2.2 := congrArg (fun x => x.2.2) hm
  rw [h1] at e6 e9 e10
  rw [h2] at e9
  rw [h3] at e10
  refine Prod.ext ?_ (Prod.ext ?_ ?_)
  · exact e6
  · exact e9
  · exact e10

end Row

theorem start_apply (h : Fin 8) (g : Fin 4) (d : Fin 128) (w v : ℕ → EReal) :
    at_ h g d ((k0_pay2 (F := Ideal), k0_pay3 (F := Ideal), k0_pay4 (F := Ideal))) = Online.run w v 0 := by
  refine Prod.ext ?_ (Prod.ext ?_ ?_)
  · show k0_pay2 (F := Ideal) (ix3 h g 0) = ⊥
    unfold k0_pay2
    pointwise
    exact mask_bot
  · show k0_pay3 (F := Ideal) (ix3 h g 0) = 0
    unfold k0_pay3
    pointwise
  · show k0_pay4 (F := Ideal) (ix3 h g d) = 0
    unfold k0_pay4
    pointwise

theorem pay17_apply (l : S8x4x1.Idx → Ideal .f32) (aa : S8x4x128.Idx → Ideal .f32) (h : Fin 8) (g : Fin 4) (d : Fin 128) :
    k0_pay17 (F := Ideal) l aa (ix3 0 ⟨h.val * 4 + g.val, by omega⟩ d) = Ideal.div (aa (ix3 h g d)) (l (ix3 h g 0)) := by
  unfold k0_pay17
  pointwise

/-- The row a sequence's run of chunks stores, of the keys and values its chunks hold. -/
theorem stored_apply (T : Ring.Tab) (q3 : S1x32x128.Idx → Ideal .f32) (Kn Vn : S8x16x128.Idx → Elt Ideal .f32) (A A' : S8x4096x16x128.Idx → Ideal .f32)
    (b : Fin 16) (st n : ℕ) (hn : n ≤ 4) (hl : (T.len (ix1 b)).toNat < 2048) (h : Fin 8) (g : Fin 4) (d : Fin 128)
    (q : Fin 128 → EReal) (hq : ∀ x, q3 (ix3 0 ⟨h.val * 4 + g.val, by omega⟩ x) = q x) (K V : ℕ → Fin 128 → EReal)
    (hK : ∀ (k : ℕ) (hk : k < 4), k < n → ∀ (t : Fin 512) x, KSide.slotOf (Ring.filled T Kn A b ⟨k, hk⟩ (st + k)) (Ring.sl (st + k))
      (ix5 0 h ⟨t.val / 16, by omega⟩ ⟨t.val % 16, by omega⟩ x) = K (k * 512 + t.val) x)
    (hV : ∀ (k : ℕ) (hk : k < 4), k < n → ∀ (t : Fin 512) x, KSide.slotOf (Ring.filled T Vn A' b ⟨k, hk⟩ (st + k)) (Ring.sl (st + k))
      (ix5 0 h ⟨t.val / 16, by omega⟩ ⟨t.val % 16, by omega⟩ x) = V (k * 512 + t.val) x) :
    Ring.stored T q3 Kn Vn A A' b st n (ix3 0 ⟨h.val * 4 + g.val, by omega⟩ d)
      = Ideal.div (Online.run (RefRow.score q K (T.len (ix1 b)).toNat) (fun p => V p d) n).2.2
          (Online.run (RefRow.score q K (T.len (ix1 b)).toNat) (fun p => V p d) n).2.1 := by
  have key : ∀ k ≤ n, at_ h g d (Ring.carry T q3 Kn Vn A A' b st k) = Online.run (RefRow.score q K (T.len (ix1 b)).toNat) (fun p => V p d) k := by
    intro k
    induction k with
    | zero => exact fun _ => start_apply h g d _ _
    | succ k ih =>
      intro hk
      rw [Ring.carry_succ _ _ _ _ _ _ _ _ _ (by omega)]
      exact trip_apply _ hl q3 k (by omega) _ _ h g d q hq K V (hK k (by omega) (by omega)) (hV k (by omega) (by omega)) _ (ih (by omega))
  have e := key n le_rfl
  show k0_pay17 (F := Ideal) _ _ _ = _
  rw [pay17_apply]
  exact congrArg₂ Ideal.div (congrArg (fun x => x.2.2) e) (congrArg (fun x => x.2.1) e)

end Cert.TripRow

end

end
-- ==== Proof.Join.lean ====
/- The kernel's result and the reference's, entry by entry: both are the weighted mean of the values that the page table names,
   new tokens in place. -/
module

public import proofs.«01_k».proof.Proof.Result
public import proofs.«01_k».proof.Proof.Slots
public import proofs.«01_k».proof.Proof.TripRow

@[expose] public section

noncomputable section

namespace Cert.Join

open Cert.KernelIdeal Cert.KernelIdeal.Gen Cert.KernelIdeal.Ring Cert.KernelIdeal.Run
open Idealize.ShloMosaic Idealize.ShloMosaic.TcCoe
open Idealize.ShloMosaic.LaneScatter (lastHit lastHit_cases)

/-- The words of sixteen tokens as numbers. -/
def nums (w : S16.Idx → BitVec 32) (j : ℕ) : ℕ := if h : j < 16 then (w (ix1 ⟨j, h⟩)).toNat else 0

theorem nums_eq (w : S16.Idx → BitVec 32) (j : Fin 16) : (w (ix1 j)).toNat = nums w j.val := by
  unfold nums
  rw [dif_pos j.isLt]

/-- Lane `x` of the new rows of head `h`, token by token. -/
def fresh (new : S16x1x8x128.Idx → EReal) (h : Fin 8) (x : Fin 128) (j : ℕ) : EReal := if hj : j < 16 then new (ix4 ⟨j, hj⟩ 0 h x) else 0

theorem fresh_eq (new : S16x1x8x128.Idx → EReal) (h : Fin 8) (x : Fin 128) (j : Fin 16) : new (ix4 j 0 h x) = fresh new h x j.val := by
  unfold fresh
  rw [dif_pos j.isLt]

/-- Every entry of the array is a real number. -/
def Reals {ι : Type} (x : ι → EReal) : Prop := ∀ y, ∃ r : ℝ, x y = r

section Entry
variable (A : S8x4096x16x128.Idx → EReal) (pidx off : S16.Idx → BitVec 32) (pm : S16x128.Idx → BitVec 32) (hpm : ∀ y, (pm y).toNat < 4096)
  (new : S16x1x8x128.Idx → EReal) (h : Fin 8) (b : Fin 16)

/-- What position `p` of sequence `b` holds. -/
def entry (p : ℕ) (x : Fin 128) : EReal :=
  if hp : p / 16 < 128 then
    Pages.laid (nums pidx) (nums off) (A (ix4 h ⟨(pm (ix2 b ⟨p / 16, hp⟩)).toNat, hpm _⟩ ⟨p % 16, Nat.mod_lt _ (by decide)⟩ x)) (fresh new h x)
      (pm (ix2 b ⟨p / 16, hp⟩)).toNat (p % 16) 16
  else 0

theorem entry_real (hA : Reals A) (hn : Reals new) (p : ℕ) (x : Fin 128) :
    ∃ r : ℝ, entry A pidx off pm hpm new h b p x = r := by
  unfold entry
  split
  · unfold Pages.laid
    rcases lastHit_cases (fun j => nums pidx j = (pm (ix2 b ⟨p / 16, by assumption⟩)).toNat ∧ nums off j = p % 16) (fresh new h x)
      (A (ix4 h ⟨(pm (ix2 b ⟨p / 16, by assumption⟩)).toNat, hpm _⟩ ⟨p % 16, Nat.mod_lt _ (by decide)⟩ x)) 16 with ⟨k, hk, _, _, e⟩ | ⟨_, e⟩
    · rw [e]
      unfold fresh
      rw [dif_pos hk]
      exact hn _
    · rw [e]; exact hA _
  · exact ⟨0, rfl⟩

theorem pages_entry (hpidx : ∀ y, (pidx y).toNat < 4096) (hoff : ∀ y, (off y).toNat < 16) (p : Fin 2048) (x : Fin 128) :
    Pages.pages A pidx off pm new (ix5 h b ⟨p.val / 16, by omega⟩ ⟨p.val % 16, by omega⟩ x) = entry A pidx off pm hpm new h b p.val x := by
  rw [Pages.pages_apply A pidx off pm new hpidx hoff hpm (nums pidx) (nums off) (nums_eq pidx) (nums_eq off) h b _ _ x (fresh new h x) (fresh_eq new h x)]
  unfold entry
  rw [dif_pos (by omega)]
end Entry

section Kernel
variable (m : (ℓ : Loc nD τ sig) → Buf (Elt Ideal) ℓ) (H : InRange m)

/-- The words of each new token's page and of its row there. -/
def pidxOf : S16.Idx → BitVec 32 := pageOf (arg m 0 main_arg6) (pairOf (Run.slotOf (lastOf (arg m 0 main_arg7))))
def rowOff : S16.Idx → BitVec 32 := offOf (lastOf (arg m 0 main_arg7))

include H in
theorem pidx_lt (y : S16.Idx) : (pidxOf m y).toNat < 4096 := H.page _

include H in
theorem rowOff_lt (y : S16.Idx) : (rowOff m y).toNat < 16 := by
  have := off_lt H y
  rw [tab_off] at this
  exact this

/-- A filled slot of the ring holds the positions of its chunk. -/
theorem slot_entry (b : Fin 16) (k : ℕ) (hk : k < 4) (hkn : k < (planOf m H).n b) (new : S16x1x8x128.Idx → EReal) (A : S8x4096x16x128.Idx → EReal)
    (h : Fin 8) (t : Fin 512) (x : Fin 128) :
    KSide.slotOf (F := Ideal) (filled (tab m) (newOf (F := Ideal) new) A b ⟨k, hk⟩ ((planOf m H).st b.val + k)) (sl ((planOf m H).st b.val + k)) (ix5 0 h ⟨t.val / 16, by omega⟩ ⟨t.val % 16, by omega⟩ x)
      = entry A (pidxOf m) (rowOff m) (arg m 0 main_arg6) H.page new h b (k * 512 + t.val) x := by
  rw [Slots.slot_apply m (planOf m H) b k hk hkn (newOf (F := Ideal) new) A (nums (pidxOf m)) (nums (rowOff m))
    (fun j => (congrArg (fun f => (f (ix1 j)).toNat) (tab_pidx m)).trans (nums_eq (pidxOf m) j))
    (fun j => (congrArg (fun f => (f (ix1 j)).toNat) (tab_off m)).trans (nums_eq (rowOff m) j)) h _ _ x (fresh new h x)
    (fun j => (show newOf (F := Ideal) new (ix3 h j x) = new (ix4 j 0 h x) by unfold newOf; pointwise).trans (fresh_eq new h x j))]
  unfold entry
  rw [dif_pos (by omega)]
  have e1 : (⟨k * 32 + t.val / 16, by omega⟩ : Fin 128) = ⟨(k * 512 + t.val) / 16, by omega⟩ := Fin.ext (by show k * 32 + t.val / 16 = (k * 512 + t.val) / 16; omega)
  have e2 : (⟨t.val % 16, by omega⟩ : Fin 16) = ⟨(k * 512 + t.val) % 16, by omega⟩ := Fin.ext (by show t.val % 16 = (k * 512 + t.val) % 16; omega)
  have e3 : t.val % 16 = (k * 512 + t.val) % 16 := by omega
  have e4 : (tab m).pm = arg m 0 main_arg6 := tab_pm m
  simp only [e1, e2, e3, e4]

/-- The kernel's result at one entry. -/
theorem kernel_entry (hlen : ∀ b : Fin 16, 1 ≤ lenOf m b)
    (hq : Reals (arg m 0 main_arg0 : S16x1x32x128.Idx → EReal)) (hk : Reals (arg m 0 main_arg1 : S16x1x8x128.Idx → EReal))
    (hA : Reals (arg m 0 main_arg4 : S8x4096x16x128.Idx → EReal)) (b : Fin 16) (h : Fin 8) (g : Fin 4) (d : Fin 128) :
    rows m (planOf m H) 0 (ix3 b ⟨h.val * 4 + g.val, by omega⟩ d)
      = RefRow.mean (RefRow.weights (RefRow.scores (arg m 0 main_arg0) (Pages.pages (arg m 0 main_arg4) (pidxOf m) (rowOff m) (arg m 0 main_arg6) (arg m 0 main_arg1)) (arg m 0 main_arg7)))
          (Pages.pages (arg m 0 main_arg5) (pidxOf m) (rowOff m) (arg m 0 main_arg6) (arg m 0 main_arg2)) (ix3 b ⟨h.val * 4 + g.val, by omega⟩ d) := by
  have hl2 : ∀ y, ((arg m 0 main_arg7 : S16.Idx → BitVec 32) y).toNat < 2048 := fun y => by
    obtain ⟨i, rfl⟩ : ∃ i : Fin 16, y = ix1 i := ⟨y 0, by funext a; fin_cases a; rfl⟩
    exact H.len i
  rw [RefRow.row (arg m 0 main_arg0) _ _ (arg m 0 main_arg7) hl2 b h g d
    (entry (arg m 0 main_arg4) (pidxOf m) (rowOff m) (arg m 0 main_arg6) H.page (arg m 0 main_arg1) h b)
    (entry (arg m 0 main_arg5) (pidxOf m) (rowOff m) (arg m 0 main_arg6) H.page (arg m 0 main_arg2) h b)
    (pages_entry _ _ _ _ H.page _ h b (pidx_lt m H) (rowOff_lt m H)) (pages_entry _ _ _ _ H.page _ h b (pidx_lt m H) (rowOff_lt m H))]
  have eT : ((tab m).len (ix1 b)) = (arg m 0 main_arg7 : S16.Idx → BitVec 32) (ix1 b) := congrFun (tab_len m) (ix1 b)
  have st := TripRow.stored_apply (tab m) (held m 0 0 b) (newOf (F := Ideal) (arg m 0 main_arg1)) (newOf (F := Ideal) (arg m 0 main_arg2)) (arg m 0 main_arg4) (arg m 0 main_arg5)
    b ((planOf m H).st b.val) ((planOf m H).n b) ((planOf m H).le4 b) (by rw [eT]; exact H.len b) h g d
    (fun x => (arg m 0 main_arg0 : S16x1x32x128.Idx → EReal) (ix4 b 0 ⟨h.val * 4 + g.val, by omega⟩ x))
    (fun x => (held_0 m 0 b _ x).trans ((congrFun (V_v62 m 0) _).trans (by unfold queryOf; pointwise)))
    (entry (arg m 0 main_arg4) (pidxOf m) (rowOff m) (arg m 0 main_arg6) H.page (arg m 0 main_arg1) h b)
    (entry (arg m 0 main_arg5) (pidxOf m) (rowOff m) (arg m 0 main_arg6) H.page (arg m 0 main_arg2) h b)
    (fun k hk hkn t x => slot_entry m H b k hk hkn _ _ h t x) (fun k hk hkn t x => slot_entry m H b k hk hkn _ _ h t x)
  rw [eT] at st
  have er : rows m (planOf m H) 0 (ix3 b ⟨h.val * 4 + g.val, by omega⟩ d)
      = stored (tab m) (held m 0 0 b) (newOf (F := Ideal) (arg m 0 main_arg1)) (newOf (F := Ideal) (arg m 0 main_arg2)) (arg m 0 main_arg4) (arg m 0 main_arg5)
        b ((planOf m H).st b.val) ((planOf m H).n b) (ix3 0 ⟨h.val * 4 + g.val, by omega⟩ d) := by
    show stored (tab m) (held m 0 0 b) (held m 0 1 b) (held m 0 2 b) (V m 0 main_arg4) (V m 0 main_arg5) b ((planOf m H).st b.val) ((planOf m H).n b) _ = _
    rw [held_1, held_2, V_v22, V_v24, V_arg4, V_arg5]
    rfl
  refine er.trans (st.trans (Online.quotient _ _ (lenOf m b) (numOf m b) (hlen b) ?_ (num_le H b) ?_ ?_))
  · have := hlen b
    unfold numOf chunks
    rw [if_pos (by omega)]
    omega
  · intro p hp
    unfold RefRow.score
    rw [if_pos (show p < ((arg m 0 main_arg7 : S16.Idx → BitVec 32) (ix1 b)).toNat from hp)]
    exact Online.real_sum _ _ _ (fun x => hq _) (fun x => entry_real _ _ _ _ _ _ _ _ hA hk p x)
  · intro p hp
    unfold RefRow.score
    rw [if_neg (show ¬ p < ((arg m 0 main_arg7 : S16.Idx → BitVec 32) (ix1 b)).toNat from not_lt.2 hp)]

/-- The kernel's result is the reference's term of the same arguments. -/
theorem kernel_eq (hlen : ∀ b : Fin 16, 1 ≤ lenOf m b)
    (hq : Reals (arg m 0 main_arg0 : S16x1x32x128.Idx → EReal)) (hk : Reals (arg m 0 main_arg1 : S16x1x8x128.Idx → EReal))
    (hA : Reals (arg m 0 main_arg4 : S8x4096x16x128.Idx → EReal)) :
    (result m (planOf m H) 0 : S16x32x128.Idx → EReal)
      = RefRow.mean (RefRow.weights (RefRow.scores (arg m 0 main_arg0) (Pages.pages (arg m 0 main_arg4) (pidxOf m) (rowOff m) (arg m 0 main_arg6) (arg m 0 main_arg1)) (arg m 0 main_arg7)))
          (Pages.pages (arg m 0 main_arg5) (pidxOf m) (rowOff m) (arg m 0 main_arg6) (arg m 0 main_arg2)) := by
  refine (result_eq m (planOf m H) 0).trans (funext fun i => ?_)
  obtain ⟨b, h, g, d, rfl⟩ : ∃ (b : Fin 16) (h : Fin 8) (g : Fin 4) (d : Fin 128), i = ix3 b ⟨h.val * 4 + g.val, by omega⟩ d := by
    have hi : (i 1).val < 32 := (i 1).isLt
    refine ⟨i 0, ⟨(i 1).val / 4, by omega⟩, ⟨(i 1).val % 4, by omega⟩, i 2, ?_⟩
    funext a
    apply Fin.ext
    fin_cases a
    · rfl
    · show (i 1).val = (i 1).val / 4 * 4 + (i 1).val % 4
      omega
    · rfl
  exact kernel_entry m H hlen hq hk hA b h g d
end Kernel

end Cert.Join

end

end
-- ==== Proof.RefEnd.lean ====
/-
  What the reference leaves, in the words of its rows: the weighted mean of the values of the pages, new tokens in place, at the words of
  page and offset that the kernel's host part also computes; and what a finite number is.
-/
module

public import proofs.«01_k».proof.Proof.Gen.ReferenceIdeal.Run
public import proofs.«01_k».proof.Proof.Join

@[expose] public section

noncomputable section

namespace Cert.RefEnd

open Cert.ReferenceIdeal Cert.ReferenceIdeal.Gen Cert.ReferenceIdeal.Value
open Idealize.ShloMosaic Idealize.ShloMosaic.TcCoe

/-- The reference's result from its arguments. -/
def whole (q : S16x1x32x128.Idx → Ideal .f32) (key value : S16x1x8x128.Idx → Ideal .f32) (kp vp : S8x4096x16x128.Idx → Ideal .f32)
    (pm : S16x128.Idx → BitVec 32) (len : S16.Idx → BitVec 32) : S16x32x128.Idx → Ideal .f32 :=
  let pidx := KernelIdeal.Run.pageOf pm (KernelIdeal.Run.pairOf (KernelIdeal.Run.slotOf (KernelIdeal.Run.lastOf len)))
  let off := KernelIdeal.Run.offOf (KernelIdeal.Run.lastOf len)
  RefRow.mean (RefRow.weights (RefRow.scores q (Pages.pages kp pidx off pm key) len)) (Pages.pages vp pidx off pm value)

variable (V0 : Valuation τ sig (Elt Ideal))

theorem last_eq : res_main_v3 V0 = KernelIdeal.Run.lastOf (V0 (Proc.devRef .tc main_arg7)) := rfl

theorem off_eq : res_main_v20 V0 = KernelIdeal.Run.offOf (KernelIdeal.Run.lastOf (V0 (Proc.devRef .tc main_arg7))) := by
  unfold res_main_v20 res_main_call1_v4 res_main_call1_v2 res_main_call1_v0
  rw [last_eq]
  generalize KernelIdeal.Run.lastOf (V0 (Proc.devRef .tc main_arg7)) = v
  rfl

theorem slot_eq : res_main_v5 V0 = KernelIdeal.Run.slotOf (KernelIdeal.Run.lastOf (V0 (Proc.devRef .tc main_arg7))) := by
  unfold res_main_v5 res_main_call0_v2 res_main_call0_v0
  rw [last_eq]
  generalize KernelIdeal.Run.lastOf (V0 (Proc.devRef .tc main_arg7)) = v
  rfl

theorem pidx_eq : res_main_v19 V0 = KernelIdeal.Run.pageOf (V0 (Proc.devRef .tc main_arg6))
    (KernelIdeal.Run.pairOf (KernelIdeal.Run.slotOf (KernelIdeal.Run.lastOf (V0 (Proc.devRef .tc main_arg7))))) := by
  unfold res_main_v19 res_main_v4
  rw [slot_eq]
  generalize KernelIdeal.Run.slotOf (KernelIdeal.Run.lastOf (V0 (Proc.devRef .tc main_arg7))) = v
  rfl

theorem scores_eq : res_main_v82 V0 = RefRow.scores (V0 (Proc.devRef .tc main_arg0))
    (Pages.pages (V0 (Proc.devRef .tc main_arg4)) (res_main_v19 V0) (res_main_v20 V0) (V0 (Proc.devRef .tc main_arg6)) (V0 (Proc.devRef .tc main_arg1)))
    (V0 (Proc.devRef .tc main_arg7)) := rfl

theorem weights_eq : res_main_v87 V0 = RefRow.weights (res_main_v82 V0) := rfl

theorem val_eq : val2 V0 (Proc.devRef .tc main_v93) = RefRow.mean (res_main_v87 V0)
    (Pages.pages (V0 (Proc.devRef .tc main_arg5)) (res_main_v19 V0) (res_main_v20 V0) (V0 (Proc.devRef .tc main_arg6)) (V0 (Proc.devRef .tc main_arg2))) :=
  (val2_main_v93 V0).trans rfl

theorem val_whole : val2 V0 (Proc.devRef .tc main_v93) = whole (V0 (Proc.devRef .tc main_arg0)) (V0 (Proc.devRef .tc main_arg1)) (V0 (Proc.devRef .tc main_arg2))
    (V0 (Proc.devRef .tc main_arg4)) (V0 (Proc.devRef .tc main_arg5)) (V0 (Proc.devRef .tc main_arg6)) (V0 (Proc.devRef .tc main_arg7)) := by
  rw [val_eq, weights_eq, scores_eq, pidx_eq, off_eq]
  rfl

/-- The reference's run, its result in those words. -/
theorem run_whole (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93) = whole (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1.trans (val2_main_v93 _).symm).trans (val_whole _), (h c).2⟩) (run (F := Ideal) m ρ)

/-- The kernel's result is that same array of its own arguments. -/
theorem kernel_whole (m : (ℓ : Loc KernelIdeal.nD KernelIdeal.τ KernelIdeal.sig) → Buf (Elt Ideal) ℓ) (H : KernelIdeal.Run.InRange m)
    (hlen : ∀ b, 1 ≤ KernelIdeal.Run.lenOf m b) (hq : Join.Reals (KernelIdeal.Run.arg m 0 KernelIdeal.main_arg0))
    (hk : Join.Reals (KernelIdeal.Run.arg m 0 KernelIdeal.main_arg1)) (hA : Join.Reals (KernelIdeal.Run.arg m 0 KernelIdeal.main_arg4)) :
    KernelIdeal.Run.result m (KernelIdeal.Run.planOf m H) 0
      = whole (KernelIdeal.Run.arg m 0 KernelIdeal.main_arg0) (KernelIdeal.Run.arg m 0 KernelIdeal.main_arg1) (KernelIdeal.Run.arg m 0 KernelIdeal.main_arg2)
          (KernelIdeal.Run.arg m 0 KernelIdeal.main_arg4) (KernelIdeal.Run.arg m 0 KernelIdeal.main_arg5) (KernelIdeal.Run.arg m 0 KernelIdeal.main_arg6)
          (KernelIdeal.Run.arg m 0 KernelIdeal.main_arg7) :=
  Join.kernel_eq m H hlen hq hk hA

theorem whole_congr {q q' : S16x1x32x128.Idx → Ideal .f32} {key key' value value' : S16x1x8x128.Idx → Ideal .f32} {kp kp' vp vp' : S8x4096x16x128.Idx → Ideal .f32}
    {pm pm' : S16x128.Idx → BitVec 32} {len len' : S16.Idx → BitVec 32} (h0 : q = q') (h1 : key = key') (h2 : value = value') (h4 : kp = kp') (h5 : vp = vp')
    (h6 : pm = pm') (h7 : len = len') : whole q key value kp vp pm len = whole q' key' value' kp' vp' pm' len' := by
  subst h0 h1 h2 h4 h5 h6 h7; rfl

/-- A number whose magnitude is below the positive infinity is a real number. -/
theorem real_of_finite {x : Ideal .f32} (h : FloatOps.cmpf (F := Ideal) .olt (FloatOps.hostAbsf x) (FloatOps.ofBits .f32 0x7F800000#32) = 1#1) : ∃ r : ℝ, (show EReal from x) = r := by
  have e : Ideal.ofBits FTy.f32 0x7F800000#32 = ⊤ := by simp [Ideal.ofBits, Ideal.ieee]
  refine Online.real_of_abs ?_
  change BitVec.ofBool (decide (max (show EReal from x) (-x) < Ideal.ofBits FTy.f32 0x7F800000#32)) = 1#1 at h
  rw [e] at h
  by_contra n
  rw [decide_eq_false n] at h
  exact absurd h (by decide)

end Cert.RefEnd
end
-- ==== Proof.lean ====
/-
  The proof of `Cert.Claim`: the kernel runs from arguments in range, as printed and with its mask named, and leaves its arguments and
  its semaphores as they were; the reference runs from any arguments; naming the mask is what it is said to be; and the two results
  are equal.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_finite_in_range
public import proofs.«01_k».proof.Proof.Frame
public import proofs.«01_k».proof.Proof.RawFrame
public import proofs.«01_k».proof.Proof.Ranges
public import proofs.«01_k».proof.Proof.RefEnd

@[expose] public section

noncomputable section

namespace Cert.Proof

open Idealize.ShloMosaic Idealize.ShloMosaic.TcCoe

theorem kernel_in_range (m : (ℓ : Loc Cert.Kernel.nD Cert.Kernel.τ Cert.Kernel.sig) → Buf (Elt Bits) ℓ) (h : Pre_Kernel m) : Cert.Kernel.Run.InRange m :=
  have e := Cert.Ranges.of_in_range _ _ _ _ _ _ _ _ (h 0)
  ⟨e.1, fun i => e.2 _⟩

theorem ideal_in_range (m : (ℓ : Loc Cert.KernelIdeal.nD Cert.KernelIdeal.τ Cert.KernelIdeal.sig) → Buf (Elt Ideal) ℓ) (h : Pre_KernelIdeal m) : Cert.KernelIdeal.Run.InRange m :=
  have e := Cert.Ranges.of_in_range _ _ _ _ _ _ _ _ (h 0)
  ⟨e.1, fun i => e.2 _⟩

theorem frame_kernel : quiescent_Kernel := fun m g h => Cert.Kernel.Run.run_frame m g (Cert.Kernel.Run.planOf m (kernel_in_range m h))

theorem frame_ideal : quiescent_KernelIdeal := fun m g h => Cert.KernelIdeal.Run.run_frame m g (Cert.KernelIdeal.Run.planOf m (ideal_in_range m h))

theorem frame_reference : quiescent_ReferenceIdeal := fun m g _ =>
  (θ_run (Cert.ReferenceIdeal.defs (F := Ideal)) _ _).mono (fun r h => ⟨fun c => (h c).2, funext fun s => by rcases s with ⟨t, s | s⟩ <;> exact isEmptyElim (show Fin 0 from s)⟩)
    (Cert.ReferenceIdeal.Value.run (F := Ideal) m g)

theorem preserves : preserves_Kernel_KernelIdeal := IdealRules.named_const.statement _ _ _ _ _ rfl

theorem ideal_finite_in_range (m : (ℓ : Loc Cert.KernelIdeal.nD Cert.KernelIdeal.τ Cert.KernelIdeal.sig) → Buf (Elt Ideal) ℓ) (h : Pre_KernelIdeal_finite_in_range m) :
    Cert.KernelIdeal.Run.InRange m :=
  have e := Cert.Ranges.of_finite_in_range _ _ _ _ _ _ _ _ (h 0)
  ⟨e.1.1, fun i => (e.1.2 _).2⟩

theorem frame_ideal_finite : quiescent_KernelIdeal_pre_finite_in_range := fun m g h =>
  Cert.KernelIdeal.Run.run_frame m g (Cert.KernelIdeal.Run.planOf m (ideal_finite_in_range m h))

theorem frame_reference_finite : quiescent_ReferenceIdeal_pre_finite_in_range := fun m g _ =>
  (θ_run (Cert.ReferenceIdeal.defs (F := Ideal)) _ _).mono (fun r h => ⟨fun c => (h c).2, funext fun s => by rcases s with ⟨t, s | s⟩ <;> exact isEmptyElim (show Fin 0 from s)⟩)
    (Cert.ReferenceIdeal.Value.run (F := Ideal) m g)

theorem algebraic : algebraic_KernelIdeal_ReferenceIdeal_pre_finite_in_range := fun m g m' g' h hm => by
  have H := ideal_finite_in_range m h
  have e := Cert.Ranges.of_finite_in_range _ _ _ _ _ _ _ _ (h 0)
  have k := Cert.RefEnd.kernel_whole m H (fun b => (e.1.2 _).1) (fun y => Cert.RefEnd.real_of_finite (e.2.1 y)) (fun y => Cert.RefEnd.real_of_finite (e.2.2.1 y))
    (fun y => Cert.RefEnd.real_of_finite (e.2.2.2 y))
  refine ⟨fun c => Cert.KernelIdeal.Run.result m (Cert.KernelIdeal.Run.planOf m H) c, Cert.KernelIdeal.Run.run_value m g (Cert.KernelIdeal.Run.planOf m H),
    (θ_run (Cert.ReferenceIdeal.defs (F := Ideal)) _ _).mono (fun r q c => ⟨(q c).1.trans ?_, (q c).2⟩) (Cert.RefEnd.run_whole m' g')⟩
  obtain rfl : c = 0 := Subsingleton.elim _ _
  obtain ⟨a0, a1, a2, _, a4, a5, a6, a7⟩ := hm 0
  exact (Cert.RefEnd.whole_congr a0 a1 a2 a4 a5 a6 a7).trans k.symm

theorem claim : Cert.Claim :=
  ⟨Cert.Kernel.Gen.facts, Cert.KernelIdeal.Gen.facts, Cert.ReferenceIdeal.Gen.facts, Cert.Pre_in_range.Gen.facts, Cert.Pre_finite_in_range.Gen.facts,
    frame_kernel, frame_ideal, frame_ideal_finite, frame_reference, frame_reference_finite, preserves, algebraic⟩

end Cert.Proof
end
